-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x128 : Shape := ⟨2, ![100000, 128]⟩
abbrev S1x2x3 : Shape := ⟨3, ![1, 2, 3]⟩
abbrev S1 : Shape := ⟨1, ![1]⟩
abbrev S1x128 : Shape := ⟨2, ![1, 128]⟩
abbrev S200x16 : Shape := ⟨2, ![200, 16]⟩
abbrev S200x64 : Shape := ⟨2, ![200, 64]⟩
abbrev S_ : Shape := ⟨0, ![]⟩

class Facts : Prop where
  bcast_S_S200x16 : S_.BroadcastsInDim S200x16 (![] : Fin 0 → Fin S200x16.rank)
  reducesTo_S200x16_S_d0_1 : S200x16.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_
  bcast_S_S100000x128 : S_.BroadcastsInDim S100000x128 (![] : Fin 0 → Fin S100000x128.rank)
  reducesTo_S100000x128_S_d0_1 : S100000x128.ReducesTo [0, 1] S_
  bcast_S_S1x2x3 : S_.BroadcastsInDim S1x2x3 (![] : Fin 0 → Fin S1x2x3.rank)
  reducesTo_S1x2x3_S_d0_1_2 : S1x2x3.ReducesTo [0, 1, 2] S_
  bcast_S_S1 : S_.BroadcastsInDim S1 (![] : Fin 0 → Fin S1.rank)
  reducesTo_S1_S_d0 : S1.ReducesTo [0] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_arg7 : FVec F S1x128 .f32) (main_arg8 : FVec F S1 .f32) (main_v49 : IVec S_ 1) (main_v50 : FVec F S1 .f32) : IVec S_ 1 :=
  let main_cst_19 : FVec F S_ .f32 := constant S_ .f32 0x7F800000#32
  let main_v51 : FVec F S1 .f32 := broadcastInDim S1 ![] bcast_S_S1 main_cst_19
  let main_v52 : IVec S1 1 := cmpf .olt main_v50 main_v51
  let main_c_20 : IVec S_ 1 := constantI S_ 1 1#1
  let main_v53 : IVec S_ 1 := (fun x v => Host.reduce IntOp.andi x v reducesTo_S1_S_d0 h_S_) main_v52 main_c_20
  let main_v54 : IVec S_ 1 := andi main_v49 main_v53
  let main_v55 : FVec F S1x128 .f32 := Host.absf main_arg7
  let main_cst_21 : FVec F S_ .f32 := constant S_ .f32 0x7F800000#32
  let main_v56 : FVec F S1x128 .f32 := broadcastInDim S1x128 ![] bcast_S_S1x128 main_cst_21
  let main_v57 : IVec S1x128 1 := cmpf .olt main_v55 main_v56
  let main_c_22 : IVec S_ 1 := constantI S_ 1 1#1
  let main_v58 : IVec S_ 1 := (fun x v => Host.reduce IntOp.andi x v reducesTo_S1x128_S_d0_1 h_S_) main_v57 main_c_22
  let main_v59 : IVec S_ 1 := andi main_v54 main_v58
  let main_v60 : FVec F S1 .f32 := Host.absf main_arg8
  let main_cst_23 : FVec F S_ .f32 := constant S_ .f32 0x7F800000#32
  let main_v61 : FVec F S1 .f32 := broadcastInDim S1 ![] bcast_S_S1 main_cst_23
  let main_v62 : IVec S1 1 := cmpf .olt main_v60 main_v61
  let main_c_24 : IVec S_ 1 := constantI S_ 1 1#1
  let main_v63 : IVec S_ 1 := (fun x v => Host.reduce IntOp.andi x v reducesTo_S1_S_d0 h_S_) main_v62 main_c_24
  let main_v64 : IVec S_ 1 := andi main_v59 main_v63
  main_v64

def fn_part2 {F : FTy → Type} [FloatOps F] (main_arg3 : FVec F S1x128 .f32) (main_arg4 : FVec F S1 .f32) (main_arg5 : FVec F S1x2x3 .f32) (main_arg6 : FVec F S1 .f32) (main_arg7 : FVec F S1x128 .f32) (main_arg8 : FVec F S1 .f32) (main_v29 : IVec S_ 1) (main_v32 : IVec S1 1) (main_c_12 : IVec S_ 1) : IVec S_ 1 :=
  let main_v33 : IVec S_ 1 := (fun x v => Host.reduce IntOp.andi x v reducesTo_S1_S_d0 h_S_) main_v32 main_c_12
  let main_v34 : IVec S_ 1 := andi main_v29 main_v33
  let main_v35 : FVec F S1x128 .f32 := Host.absf main_arg3
  let main_cst_13 : FVec F S_ .f32 := constant S_ .f32 0x7F800000#32
  let main_v36 : FVec F S1x128 .f32 := broadcastInDim S1x128 ![] bcast_S_S1x128 main_cst_13
  let main_v37 : IVec S1x128 1 := cmpf .olt main_v35 main_v36
  let main_c_14 : IVec S_ 1 := constantI S_ 1 1#1
  let main_v38 : IVec S_ 1 := (fun x v => Host.reduce IntOp.andi x v reducesTo_S1x128_S_d0_1 h_S_) main_v37 main_c_14
  let main_v39 : IVec S_ 1 := andi main_v34 main_v38
  let main_v40 : FVec F S1 .f32 := Host.absf main_arg4
  let main_cst_15 : FVec F S_ .f32 := constant S_ .f32 0x7F800000#32
  let main_v41 : FVec F S1 .f32 := broadcastInDim S1 ![] bcast_S_S1 main_cst_15
  let main_v42 : IVec S1 1 := cmpf .olt main_v40 main_v41
  let main_c_16 : IVec S_ 1 := constantI S_ 1 1#1
  let main_v43 : IVec S_ 1 := (fun x v => Host.reduce IntOp.andi x v reducesTo_S1_S_d0 h_S_) main_v42 main_c_16
  let main_v44 : IVec S_ 1 := andi main_v39 main_v43
  let main_v45 : FVec F S1x2x3 .f32 := Host.absf main_arg5
  let main_cst_17 : FVec F S_ .f32 := constant S_ .f32 0x7F800000#32
  let main_v46 : FVec F S1x2x3 .f32 := broadcastInDim S1x2x3 ![] bcast_S_S1x2x3 main_cst_17
  let main_v47 : IVec S1x2x3 1 := cmpf .olt main_v45 main_v46
  let main_c_18 : IVec S_ 1 := constantI S_ 1 1#1
  let main_v48 : IVec S_ 1 := (fun x v => Host.reduce IntOp.andi x v reducesTo_S1x2x3_S_d0_1_2 h_S_) main_v47 main_c_18
  let main_v49 : IVec S_ 1 := andi main_v44 main_v48
  let main_v50 : FVec F S1 .f32 := Host.absf main_arg6
  fn_part3 (F := F) main_arg7 main_arg8 main_v49 main_v50

def fn_part1 {F : FTy → Type} [FloatOps F] (main_arg0 : FVec F S100000x128 .f32) (main_arg1 : FVec F S1x2x3 .f32) (main_arg2 : FVec F S1 .f32) (main_arg3 : FVec F S1x128 .f32) (main_arg4 : FVec F S1 .f32) (main_arg5 : FVec F S1x2x3 .f32) (main_arg6 : FVec F S1 .f32) (main_arg7 : FVec F S1x128 .f32) (main_arg8 : FVec F S1 .f32) (main_arg11 : IVec S200x16 32) (main_v12 : IVec S_ 1) (main_v14 : IVec S200x16 1) (main_v15 : IVec S200x16 32) : IVec S_ 1 :=
  let main_v16 : IVec S200x16 1 := cmpi .slt main_arg11 main_v15
  let main_v17 : IVec S200x16 1 := andi main_v14 main_v16
  let main_c_7 : IVec S_ 1 := constantI S_ 1 1#1
  let main_v18 : IVec S_ 1 := (fun x v => Host.reduce IntOp.andi x v reducesTo_S200x16_S_d0_1 h_S_) main_v17 main_c_7
  let main_v19 : IVec S_ 1 := andi main_v12 main_v18
  let main_v20 : FVec F S100000x128 .f32 := Host.absf main_arg0
  let main_cst : FVec F S_ .f32 := constant S_ .f32 0x7F800000#32
  let main_v21 : FVec F S100000x128 .f32 := broadcastInDim S100000x128 ![] bcast_S_S100000x128 main_cst
  let main_v22 : IVec S100000x128 1 := cmpf .olt main_v20 main_v21
  let main_c_8 : IVec S_ 1 := constantI S_ 1 1#1
  let main_v23 : IVec S_ 1 := (fun x v => Host.reduce IntOp.andi x v reducesTo_S100000x128_S_d0_1 h_S_) main_v22 main_c_8
  let main_v24 : IVec S_ 1 := andi main_v19 main_v23
  let main_v25 : FVec F S1x2x3 .f32 := Host.absf main_arg1
  let main_cst_9 : FVec F S_ .f32 := constant S_ .f32 0x7F800000#32
  let main_v26 : FVec F S1x2x3 .f32 := broadcastInDim S1x2x3 ![] bcast_S_S1x2x3 main_cst_9
  let main_v27 : IVec S1x2x3 1 := cmpf .olt main_v25 main_v26
  let main_c_10 : IVec S_ 1 := constantI S_ 1 1#1
  let main_v28 : IVec S_ 1 := (fun x v => Host.reduce IntOp.andi x v reducesTo_S1x2x3_S_d0_1_2 h_S_) main_v27 main_c_10
  let main_v29 : IVec S_ 1 := andi main_v24 main_v28
  let main_v30 : FVec F S1 .f32 := Host.absf main_arg2
  let main_cst_11 : FVec F S_ .f32 := constant S_ .f32 0x7F800000#32
  let main_v31 : FVec F S1 .f32 := broadcastInDim S1 ![] bcast_S_S1 main_cst_11
  let main_v32 : IVec S1 1 := cmpf .olt main_v30 main_v31
  let main_c_12 : IVec S_ 1 := constantI S_ 1 1#1
  fn_part2 (F := F) main_arg3 main_arg4 main_arg5 main_arg6 main_arg7 main_arg8 main_v29 main_v32 main_c_12

def fn {F : FTy → Type} [FloatOps F] (main_arg0 : FVec F S100000x128 .f32) (main_arg1 : FVec F S1x2x3 .f32) (main_arg2 : FVec F S1 .f32) (main_arg3 : FVec F S1x128 .f32) (main_arg4 : FVec F S1 .f32) (main_arg5 : FVec F S1x2x3 .f32) (main_arg6 : FVec F S1 .f32) (main_arg7 : FVec F S1x128 .f32) (main_arg8 : FVec F S1 .f32) (main_arg9 : IVec S200x16 32) (main_arg10 : IVec S200x64 32) (main_arg11 : IVec S200x16 32) : IVec S_ 1 :=
  let main_c : IVec S_ 32 := constantI S_ 32 0#32
  let main_v0 : IVec S200x16 32 := broadcastInDim S200x16 ![] bcast_S_S200x16 main_c
  let main_v1 : IVec S200x16 1 := cmpi .sge main_arg9 main_v0
  let main_c_0 : IVec S_ 32 := constantI S_ 32 100000#32
  let main_v2 : IVec S200x16 32 := broadcastInDim S200x16 ![] bcast_S_S200x16 main_c_0
  let main_v3 : IVec S200x16 1 := cmpi .slt main_arg9 main_v2
  let main_v4 : IVec S200x16 1 := andi main_v1 main_v3
  let main_c_1 : IVec S_ 1 := constantI S_ 1 1#1
  let main_v5 : IVec S_ 1 := (fun x v => Host.reduce IntOp.andi x v reducesTo_S200x16_S_d0_1 h_S_) main_v4 main_c_1
  let main_c_2 : IVec S_ 32 := constantI S_ 32 0#32
  let main_v6 : IVec S200x64 32 := broadcastInDim S200x64 ![] bcast_S_S200x64 main_c_2
  let main_v7 : IVec S200x64 1 := cmpi .sge main_arg10 main_v6
  let main_c_3 : IVec S_ 32 := constantI S_ 32 100000#32
  let main_v8 : IVec S200x64 32 := broadcastInDim S200x64 ![] bcast_S_S200x64 main_c_3
  let main_v9 : IVec S200x64 1 := cmpi .slt main_arg10 main_v8
  let main_v10 : IVec S200x64 1 := andi main_v7 main_v9
  let main_c_4 : IVec S_ 1 := constantI S_ 1 1#1
  let main_v11 : IVec S_ 1 := (fun x v => Host.reduce IntOp.andi x v reducesTo_S200x64_S_d0_1 h_S_) main_v10 main_c_4
  let main_v12 : IVec S_ 1 := andi main_v5 main_v11
  let main_c_5 : IVec S_ 32 := constantI S_ 32 0#32
  let main_v13 : IVec S200x16 32 := broadcastInDim S200x16 ![] bcast_S_S200x16 main_c_5
  let main_v14 : IVec S200x16 1 := cmpi .sge main_arg11 main_v13
  let main_c_6 : IVec S_ 32 := constantI S_ 32 100000#32
  let main_v15 : IVec S200x16 32 := broadcastInDim S200x16 ![] bcast_S_S200x16 main_c_6
  fn_part1 (F := F) main_arg0 main_arg1 main_arg2 main_arg3 main_arg4 main_arg5 main_arg6 main_arg7 main_arg8 main_arg11 main_v12 main_v14 main_v15
-- ==== Kernel.lean ====
abbrev S100000x128 : Shape := ⟨2, ![100000, 128]⟩
abbrev S1x2x3 : Shape := ⟨3, ![1, 2, 3]⟩
abbrev S1 : Shape := ⟨1, ![1]⟩
abbrev S1x128 : Shape := ⟨2, ![1, 128]⟩
abbrev S200x16 : Shape := ⟨2, ![200, 16]⟩
abbrev S200x64 : Shape := ⟨2, ![200, 64]⟩
abbrev S3200 : Shape := ⟨1, ![3200]⟩
abbrev S12800 : Shape := ⟨1, ![12800]⟩
abbrev S19200 : Shape := ⟨1, ![19200]⟩
abbrev S19200x128 : Shape := ⟨2, ![19200, 128]⟩
abbrev S600 : Shape := ⟨1, ![600]⟩
abbrev S600x128 : Shape := ⟨2, ![600, 128]⟩
abbrev S_ : Shape := ⟨0, ![]⟩
abbrev S120x128 : Shape := ⟨2, ![120, 128]⟩
abbrev S120 : Shape := ⟨1, ![120]⟩
abbrev S1x1 : Shape := ⟨2, ![1, 1]⟩
abbrev S199x64x64 : Shape := ⟨3, ![199, 64, 64]⟩
abbrev S1x127 : Shape := ⟨2, ![1, 127]⟩
abbrev S1x1x1 : Shape := ⟨3, ![1, 1, 1]⟩
abbrev S1x1x128 : Shape := ⟨3, ![1, 1, 128]⟩
abbrev S3200x128 : Shape := ⟨2, ![3200, 128]⟩
abbrev S200x16x128 : Shape := ⟨3, ![200, 16, 128]⟩
abbrev S200x128 : Shape := ⟨2, ![200, 128]⟩
abbrev S200 : Shape := ⟨1, ![200]⟩
abbrev S200x1 : Shape := ⟨2, ![200, 1]⟩
abbrev S12800x128 : Shape := ⟨2, ![12800, 128]⟩
abbrev S200x64x128 : Shape := ⟨3, ![200, 64, 128]⟩
abbrev S199x64 : Shape := ⟨2, ![199, 64]⟩
abbrev S199x64x1 : Shape := ⟨3, ![199, 64, 1]⟩
abbrev S199x1x64 : Shape := ⟨3, ![199, 1, 64]⟩
abbrev S1x64 : Shape := ⟨2, ![1, 64]⟩
abbrev S1x64x64 : Shape := ⟨3, ![1, 64, 64]⟩
abbrev S64x64 : Shape := ⟨2, ![64, 64]⟩
abbrev S199x1 : Shape := ⟨2, ![199, 1]⟩

abbrev nBuf : Table → Nat
  | .hbm => 19
  | .local .tc .vmem => 5
  | .local .tc .smem => 6
  | .local .scVector .vmem => 2
  | _ => 0

abbrev bufTy : (tb : Table) → Fin (nBuf tb) → BufTy
  | .hbm, ⟨0, _⟩ => ⟨S100000x128, .f32⟩
  | .hbm, ⟨1, _⟩ => ⟨S1x2x3, .f32⟩
  | .hbm, ⟨2, _⟩ => ⟨S1, .f32⟩
  | .hbm, ⟨3, _⟩ => ⟨S1x128, .f32⟩
  | .hbm, ⟨4, _⟩ => ⟨S1, .f32⟩
  | .hbm, ⟨5, _⟩ => ⟨S1x2x3, .f32⟩
  | .hbm, ⟨6, _⟩ => ⟨S1, .f32⟩
  | .hbm, ⟨7, _⟩ => ⟨S1x128, .f32⟩
  | .hbm, ⟨8, _⟩ => ⟨S1, .f32⟩
  | .hbm, ⟨9, _⟩ => ⟨S200x16, .i32⟩
  | .hbm, ⟨10, _⟩ => ⟨S200x64, .i32⟩
  | .hbm, ⟨11, _⟩ => ⟨S200x16, .i32⟩
  | .hbm, ⟨12, _⟩ => ⟨S3200, .i32⟩
  | .hbm, ⟨13, _⟩ => ⟨S12800, .i32⟩
  | .hbm, ⟨14, _⟩ => ⟨S3200, .i32⟩
  | .hbm, ⟨15, _⟩ => ⟨S19200, .i32⟩
  | .hbm, ⟨16, _⟩ => ⟨S19200x128, .f32⟩
  | .hbm, ⟨17, _⟩ => ⟨S1x1, .f32⟩
  | .hbm, ⟨18, _⟩ => ⟨S1, .f32⟩
  | .local .tc .vmem, ⟨0, _⟩ => ⟨S19200x128, .f32⟩
  | .local .tc .vmem, ⟨1, _⟩ => ⟨S1x128, .f32⟩
  | .local .tc .vmem, ⟨2, _⟩ => ⟨S1x128, .f32⟩
  | .local .tc .vmem, ⟨3, _⟩ => ⟨S1x1, .f32⟩
  | .local .tc .vmem, ⟨4, _⟩ => ⟨S199x64x64, .f32⟩
  | .local .tc .smem, ⟨0, _⟩ => ⟨S1x2x3, .f32⟩
  | .local .tc .smem, ⟨1, _⟩ => ⟨S1, .f32⟩
  | .local .tc .smem, ⟨2, _⟩ => ⟨S1, .f32⟩
  | .local .tc .smem, ⟨3, _⟩ => ⟨S1x2x3, .f32⟩
  | .local .tc .smem, ⟨4, _⟩ => ⟨S1, .f32⟩
  | .local .tc .smem, ⟨5, _⟩ => ⟨S1, .f32⟩
  | .local .scVector .vmem, ⟨0, _⟩ => ⟨S600, .i32⟩
  | .local .scVector .vmem, ⟨1, _⟩ => ⟨S600x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_arg0_scv : Ref sig .scVector := ⟨.hbm, 0, rfl⟩
abbrev main_v3_scv : Ref sig .scVector := ⟨.hbm, 15, rfl⟩
abbrev main_v4_scv : Ref sig .scVector := ⟨.hbm, 16, rfl⟩
abbrev cc1_stg6_0 : Ref sig .tc := ⟨.vmem, 0, rfl⟩
abbrev cc1_stg7_0 : Ref sig .tc := ⟨.vmem, 1, rfl⟩
abbrev cc1_stg8_0 : Ref sig .tc := ⟨.vmem, 2, rfl⟩
abbrev cc1_stg9_0 : Ref sig .tc := ⟨.vmem, 3, rfl⟩
abbrev cc1_scratch0 : Ref sig .tc := ⟨.vmem, 4, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc1_stg3_0 : Ref sig .tc := ⟨.smem, 3, rfl⟩
abbrev cc1_stg4_0 : Ref sig .tc := ⟨.smem, 4, rfl⟩
abbrev cc1_stg5_0 : Ref sig .tc := ⟨.smem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c600_i32 : BitVec 32 := 600#32
  let v2 : BitVec 32 := Scalar.muli v1 c600_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c600_i32 : BitVec 32 := 600#32
  let v2 : BitVec 32 := Scalar.muli v1 c600_i32
  let c0_i32_45_r1 : BitVec 32 := 0#32
  ![v2.toNat, 0]
abbrev grid1 : Pipeline.Grid := .none

abbrev stage1_0 : Fin 1 → Memref sig .tc .smem S1x2x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S1x2x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .smem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S19200x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S1x2x3 : Shape := ⟨3, ![1, 2, 3]⟩
abbrev S1 : Shape := ⟨1, ![1]⟩
abbrev S1x128 : Shape := ⟨2, ![1, 128]⟩
abbrev S200x16 : Shape := ⟨2, ![200, 16]⟩
abbrev S200x64 : Shape := ⟨2, ![200, 64]⟩
abbrev S_ : Shape := ⟨0, ![]⟩
abbrev S200x16x1 : Shape := ⟨3, ![200, 16, 1]⟩
abbrev S1x1x1 : Shape := ⟨3, ![1, 1, 1]⟩
abbrev S200x16x128 : Shape := ⟨3, ![200, 16, 128]⟩
abbrev S200x128 : Shape := ⟨2, ![200, 128]⟩
abbrev S200x64x1 : Shape := ⟨3, ![200, 64, 1]⟩
abbrev S200x64x128 : Shape := ⟨3, ![200, 64, 128]⟩
abbrev S128 : Shape := ⟨1, ![128]⟩
abbrev S1x64x128 : Shape := ⟨3, ![1, 64, 128]⟩
abbrev S64x128 : Shape := ⟨2, ![64, 128]⟩
abbrev S64x1x128 : Shape := ⟨3, ![64, 1, 128]⟩
abbrev S64x2x128 : Shape := ⟨3, ![64, 2, 128]⟩
abbrev S64x2x130 : Shape := ⟨3, ![64, 2, 130]⟩
abbrev S64 : Shape := ⟨1, ![64]⟩
abbrev S199x64x128 : Shape := ⟨3, ![199, 64, 128]⟩
abbrev S199x128 : Shape := ⟨2, ![199, 128]⟩
abbrev S64x64x128 : Shape := ⟨3, ![64, 64, 128]⟩
abbrev S64x64x1x128 : Shape := ⟨4, ![64, 64, 1, 128]⟩
abbrev S64x64x2x128 : Shape := ⟨4, ![64, 64, 2, 128]⟩
abbrev S4096x2x128 : Shape := ⟨3, ![4096, 2, 128]⟩
abbrev S4096x2x130 : Shape := ⟨3, ![4096, 2, 130]⟩
abbrev S4096x128 : Shape := ⟨2, ![4096, 128]⟩
abbrev S4096x1x128 : Shape := ⟨3, ![4096, 1, 128]⟩
abbrev S4096 : Shape := ⟨1, ![4096]⟩
abbrev S64x64 : Shape := ⟨2, ![64, 64]⟩
abbrev S64x1 : Shape := ⟨2, ![64, 1]⟩
abbrev S1x64 : Shape := ⟨2, ![1, 64]⟩
abbrev S200x1x128 : Shape := ⟨3, ![200, 1, 128]⟩
abbrev S200x2x128 : Shape := ⟨3, ![200, 2, 128]⟩
abbrev S200x2x130 : Shape := ⟨3, ![200, 2, 130]⟩
abbrev S200 : Shape := ⟨1, ![200]⟩
abbrev S199x1x128 : Shape := ⟨3, ![199, 1, 128]⟩
abbrev S199x2x128 : Shape := ⟨3, ![199, 2, 128]⟩
abbrev S199x2x130 : Shape := ⟨3, ![199, 2, 130]⟩
abbrev S199 : Shape := ⟨1, ![199]⟩

abbrev nBuf : Space → Nat
  | .hbm => 501
  | .vmem => 0
  | .smem => 0
  | _ => 0

abbrev hbmTy0_0 (i : Nat) : BufTy := match i % 128 with
  | 0 => ⟨S100000x128, .f32⟩
  | 1 => ⟨S1x2x3, .f32⟩
  | 2 => ⟨S1, .f32⟩
  | 3 => ⟨S1x128, .f32⟩
  | 4 => ⟨S1, .f32⟩
  | 5 => ⟨S1x2x3, .f32⟩
  | 6 => ⟨S1, .f32⟩
  | 7 => ⟨S1x128, .f32⟩
  | 8 => ⟨S1, .f32⟩
  | 9 => ⟨S200x16, .i32⟩
  | 10 => ⟨S200x64, .i32⟩
  | 11 => ⟨S200x16, .i32⟩
  | 12 => ⟨S_, .i32⟩
  | 13 => ⟨S200x16, .i32⟩
  | 14 => ⟨S200x16, .i1⟩
  | 15 => ⟨S_, .i32⟩
  | 16 => ⟨S200x16, .i32⟩
  | 17 => ⟨S200x16, .i32⟩
  | 18 => ⟨S200x16, .i32⟩
  | 19 => ⟨S200x16x1, .i32⟩
  | 20 => ⟨S1, .i32⟩
  | 21 => ⟨S_, .i32⟩
  | 22 => ⟨S200x16x1, .i32⟩
  | 23 => ⟨S200x16x1, .i1⟩
  | 24 => ⟨S1x1x1, .i32⟩
  | 25 => ⟨S200x16x1, .i32⟩
  | 26 => ⟨S200x16x1, .i1⟩
  | 27 => ⟨S200x16x1, .i1⟩
  | 28 => ⟨S_, .i1⟩
  | 29 => ⟨S200x16, .i1⟩
  | 30 => ⟨S200x16x128, .f32⟩
  | 31 => ⟨S200x16x128, .i1⟩
  | 32 => ⟨S_, .f32⟩
  | 33 => ⟨S200x16x128, .f32⟩
  | 34 => ⟨S200x16x128, .f32⟩
  | 35 => ⟨S_, .f32⟩
  | 36 => ⟨S200x128, .f32⟩
  | 37 => ⟨S_, .f32⟩
  | 38 => ⟨S200x128, .f32⟩
  | 39 => ⟨S200x128, .f32⟩
  | 40 => ⟨S_, .i32⟩
  | 41 => ⟨S200x64, .i32⟩
  | 42 => ⟨S200x64, .i1⟩
  | 43 => ⟨S_, .i32⟩
  | 44 => ⟨S200x64, .i32⟩
  | 45 => ⟨S200x64, .i32⟩
  | 46 => ⟨S200x64, .i32⟩
  | 47 => ⟨S200x64x1, .i32⟩
  | 48 => ⟨S1, .i32⟩
  | 49 => ⟨S_, .i32⟩
  | 50 => ⟨S200x64x1, .i32⟩
  | 51 => ⟨S200x64x1, .i1⟩
  | 52 => ⟨S1x1x1, .i32⟩
  | 53 => ⟨S200x64x1, .i32⟩
  | 54 => ⟨S200x64x1, .i1⟩
  | 55 => ⟨S200x64x1, .i1⟩
  | 56 => ⟨S_, .i1⟩
  | 57 => ⟨S200x64, .i1⟩
  | 58 => ⟨S200x64x128, .f32⟩
  | 59 => ⟨S200x64x128, .i1⟩
  | 60 => ⟨S_, .f32⟩
  | 61 => ⟨S200x64x128, .f32⟩
  | 62 => ⟨S200x64x128, .f32⟩
  | 63 => ⟨S1x128, .f32⟩
  | 64 => ⟨S128, .f32⟩
  | 65 => ⟨S1x64x128, .f32⟩
  | 66 => ⟨S64x128, .f32⟩
  | 67 => ⟨S64x128, .f32⟩
  | 68 => ⟨S64x1x128, .f32⟩
  | 69 => ⟨S64x1x128, .f32⟩
  | 70 => ⟨S64x2x128, .f32⟩
  | 71 => ⟨S_, .i32⟩
  | 72 => ⟨S_, .f32⟩
  | 73 => ⟨S64x2x130, .f32⟩
  | 74 => ⟨S_, .f32⟩
  | 75 => ⟨S64x128, .f32⟩
  | 76 => ⟨S_, .f32⟩
  | 77 => ⟨S64x128, .f32⟩
  | 78 => ⟨S64x128, .f32⟩
  | 79 => ⟨S1x1x1, .f32⟩
  | 80 => ⟨S_, .f32⟩
  | 81 => ⟨S64x1x128, .f32⟩
  | 82 => ⟨S64x128, .f32⟩
  | 83 => ⟨S64x128, .f32⟩
  | 84 => ⟨S64x128, .f32⟩
  | 85 => ⟨S64x128, .f32⟩
  | 86 => ⟨S1x1x1, .f32⟩
  | 87 => ⟨S_, .f32⟩
  | 88 => ⟨S64x1x128, .f32⟩
  | 89 => ⟨S64x128, .f32⟩
  | 90 => ⟨S64x128, .f32⟩
  | 91 => ⟨S64x128, .f32⟩
  | 92 => ⟨S64x128, .f32⟩
  | 93 => ⟨S1x1x1, .f32⟩
  | 94 => ⟨S_, .f32⟩
  | 95 => ⟨S64x1x128, .f32⟩
  | 96 => ⟨S64x128, .f32⟩
  | 97 => ⟨S64x128, .f32⟩
  | 98 => ⟨S64x128, .f32⟩
  | 99 => ⟨S64x128, .f32⟩
  | 100 => ⟨S1x1x1, .f32⟩
  | 101 => ⟨S_, .f32⟩
  | 102 => ⟨S64x1x128, .f32⟩
  | 103 => ⟨S64x128, .f32⟩
  | 104 => ⟨S64x128, .f32⟩
  | 105 => ⟨S64x128, .f32⟩
  | 106 => ⟨S64x128, .f32⟩
  | 107 => ⟨S1x1x1, .f32⟩
  | 108 => ⟨S_, .f32⟩
  | 109 => ⟨S64x1x128, .f32⟩
  | 110 => ⟨S64x128, .f32⟩
  | 111 => ⟨S64x128, .f32⟩
  | 112 => ⟨S64x128, .f32⟩
  | 113 => ⟨S64x128, .f32⟩
  | 114 => ⟨S1x1x1, .f32⟩
  | 115 => ⟨S_, .f32⟩
  | 116 => ⟨S64x1x128, .f32⟩
  | 117 => ⟨S64x128, .f32⟩
  | 118 => ⟨S64x128, .f32⟩
  | 119 => ⟨S64x128, .f32⟩
  | 120 => ⟨S64x128, .f32⟩
  | 121 => ⟨S128, .f32⟩
  | 122 => ⟨S64, .f32⟩
  | 123 => ⟨S_, .f32⟩
  | 124 => ⟨S64, .f32⟩
  | 125 => ⟨S64, .f32⟩
  | 126 => ⟨S64, .f32⟩
  | 127 => ⟨S64, .f32⟩
  | _ => ⟨S100000x128, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S199x64x128, .f32⟩
  | 7 => ⟨S199x64x128, .f32⟩
  | 8 => ⟨S199x128, .f32⟩
  | 9 => ⟨S_, .i32⟩
  | 10 => ⟨S199x64x128, .f32⟩
  | 11 => ⟨S199x64x128, .f32⟩
  | 12 => ⟨S199x128, .f32⟩
  | 13 => ⟨S1, .f32⟩
  | 14 => ⟨S1x2x3, .f32⟩
  | 15 => ⟨S1x128, .f32⟩
  | 16 => ⟨S1, .f32⟩
  | 17 => ⟨S1, .f32⟩
  | 18 => ⟨S1x2x3, .f32⟩
  | 19 => ⟨S1x128, .f32⟩
  | 20 => ⟨S1, .f32⟩
  | 21 => ⟨S_, .i32⟩
  | 22 => ⟨S64, .f32⟩
  | 23 => ⟨S_, .i32⟩
  | 24 => ⟨S_, .i1⟩
  | 25 => ⟨S_, .i32⟩
  | 26 => ⟨S_, .i32⟩
  | 27 => ⟨S1x64x128, .f32⟩
  | 28 => ⟨S64x128, .f32⟩
  | 29 => ⟨S_, .i32⟩
  | 30 => ⟨S_, .i32⟩
  | 31 => ⟨S1x64x128, .f32⟩
  | 32 => ⟨S64x128, .f32⟩
  | 33 => ⟨S_, .i32⟩
  | 34 => ⟨S1x128, .f32⟩
  | 35 => ⟨S128, .f32⟩
  | 36 => ⟨S64x1x128, .f32⟩
  | 37 => ⟨S64x64x128, .f32⟩
  | 38 => ⟨S1x64x128, .f32⟩
  | 39 => ⟨S64x64x128, .f32⟩
  | 40 => ⟨S64x64x1x128, .f32⟩
  | 41 => ⟨S64x64x1x128, .f32⟩
  | 42 => ⟨S64x64x2x128, .f32⟩
  | 43 => ⟨S4096x2x128, .f32⟩
  | 44 => ⟨S_, .i32⟩
  | 45 => ⟨S_, .f32⟩
  | 46 => ⟨S4096x2x130, .f32⟩
  | 47 => ⟨S_, .f32⟩
  | 48 => ⟨S4096x128, .f32⟩
  | 49 => ⟨S_, .f32⟩
  | 50 => ⟨S4096x128, .f32⟩
  | 51 => ⟨S4096x128, .f32⟩
  | 52 => ⟨S1x1x1, .f32⟩
  | 53 => ⟨S_, .f32⟩
  | 54 => ⟨S4096x1x128, .f32⟩
  | 55 => ⟨S4096x128, .f32⟩
  | 56 => ⟨S4096x128, .f32⟩
  | 57 => ⟨S4096x128, .f32⟩
  | 58 => ⟨S4096x128, .f32⟩
  | 59 => ⟨S1x1x1, .f32⟩
  | 60 => ⟨S_, .f32⟩
  | 61 => ⟨S4096x1x128, .f32⟩
  | 62 => ⟨S4096x128, .f32⟩
  | 63 => ⟨S4096x128, .f32⟩
  | 64 => ⟨S4096x128, .f32⟩
  | 65 => ⟨S4096x128, .f32⟩
  | 66 => ⟨S1x1x1, .f32⟩
  | 67 => ⟨S_, .f32⟩
  | 68 => ⟨S4096x1x128, .f32⟩
  | 69 => ⟨S4096x128, .f32⟩
  | 70 => ⟨S4096x128, .f32⟩
  | 71 => ⟨S4096x128, .f32⟩
  | 72 => ⟨S4096x128, .f32⟩
  | 73 => ⟨S1x1x1, .f32⟩
  | 74 => ⟨S_, .f32⟩
  | 75 => ⟨S4096x1x128, .f32⟩
  | 76 => ⟨S4096x128, .f32⟩
  | 77 => ⟨S4096x128, .f32⟩
  | 78 => ⟨S4096x128, .f32⟩
  | 79 => ⟨S4096x128, .f32⟩
  | 80 => ⟨S1x1x1, .f32⟩
  | 81 => ⟨S_, .f32⟩
  | 82 => ⟨S4096x1x128, .f32⟩
  | 83 => ⟨S4096x128, .f32⟩
  | 84 => ⟨S4096x128, .f32⟩
  | 85 => ⟨S4096x128, .f32⟩
  | 86 => ⟨S4096x128, .f32⟩
  | 87 => ⟨S1x1x1, .f32⟩
  | 88 => ⟨S_, .f32⟩
  | 89 => ⟨S4096x1x128, .f32⟩
  | 90 => ⟨S4096x128, .f32⟩
  | 91 => ⟨S4096x128, .f32⟩
  | 92 => ⟨S4096x128, .f32⟩
  | 93 => ⟨S4096x128, .f32⟩
  | 94 => ⟨S128, .f32⟩
  | 95 => ⟨S4096, .f32⟩
  | 96 => ⟨S_, .f32⟩
  | 97 => ⟨S4096, .f32⟩
  | 98 => ⟨S4096, .f32⟩
  | 99 => ⟨S4096, .f32⟩
  | 100 => ⟨S4096, .f32⟩
  | 101 => ⟨S_, .f32⟩
  | 102 => ⟨S4096, .f32⟩
  | 103 => ⟨S4096, .f32⟩
  | 104 => ⟨S_, .f32⟩
  | 105 => ⟨S4096, .f32⟩
  | 106 => ⟨S4096, .f32⟩
  | 107 => ⟨S64x64, .f32⟩
  | 108 => ⟨S64x128, .f32⟩
  | 109 => ⟨S64x1x128, .f32⟩
  | 110 => ⟨S64x1x128, .f32⟩
  | 111 => ⟨S64x2x128, .f32⟩
  | 112 => ⟨S_, .i32⟩
  | 113 => ⟨S_, .f32⟩
  | 114 => ⟨S64x2x130, .f32⟩
  | 115 => ⟨S_, .f32⟩
  | 116 => ⟨S64x128, .f32⟩
  | 117 => ⟨S_, .f32⟩
  | 118 => ⟨S64x128, .f32⟩
  | 119 => ⟨S64x128, .f32⟩
  | 120 => ⟨S1x1x1, .f32⟩
  | 121 => ⟨S_, .f32⟩
  | 122 => ⟨S64x1x128, .f32⟩
  | 123 => ⟨S64x128, .f32⟩
  | 124 => ⟨S64x128, .f32⟩
  | 125 => ⟨S64x128, .f32⟩
  | 126 => ⟨S64x128, .f32⟩
  | 127 => ⟨S1x1x1, .f32⟩
  | _ => ⟨S100000x128, .f32⟩

abbrev hbmTy0_2 (i : Nat) : BufTy := match i % 128 with
  | 0 => ⟨S_, .f32⟩
  | 1 => ⟨S64x1x128, .f32⟩
  | 2 => ⟨S64x128, .f32⟩
  | 3 => ⟨S64x128, .f32⟩
  | 4 => ⟨S64x128, .f32⟩
  | 5 => ⟨S64x128, .f32⟩
  | 6 => ⟨S1x1x1, .f32⟩
  | 7 => ⟨S_, .f32⟩
  | 8 => ⟨S64x1x128, .f32⟩
  | 9 => ⟨S64x128, .f32⟩
  | 10 => ⟨S64x128, .f32⟩
  | 11 => ⟨S64x128, .f32⟩
  | 12 => ⟨S64x128, .f32⟩
  | 13 => ⟨S1x1x1, .f32⟩
  | 14 => ⟨S_, .f32⟩
  | 15 => ⟨S64x1x128, .f32⟩
  | 16 => ⟨S64x128, .f32⟩
  | 17 => ⟨S64x128, .f32⟩
  | 18 => ⟨S64x128, .f32⟩
  | 19 => ⟨S64x128, .f32⟩
  | 20 => ⟨S1x1x1, .f32⟩
  | 21 => ⟨S_, .f32⟩
  | 22 => ⟨S64x1x128, .f32⟩
  | 23 => ⟨S64x128, .f32⟩
  | 24 => ⟨S64x128, .f32⟩
  | 25 => ⟨S64x128, .f32⟩
  | 26 => ⟨S64x128, .f32⟩
  | 27 => ⟨S1x1x1, .f32⟩
  | 28 => ⟨S_, .f32⟩
  | 29 => ⟨S64x1x128, .f32⟩
  | 30 => ⟨S64x128, .f32⟩
  | 31 => ⟨S64x128, .f32⟩
  | 32 => ⟨S64x128, .f32⟩
  | 33 => ⟨S64x128, .f32⟩
  | 34 => ⟨S128, .f32⟩
  | 35 => ⟨S64, .f32⟩
  | 36 => ⟨S_, .f32⟩
  | 37 => ⟨S64, .f32⟩
  | 38 => ⟨S64, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64, .f32⟩
  | 55 => ⟨S1x64, .f32⟩
  | 56 => ⟨S64x64, .f32⟩
  | 57 => ⟨S64x64, .f32⟩
  | 58 => ⟨S64x64, .f32⟩
  | 59 => ⟨S_, .f32⟩
  | 60 => ⟨S64, .f32⟩
  | 61 => ⟨S1x64, .f32⟩
  | 62 => ⟨S1x64, .f32⟩
  | 63 => ⟨S1x64, .f32⟩
  | 64 => ⟨S64, .f32⟩
  | 65 => ⟨S_, .i32⟩
  | 66 => ⟨S_, .i32⟩
  | 67 => ⟨S_, .f32⟩
  | 68 => ⟨S_, .f32⟩
  | 69 => ⟨S64, .f32⟩
  | 70 => ⟨S64, .f32⟩
  | 71 => ⟨S64, .f32⟩
  | 72 => ⟨S_, .f32⟩
  | 73 => ⟨S_, .f32⟩
  | 74 => ⟨S_, .f32⟩
  | 75 => ⟨S_, .f32⟩
  | 76 => ⟨S_, .i32⟩
  | 77 => ⟨S200x16, .i32⟩
  | 78 => ⟨S200x16, .i1⟩
  | 79 => ⟨S_, .i32⟩
  | 80 => ⟨S200x16, .i32⟩
  | 81 => ⟨S200x16, .i32⟩
  | 82 => ⟨S200x16, .i32⟩
  | 83 => ⟨S200x16x1, .i32⟩
  | 84 => ⟨S1, .i32⟩
  | 85 => ⟨S_, .i32⟩
  | 86 => ⟨S200x16x1, .i32⟩
  | 87 => ⟨S200x16x1, .i1⟩
  | 88 => ⟨S1x1x1, .i32⟩
  | 89 => ⟨S200x16x1, .i32⟩
  | 90 => ⟨S200x16x1, .i1⟩
  | 91 => ⟨S200x16x1, .i1⟩
  | 92 => ⟨S_, .i1⟩
  | 93 => ⟨S200x16, .i1⟩
  | 94 => ⟨S200x16x128, .f32⟩
  | 95 => ⟨S200x16x128, .i1⟩
  | 96 => ⟨S_, .f32⟩
  | 97 => ⟨S200x16x128, .f32⟩
  | 98 => ⟨S200x16x128, .f32⟩
  | 99 => ⟨S_, .f32⟩
  | 100 => ⟨S200x128, .f32⟩
  | 101 => ⟨S_, .f32⟩
  | 102 => ⟨S200x128, .f32⟩
  | 103 => ⟨S200x128, .f32⟩
  | 104 => ⟨S200x1x128, .f32⟩
  | 105 => ⟨S200x1x128, .f32⟩
  | 106 => ⟨S200x2x128, .f32⟩
  | 107 => ⟨S_, .i32⟩
  | 108 => ⟨S_, .f32⟩
  | 109 => ⟨S200x2x130, .f32⟩
  | 110 => ⟨S_, .f32⟩
  | 111 => ⟨S200x128, .f32⟩
  | 112 => ⟨S_, .f32⟩
  | 113 => ⟨S200x128, .f32⟩
  | 114 => ⟨S200x128, .f32⟩
  | 115 => ⟨S1x1x1, .f32⟩
  | 116 => ⟨S_, .f32⟩
  | 117 => ⟨S200x1x128, .f32⟩
  | 118 => ⟨S200x128, .f32⟩
  | 119 => ⟨S200x128, .f32⟩
  | 120 => ⟨S200x128, .f32⟩
  | 121 => ⟨S200x128, .f32⟩
  | 122 => ⟨S1x1x1, .f32⟩
  | 123 => ⟨S_, .f32⟩
  | 124 => ⟨S200x1x128, .f32⟩
  | 125 => ⟨S200x128, .f32⟩
  | 126 => ⟨S200x128, .f32⟩
  | 127 => ⟨S200x128, .f32⟩
  | _ => ⟨S100000x128, .f32⟩

abbrev hbmTy0_3 (i : Nat) : BufTy := match i % 128 with
  | 0 => ⟨S200x128, .f32⟩
  | 1 => ⟨S1x1x1, .f32⟩
  | 2 => ⟨S_, .f32⟩
  | 3 => ⟨S200x1x128, .f32⟩
  | 4 => ⟨S200x128, .f32⟩
  | 5 => ⟨S200x128, .f32⟩
  | 6 => ⟨S200x128, .f32⟩
  | 7 => ⟨S200x128, .f32⟩
  | 8 => ⟨S1x1x1, .f32⟩
  | 9 => ⟨S_, .f32⟩
  | 10 => ⟨S200x1x128, .f32⟩
  | 11 => ⟨S200x128, .f32⟩
  | 12 => ⟨S200x128, .f32⟩
  | 13 => ⟨S200x128, .f32⟩
  | 14 => ⟨S200x128, .f32⟩
  | 15 => ⟨S1x1x1, .f32⟩
  | 16 => ⟨S_, .f32⟩
  | 17 => ⟨S200x1x128, .f32⟩
  | 18 => ⟨S200x128, .f32⟩
  | 19 => ⟨S200x128, .f32⟩
  | 20 => ⟨S200x128, .f32⟩
  | 21 => ⟨S200x128, .f32⟩
  | 22 => ⟨S1x1x1, .f32⟩
  | 23 => ⟨S_, .f32⟩
  | 24 => ⟨S200x1x128, .f32⟩
  | 25 => ⟨S200x128, .f32⟩
  | 26 => ⟨S200x128, .f32⟩
  | 27 => ⟨S200x128, .f32⟩
  | 28 => ⟨S200x128, .f32⟩
  | 29 => ⟨S128, .f32⟩
  | 30 => ⟨S200, .f32⟩
  | 31 => ⟨S_, .f32⟩
  | 32 => ⟨S200, .f32⟩
  | 33 => ⟨S200, .f32⟩
  | 34 => ⟨S200, .f32⟩
  | 35 => ⟨S200, .f32⟩
  | 36 => ⟨S_, .f32⟩
  | 37 => ⟨S200, .f32⟩
  | 38 => ⟨S200, .f32⟩
  | 39 => ⟨S_, .f32⟩
  | 40 => ⟨S200, .f32⟩
  | 41 => ⟨S200, .f32⟩
  | 42 => ⟨S199x128, .f32⟩
  | 43 => ⟨S199x128, .f32⟩
  | 44 => ⟨S199x1x128, .f32⟩
  | 45 => ⟨S199x1x128, .f32⟩
  | 46 => ⟨S199x2x128, .f32⟩
  | 47 => ⟨S_, .i32⟩
  | 48 => ⟨S_, .f32⟩
  | 49 => ⟨S199x2x130, .f32⟩
  | 50 => ⟨S_, .f32⟩
  | 51 => ⟨S199x128, .f32⟩
  | 52 => ⟨S_, .f32⟩
  | 53 => ⟨S199x128, .f32⟩
  | 54 => ⟨S199x128, .f32⟩
  | 55 => ⟨S1x1x1, .f32⟩
  | 56 => ⟨S_, .f32⟩
  | 57 => ⟨S199x1x128, .f32⟩
  | 58 => ⟨S199x128, .f32⟩
  | 59 => ⟨S199x128, .f32⟩
  | 60 => ⟨S199x128, .f32⟩
  | 61 => ⟨S199x128, .f32⟩
  | 62 => ⟨S1x1x1, .f32⟩
  | 63 => ⟨S_, .f32⟩
  | 64 => ⟨S199x1x128, .f32⟩
  | 65 => ⟨S199x128, .f32⟩
  | 66 => ⟨S199x128, .f32⟩
  | 67 => ⟨S199x128, .f32⟩
  | 68 => ⟨S199x128, .f32⟩
  | 69 => ⟨S1x1x1, .f32⟩
  | 70 => ⟨S_, .f32⟩
  | 71 => ⟨S199x1x128, .f32⟩
  | 72 => ⟨S199x128, .f32⟩
  | 73 => ⟨S199x128, .f32⟩
  | 74 => ⟨S199x128, .f32⟩
  | 75 => ⟨S199x128, .f32⟩
  | 76 => ⟨S1x1x1, .f32⟩
  | 77 => ⟨S_, .f32⟩
  | 78 => ⟨S199x1x128, .f32⟩
  | 79 => ⟨S199x128, .f32⟩
  | 80 => ⟨S199x128, .f32⟩
  | 81 => ⟨S199x128, .f32⟩
  | 82 => ⟨S199x128, .f32⟩
  | 83 => ⟨S1x1x1, .f32⟩
  | 84 => ⟨S_, .f32⟩
  | 85 => ⟨S199x1x128, .f32⟩
  | 86 => ⟨S199x128, .f32⟩
  | 87 => ⟨S199x128, .f32⟩
  | 88 => ⟨S199x128, .f32⟩
  | 89 => ⟨S199x128, .f32⟩
  | 90 => ⟨S1x1x1, .f32⟩
  | 91 => ⟨S_, .f32⟩
  | 92 => ⟨S199x1x128, .f32⟩
  | 93 => ⟨S199x128, .f32⟩
  | 94 => ⟨S199x128, .f32⟩
  | 95 => ⟨S199x128, .f32⟩
  | 96 => ⟨S199x128, .f32⟩
  | 97 => ⟨S128, .f32⟩
  | 98 => ⟨S199, .f32⟩
  | 99 => ⟨S_, .f32⟩
  | 100 => ⟨S199, .f32⟩
  | 101 => ⟨S199, .f32⟩
  | 102 => ⟨S199, .f32⟩
  | 103 => ⟨S199, .f32⟩
  | 104 => ⟨S_, .f32⟩
  | 105 => ⟨S199, .f32⟩
  | 106 => ⟨S199, .f32⟩
  | 107 => ⟨S_, .f32⟩
  | 108 => ⟨S199, .f32⟩
  | 109 => ⟨S199, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_cst_0 : Ref sig .tc := ⟨.hbm, 37, rfl⟩
abbrev main_v2 : Ref sig .tc := ⟨.hbm, 38, rfl⟩
abbrev main_v3 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_c : Ref sig .tc := ⟨.hbm, 71, rfl⟩
abbrev main_call2_v0 : Ref sig .tc := ⟨.hbm, 72, rfl⟩
abbrev main_v13 : Ref sig .tc := ⟨.hbm, 73, rfl⟩
abbrev main_cst_1 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_2 : Ref sig .tc := ⟨.hbm, 128, rfl⟩
abbrev main_v67 : Ref sig .tc := ⟨.hbm, 129, rfl⟩
abbrev main_v68 : Ref sig .tc := ⟨.hbm, 130, rfl⟩
abbrev main_cst_3 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_c_4 : Ref sig .tc := ⟨.hbm, 137, rfl⟩
abbrev main_v74_0 : Ref sig .tc := ⟨.hbm, 138, rfl⟩
abbrev main_v74_1 : Ref sig .tc := ⟨.hbm, 139, rfl⟩
abbrev main_v74_2 : Ref sig .tc := ⟨.hbm, 140, rfl⟩
abbrev main_v74_3 : Ref sig .tc := ⟨.hbm, 141, rfl⟩
abbrev main_v74_4 : Ref sig .tc := ⟨.hbm, 142, rfl⟩
abbrev main_v74_5 : Ref sig .tc := ⟨.hbm, 143, rfl⟩
abbrev main_v74_6 : Ref sig .tc := ⟨.hbm, 144, rfl⟩
abbrev main_v74_7 : Ref sig .tc := ⟨.hbm, 145, rfl⟩
abbrev main_v74_8 : Ref sig .tc := ⟨.hbm, 146, rfl⟩
abbrev main_v74_9 : Ref sig .tc := ⟨.hbm, 147, rfl⟩
abbrev main_v74_10 : Ref sig .tc := ⟨.hbm, 148, rfl⟩
abbrev main_v74_11 : Ref sig .tc := ⟨.hbm, 149, rfl⟩
abbrev main_v74_12 : Ref sig .tc := ⟨.hbm, 150, rfl⟩
abbrev main_while0c_c_31 : Ref sig .tc := ⟨.hbm, 151, rfl⟩
abbrev main_while0c_v215 : Ref sig .tc := ⟨.hbm, 152, rfl⟩
abbrev main_while0b_call3_c : Ref sig .tc := ⟨.hbm, 153, rfl⟩
abbrev main_while0b_call3_c_0 : Ref sig .tc := ⟨.hbm, 154, rfl⟩
abbrev main_while0b_call3_v0 : Ref sig .tc := ⟨.hbm, 155, rfl⟩
abbrev main_while0b_v215 : Ref sig .tc := ⟨.hbm, 156, rfl⟩
abbrev main_while0b_call4_c : Ref sig .tc := ⟨.hbm, 157, rfl⟩
abbrev main_while0b_call4_c_0 : Ref sig .tc := ⟨.hbm, 158, rfl⟩
abbrev main_while0b_call4_v0 : Ref sig .tc := ⟨.hbm, 159, rfl⟩
abbrev main_while0b_v216 : Ref sig .tc := ⟨.hbm, 160, rfl⟩
abbrev main_while0b_call5_c : Ref sig .tc := ⟨.hbm, 161, rfl⟩
abbrev main_while0b_call5_v0 : Ref sig .tc := ⟨.hbm, 162, rfl⟩
abbrev main_while0b_v217 : Ref sig .tc := ⟨.hbm, 163, rfl⟩
abbrev main_while0b_v218 : Ref sig .tc := ⟨.hbm, 164, rfl⟩
abbrev main_while0b_v219 : Ref sig .tc := ⟨.hbm, 165, rfl⟩
abbrev main_while0b_v220 : Ref sig .tc := ⟨.hbm, 166, rfl⟩
abbrev main_while0b_v221 : Ref sig .tc := ⟨.hbm, 167, rfl⟩
abbrev main_while0b_v222 : Ref sig .tc := ⟨.hbm, 168, rfl⟩
abbrev main_while0b_v223 : Ref sig .tc := ⟨.hbm, 169, rfl⟩
abbrev main_while0b_v224 : Ref sig .tc := ⟨.hbm, 170, rfl⟩
abbrev main_while0b_v225 : Ref sig .tc := ⟨.hbm, 171, rfl⟩
abbrev main_while0b_c_31 : Ref sig .tc := ⟨.hbm, 172, rfl⟩
abbrev main_while0b_call6_v0 : Ref sig .tc := ⟨.hbm, 173, rfl⟩
abbrev main_while0b_v226 : Ref sig .tc := ⟨.hbm, 174, rfl⟩
abbrev main_while0b_cst_32 : Ref sig .tc := ⟨.hbm, 175, rfl⟩
abbrev main_while0b_v227 : Ref sig .tc := ⟨.hbm, 176, rfl⟩
abbrev main_while0b_v228 : Ref sig .tc := ⟨.hbm, 177, rfl⟩
abbrev main_while0b_v229 : Ref sig .tc := ⟨.hbm, 178, rfl⟩
abbrev main_while0b_v230 : Ref sig .tc := ⟨.hbm, 179, rfl⟩
abbrev main_while0b_v231 : Ref sig .tc := ⟨.hbm, 180, rfl⟩
abbrev main_while0b_v232 : Ref sig .tc := ⟨.hbm, 181, rfl⟩
abbrev main_while0b_v233 : Ref sig .tc := ⟨.hbm, 182, rfl⟩
abbrev main_while0b_v234 : Ref sig .tc := ⟨.hbm, 183, rfl⟩
abbrev main_while0b_v235 : Ref sig .tc := ⟨.hbm, 184, rfl⟩
abbrev main_while0b_v236 : Ref sig .tc := ⟨.hbm, 185, rfl⟩
abbrev main_while0b_v237 : Ref sig .tc := ⟨.hbm, 186, rfl⟩
abbrev main_while0b_v238 : Ref sig .tc := ⟨.hbm, 187, rfl⟩
abbrev main_while0b_v239 : Ref sig .tc := ⟨.hbm, 188, rfl⟩
abbrev main_while0b_v240 : Ref sig .tc := ⟨.hbm, 189, rfl⟩
abbrev main_while0b_v241 : Ref sig .tc := ⟨.hbm, 190, rfl⟩
abbrev main_while0b_v242 : Ref sig .tc := ⟨.hbm, 191, rfl⟩
abbrev main_while0b_v243 : Ref sig .tc := ⟨.hbm, 192, rfl⟩
abbrev main_while0b_v244 : Ref sig .tc := ⟨.hbm, 193, rfl⟩
abbrev main_while0b_v245 : Ref sig .tc := ⟨.hbm, 194, rfl⟩
abbrev main_while0b_v246 : Ref sig .tc := ⟨.hbm, 195, rfl⟩
abbrev main_while0b_v247 : Ref sig .tc := ⟨.hbm, 196, rfl⟩
abbrev main_while0b_v248 : Ref sig .tc := ⟨.hbm, 197, rfl⟩
abbrev main_while0b_v249 : Ref sig .tc := ⟨.hbm, 198, rfl⟩
abbrev main_while0b_v250 : Ref sig .tc := ⟨.hbm, 199, rfl⟩
abbrev main_while0b_v251 : Ref sig .tc := ⟨.hbm, 200, rfl⟩
abbrev main_while0b_v252 : Ref sig .tc := ⟨.hbm, 201, rfl⟩
abbrev main_while0b_v253 : Ref sig .tc := ⟨.hbm, 202, rfl⟩
abbrev main_while0b_v254 : Ref sig .tc := ⟨.hbm, 203, rfl⟩
abbrev main_while0b_v255 : Ref sig .tc := ⟨.hbm, 204, rfl⟩
abbrev main_while0b_v256 : Ref sig .tc := ⟨.hbm, 205, rfl⟩
abbrev main_while0b_v257 : Ref sig .tc := ⟨.hbm, 206, rfl⟩
abbrev main_while0b_v258 : Ref sig .tc := ⟨.hbm, 207, rfl⟩
abbrev main_while0b_v259 : Ref sig .tc := ⟨.hbm, 208, rfl⟩
abbrev main_while0b_v260 : Ref sig .tc := ⟨.hbm, 209, rfl⟩
abbrev main_while0b_v261 : Ref sig .tc := ⟨.hbm, 210, rfl⟩
abbrev main_while0b_v262 : Ref sig .tc := ⟨.hbm, 211, rfl⟩
abbrev main_while0b_v263 : Ref sig .tc := ⟨.hbm, 212, rfl⟩
abbrev main_while0b_v264 : Ref sig .tc := ⟨.hbm, 213, rfl⟩
abbrev main_while0b_v265 : Ref sig .tc := ⟨.hbm, 214, rfl⟩
abbrev main_while0b_v266 : Ref sig .tc := ⟨.hbm, 215, rfl⟩
abbrev main_while0b_v267 : Ref sig .tc := ⟨.hbm, 216, rfl⟩
abbrev main_while0b_v268 : Ref sig .tc := ⟨.hbm, 217, rfl⟩
abbrev main_while0b_v269 : Ref sig .tc := ⟨.hbm, 218, rfl⟩
abbrev main_while0b_v270 : Ref sig .tc := ⟨.hbm, 219, rfl⟩
abbrev main_while0b_v271 : Ref sig .tc := ⟨.hbm, 220, rfl⟩
abbrev main_while0b_v272 : Ref sig .tc := ⟨.hbm, 221, rfl⟩
abbrev main_while0b_v273 : Ref sig .tc := ⟨.hbm, 222, rfl⟩
abbrev main_while0b_v274 : Ref sig .tc := ⟨.hbm, 223, rfl⟩
abbrev main_while0b_v275 : Ref sig .tc := ⟨.hbm, 224, rfl⟩
abbrev main_while0b_v276 : Ref sig .tc := ⟨.hbm, 225, rfl⟩
abbrev main_while0b_v277 : Ref sig .tc := ⟨.hbm, 226, rfl⟩
abbrev main_while0b_v278 : Ref sig .tc := ⟨.hbm, 227, rfl⟩
abbrev main_while0b_v279 : Ref sig .tc := ⟨.hbm, 228, rfl⟩
abbrev main_while0b_cst_33 : Ref sig .tc := ⟨.hbm, 229, rfl⟩
abbrev main_while0b_v280 : Ref sig .tc := ⟨.hbm, 230, rfl⟩
abbrev main_while0b_v281 : Ref sig .tc := ⟨.hbm, 231, rfl⟩
abbrev main_while0b_cst_34 : Ref sig .tc := ⟨.hbm, 232, rfl⟩
abbrev main_while0b_v282 : Ref sig .tc := ⟨.hbm, 233, rfl⟩
abbrev main_while0b_v283 : Ref sig .tc := ⟨.hbm, 234, rfl⟩
abbrev main_while0b_v284 : Ref sig .tc := ⟨.hbm, 235, rfl⟩
abbrev main_while0b_v285 : Ref sig .tc := ⟨.hbm, 236, rfl⟩
abbrev main_while0b_v286 : Ref sig .tc := ⟨.hbm, 237, rfl⟩
abbrev main_while0b_v287 : Ref sig .tc := ⟨.hbm, 238, rfl⟩
abbrev main_while0b_v288 : Ref sig .tc := ⟨.hbm, 239, rfl⟩
abbrev main_while0b_c_35 : Ref sig .tc := ⟨.hbm, 240, rfl⟩
abbrev main_while0b_call7_v0 : Ref sig .tc := ⟨.hbm, 241, rfl⟩
abbrev main_while0b_v289 : Ref sig .tc := ⟨.hbm, 242, rfl⟩
abbrev main_while0b_cst_36 : Ref sig .tc := ⟨.hbm, 243, rfl⟩
abbrev main_while0b_v290 : Ref sig .tc := ⟨.hbm, 244, rfl⟩
abbrev main_while0b_v291 : Ref sig .tc := ⟨.hbm, 245, rfl⟩
abbrev main_while0b_v292 : Ref sig .tc := ⟨.hbm, 246, rfl⟩
abbrev main_while0b_v293 : Ref sig .tc := ⟨.hbm, 247, rfl⟩
abbrev main_while0b_v294 : Ref sig .tc := ⟨.hbm, 248, rfl⟩
abbrev main_while0b_v295 : Ref sig .tc := ⟨.hbm, 249, rfl⟩
abbrev main_while0b_v296 : Ref sig .tc := ⟨.hbm, 250, rfl⟩
abbrev main_while0b_v297 : Ref sig .tc := ⟨.hbm, 251, rfl⟩
abbrev main_while0b_v298 : Ref sig .tc := ⟨.hbm, 252, rfl⟩
abbrev main_while0b_v299 : Ref sig .tc := ⟨.hbm, 253, rfl⟩
abbrev main_while0b_v300 : Ref sig .tc := ⟨.hbm, 254, rfl⟩
abbrev main_while0b_v301 : Ref sig .tc := ⟨.hbm, 255, rfl⟩
abbrev main_while0b_v302 : Ref sig .tc := ⟨.hbm, 256, rfl⟩
abbrev main_while0b_v303 : Ref sig .tc := ⟨.hbm, 257, rfl⟩
abbrev main_while0b_v304 : Ref sig .tc := ⟨.hbm, 258, rfl⟩
abbrev main_while0b_v305 : Ref sig .tc := ⟨.hbm, 259, rfl⟩
abbrev main_while0b_v306 : Ref sig .tc := ⟨.hbm, 260, rfl⟩
abbrev main_while0b_v307 : Ref sig .tc := ⟨.hbm, 261, rfl⟩
abbrev main_while0b_v308 : Ref sig .tc := ⟨.hbm, 262, rfl⟩
abbrev main_while0b_v309 : Ref sig .tc := ⟨.hbm, 263, rfl⟩
abbrev main_while0b_v310 : Ref sig .tc := ⟨.hbm, 264, rfl⟩
abbrev main_while0b_v311 : Ref sig .tc := ⟨.hbm, 265, rfl⟩
abbrev main_while0b_v312 : Ref sig .tc := ⟨.hbm, 266, rfl⟩
abbrev main_while0b_v313 : Ref sig .tc := ⟨.hbm, 267, rfl⟩
abbrev main_while0b_v314 : Ref sig .tc := ⟨.hbm, 268, rfl⟩
abbrev main_while0b_v315 : Ref sig .tc := ⟨.hbm, 269, rfl⟩
abbrev main_while0b_v316 : Ref sig .tc := ⟨.hbm, 270, rfl⟩
abbrev main_while0b_v317 : Ref sig .tc := ⟨.hbm, 271, rfl⟩
abbrev main_while0b_v318 : Ref sig .tc := ⟨.hbm, 272, rfl⟩
abbrev main_while0b_v319 : Ref sig .tc := ⟨.hbm, 273, rfl⟩
abbrev main_while0b_v320 : Ref sig .tc := ⟨.hbm, 274, rfl⟩
abbrev main_while0b_v321 : Ref sig .tc := ⟨.hbm, 275, rfl⟩
abbrev main_while0b_v322 : Ref sig .tc := ⟨.hbm, 276, rfl⟩
abbrev main_while0b_v323 : Ref sig .tc := ⟨.hbm, 277, rfl⟩
abbrev main_while0b_v324 : Ref sig .tc := ⟨.hbm, 278, rfl⟩
abbrev main_while0b_v325 : Ref sig .tc := ⟨.hbm, 279, rfl⟩
abbrev main_while0b_v326 : Ref sig .tc := ⟨.hbm, 280, rfl⟩
abbrev main_while0b_v327 : Ref sig .tc := ⟨.hbm, 281, rfl⟩
abbrev main_while0b_v328 : Ref sig .tc := ⟨.hbm, 282, rfl⟩
abbrev main_while0b_v329 : Ref sig .tc := ⟨.hbm, 283, rfl⟩
abbrev main_while0b_v330 : Ref sig .tc := ⟨.hbm, 284, rfl⟩
abbrev main_while0b_v331 : Ref sig .tc := ⟨.hbm, 285, rfl⟩
abbrev main_while0b_v332 : Ref sig .tc := ⟨.hbm, 286, rfl⟩
abbrev main_while0b_v333 : Ref sig .tc := ⟨.hbm, 287, rfl⟩
abbrev main_while0b_v334 : Ref sig .tc := ⟨.hbm, 288, rfl⟩
abbrev main_while0b_v335 : Ref sig .tc := ⟨.hbm, 289, rfl⟩
abbrev main_while0b_v336 : Ref sig .tc := ⟨.hbm, 290, rfl⟩
abbrev main_while0b_v337 : Ref sig .tc := ⟨.hbm, 291, rfl⟩
abbrev main_while0b_v338 : Ref sig .tc := ⟨.hbm, 292, rfl⟩
abbrev main_while0b_v339 : Ref sig .tc := ⟨.hbm, 293, rfl⟩
abbrev main_while0b_v340 : Ref sig .tc := ⟨.hbm, 294, rfl⟩
abbrev main_while0b_v341 : Ref sig .tc := ⟨.hbm, 295, rfl⟩
abbrev main_while0b_v342 : Ref sig .tc := ⟨.hbm, 296, rfl⟩
abbrev main_while0b_cst_37 : Ref sig .tc := ⟨.hbm, 297, rfl⟩
abbrev main_while0b_v343 : Ref sig .tc := ⟨.hbm, 298, rfl⟩
abbrev main_while0b_v344 : Ref sig .tc := ⟨.hbm, 299, rfl⟩
abbrev main_while0b_cst_38 : Ref sig .tc := ⟨.hbm, 300, rfl⟩
abbrev main_while0b_v345 : Ref sig .tc := ⟨.hbm, 301, rfl⟩
abbrev main_while0b_v346 : Ref sig .tc := ⟨.hbm, 302, rfl⟩
abbrev main_while0b_v347 : Ref sig .tc := ⟨.hbm, 303, rfl⟩
abbrev main_while0b_v348 : Ref sig .tc := ⟨.hbm, 304, rfl⟩
abbrev main_while0b_v349 : Ref sig .tc := ⟨.hbm, 305, rfl⟩
abbrev main_while0b_v350 : Ref sig .tc := ⟨.hbm, 306, rfl⟩
abbrev main_while0b_v351 : Ref sig .tc := ⟨.hbm, 307, rfl⟩
abbrev main_while0b_v352 : Ref sig .tc := ⟨.hbm, 308, rfl⟩
abbrev main_while0b_cst_39 : Ref sig .tc := ⟨.hbm, 309, rfl⟩
abbrev main_while0b_v353 : Ref sig .tc := ⟨.hbm, 310, rfl⟩
abbrev main_while0b_v354 : Ref sig .tc := ⟨.hbm, 311, rfl⟩
abbrev main_while0b_v355 : Ref sig .tc := ⟨.hbm, 312, rfl⟩
abbrev main_while0b_v356 : Ref sig .tc := ⟨.hbm, 313, rfl⟩
abbrev main_while0b_v357 : Ref sig .tc := ⟨.hbm, 314, rfl⟩
abbrev main_while0b_cst_40 : Ref sig .tc := ⟨.hbm, 315, rfl⟩
abbrev main_while0b_v358 : Ref sig .tc := ⟨.hbm, 316, rfl⟩
abbrev main_while0b_v359 : Ref sig .tc := ⟨.hbm, 317, rfl⟩
abbrev main_while0b_v360 : Ref sig .tc := ⟨.hbm, 318, rfl⟩
abbrev main_while0b_v361 : Ref sig .tc := ⟨.hbm, 319, rfl⟩
abbrev main_while0b_v362 : Ref sig .tc := ⟨.hbm, 320, rfl⟩
abbrev main_while0b_c_41 : Ref sig .tc := ⟨.hbm, 321, rfl⟩
abbrev main_while0b_v363 : Ref sig .tc := ⟨.hbm, 322, rfl⟩
abbrev main_cst_5 : Ref sig .tc := ⟨.hbm, 323, rfl⟩
abbrev main_v75 : Ref sig .tc := ⟨.hbm, 324, rfl⟩
abbrev main_v76 : Ref sig .tc := ⟨.hbm, 325, rfl⟩
abbrev main_v77 : Ref sig .tc := ⟨.hbm, 326, rfl⟩
abbrev main_v78 : Ref sig .tc := ⟨.hbm, 327, rfl⟩
abbrev main_cst_6 : Ref sig .tc := ⟨.hbm, 328, rfl⟩
abbrev main_v79 : Ref sig .tc := ⟨.hbm, 329, rfl⟩
abbrev main_v80 : Ref sig .tc := ⟨.hbm, 330, rfl⟩
abbrev main_v81 : Ref sig .tc := ⟨.hbm, 331, rfl⟩
abbrev main_call8_c : Ref sig .tc := ⟨.hbm, 332, rfl⟩
abbrev main_call8_v0 : Ref sig .tc := ⟨.hbm, 333, rfl⟩
abbrev main_call8_v1 : Ref sig .tc := ⟨.hbm, 334, rfl⟩
abbrev main_call8_c_0 : Ref sig .tc := ⟨.hbm, 335, rfl⟩
abbrev main_call8_v2 : Ref sig .tc := ⟨.hbm, 336, rfl⟩
abbrev main_call8_v3 : Ref sig .tc := ⟨.hbm, 337, rfl⟩
abbrev main_call8_v4 : Ref sig .tc := ⟨.hbm, 338, rfl⟩
abbrev main_call8_v5 : Ref sig .tc := ⟨.hbm, 339, rfl⟩
abbrev main_call8_c_1 : Ref sig .tc := ⟨.hbm, 340, rfl⟩
abbrev main_call8_c_2 : Ref sig .tc := ⟨.hbm, 341, rfl⟩
abbrev main_call8_v6 : Ref sig .tc := ⟨.hbm, 342, rfl⟩
abbrev main_call8_v7 : Ref sig .tc := ⟨.hbm, 343, rfl⟩
abbrev main_call8_v8 : Ref sig .tc := ⟨.hbm, 344, rfl⟩
abbrev main_call8_v9 : Ref sig .tc := ⟨.hbm, 345, rfl⟩
abbrev main_call8_v10 : Ref sig .tc := ⟨.hbm, 346, rfl⟩
abbrev main_call8_v11 : Ref sig .tc := ⟨.hbm, 347, rfl⟩
abbrev main_call8_c_3 : Ref sig .tc := ⟨.hbm, 348, rfl⟩
abbrev main_call8_v12 : Ref sig .tc := ⟨.hbm, 349, rfl⟩
abbrev main_call8_v13 : Ref sig .tc := ⟨.hbm, 350, rfl⟩
abbrev main_call8_v14 : Ref sig .tc := ⟨.hbm, 351, rfl⟩
abbrev main_call8_cst : Ref sig .tc := ⟨.hbm, 352, rfl⟩
abbrev main_call8_v15 : Ref sig .tc := ⟨.hbm, 353, rfl⟩
abbrev main_v82 : Ref sig .tc := ⟨.hbm, 354, rfl⟩
abbrev main_cst_7 : Ref sig .tc := ⟨.hbm, 355, rfl⟩
abbrev main_v83 : Ref sig .tc := ⟨.hbm, 356, rfl⟩
abbrev main_cst_8 : Ref sig .tc := ⟨.hbm, 357, rfl⟩
abbrev main_v84 : Ref sig .tc := ⟨.hbm, 358, rfl⟩
abbrev main_v85 : Ref sig .tc := ⟨.hbm, 359, rfl⟩
abbrev main_v86 : Ref sig .tc := ⟨.hbm, 360, rfl⟩
abbrev main_v87 : Ref sig .tc := ⟨.hbm, 361, rfl⟩
abbrev main_v88 : Ref sig .tc := ⟨.hbm, 362, rfl⟩
abbrev main_c_9 : Ref sig .tc := ⟨.hbm, 363, rfl⟩
abbrev main_call9_v0 : Ref sig .tc := ⟨.hbm, 364, rfl⟩
abbrev main_v89 : Ref sig .tc := ⟨.hbm, 365, rfl⟩
abbrev main_cst_10 : Ref sig .tc := ⟨.hbm, 366, rfl⟩
abbrev main_v90 : Ref sig .tc := ⟨.hbm, 367, rfl⟩
abbrev main_v91 : Ref sig .tc := ⟨.hbm, 368, rfl⟩
abbrev main_v92 : Ref sig .tc := ⟨.hbm, 369, rfl⟩
abbrev main_v93 : Ref sig .tc := ⟨.hbm, 370, rfl⟩
abbrev main_v94 : Ref sig .tc := ⟨.hbm, 371, rfl⟩
abbrev main_v95 : Ref sig .tc := ⟨.hbm, 372, rfl⟩
abbrev main_v96 : Ref sig .tc := ⟨.hbm, 373, rfl⟩
abbrev main_v97 : Ref sig .tc := ⟨.hbm, 374, rfl⟩
abbrev main_v98 : Ref sig .tc := ⟨.hbm, 375, rfl⟩
abbrev main_v99 : Ref sig .tc := ⟨.hbm, 376, rfl⟩
abbrev main_v100 : Ref sig .tc := ⟨.hbm, 377, rfl⟩
abbrev main_v101 : Ref sig .tc := ⟨.hbm, 378, rfl⟩
abbrev main_v102 : Ref sig .tc := ⟨.hbm, 379, rfl⟩
abbrev main_v103 : Ref sig .tc := ⟨.hbm, 380, rfl⟩
abbrev main_v104 : Ref sig .tc := ⟨.hbm, 381, rfl⟩
abbrev main_v105 : Ref sig .tc := ⟨.hbm, 382, rfl⟩
abbrev main_v106 : Ref sig .tc := ⟨.hbm, 383, rfl⟩
abbrev main_v107 : Ref sig .tc := ⟨.hbm, 384, rfl⟩
abbrev main_v108 : Ref sig .tc := ⟨.hbm, 385, rfl⟩
abbrev main_v109 : Ref sig .tc := ⟨.hbm, 386, rfl⟩
abbrev main_v110 : Ref sig .tc := ⟨.hbm, 387, rfl⟩
abbrev main_v111 : Ref sig .tc := ⟨.hbm, 388, rfl⟩
abbrev main_v112 : Ref sig .tc := ⟨.hbm, 389, rfl⟩
abbrev main_v113 : Ref sig .tc := ⟨.hbm, 390, rfl⟩
abbrev main_v114 : Ref sig .tc := ⟨.hbm, 391, rfl⟩
abbrev main_v115 : Ref sig .tc := ⟨.hbm, 392, rfl⟩
abbrev main_v116 : Ref sig .tc := ⟨.hbm, 393, rfl⟩
abbrev main_v117 : Ref sig .tc := ⟨.hbm, 394, rfl⟩
abbrev main_v118 : Ref sig .tc := ⟨.hbm, 395, rfl⟩
abbrev main_v119 : Ref sig .tc := ⟨.hbm, 396, rfl⟩
abbrev main_v120 : Ref sig .tc := ⟨.hbm, 397, rfl⟩
abbrev main_v121 : Ref sig .tc := ⟨.hbm, 398, rfl⟩
abbrev main_v122 : Ref sig .tc := ⟨.hbm, 399, rfl⟩
abbrev main_v123 : Ref sig .tc := ⟨.hbm, 400, rfl⟩
abbrev main_v124 : Ref sig .tc := ⟨.hbm, 401, rfl⟩
abbrev main_v125 : Ref sig .tc := ⟨.hbm, 402, rfl⟩
abbrev main_v126 : Ref sig .tc := ⟨.hbm, 403, rfl⟩
abbrev main_v127 : Ref sig .tc := ⟨.hbm, 404, rfl⟩
abbrev main_v128 : Ref sig .tc := ⟨.hbm, 405, rfl⟩
abbrev main_v129 : Ref sig .tc := ⟨.hbm, 406, rfl⟩
abbrev main_v130 : Ref sig .tc := ⟨.hbm, 407, rfl⟩
abbrev main_v131 : Ref sig .tc := ⟨.hbm, 408, rfl⟩
abbrev main_v132 : Ref sig .tc := ⟨.hbm, 409, rfl⟩
abbrev main_v133 : Ref sig .tc := ⟨.hbm, 410, rfl⟩
abbrev main_v134 : Ref sig .tc := ⟨.hbm, 411, rfl⟩
abbrev main_v135 : Ref sig .tc := ⟨.hbm, 412, rfl⟩
abbrev main_v136 : Ref sig .tc := ⟨.hbm, 413, rfl⟩
abbrev main_v137 : Ref sig .tc := ⟨.hbm, 414, rfl⟩
abbrev main_v138 : Ref sig .tc := ⟨.hbm, 415, rfl⟩
abbrev main_v139 : Ref sig .tc := ⟨.hbm, 416, rfl⟩
abbrev main_v140 : Ref sig .tc := ⟨.hbm, 417, rfl⟩
abbrev main_v141 : Ref sig .tc := ⟨.hbm, 418, rfl⟩
abbrev main_v142 : Ref sig .tc := ⟨.hbm, 419, rfl⟩
abbrev main_cst_11 : Ref sig .tc := ⟨.hbm, 420, rfl⟩
abbrev main_v143 : Ref sig .tc := ⟨.hbm, 421, rfl⟩
abbrev main_v144 : Ref sig .tc := ⟨.hbm, 422, rfl⟩
abbrev main_cst_12 : Ref sig .tc := ⟨.hbm, 423, rfl⟩
abbrev main_v145 : Ref sig .tc := ⟨.hbm, 424, rfl⟩
abbrev main_v146 : Ref sig .tc := ⟨.hbm, 425, rfl⟩
abbrev main_v147 : Ref sig .tc := ⟨.hbm, 426, rfl⟩
abbrev main_v148 : Ref sig .tc := ⟨.hbm, 427, rfl⟩
abbrev main_v149 : Ref sig .tc := ⟨.hbm, 428, rfl⟩
abbrev main_v150 : Ref sig .tc := ⟨.hbm, 429, rfl⟩
abbrev main_v151 : Ref sig .tc := ⟨.hbm, 430, rfl⟩
abbrev main_c_13 : Ref sig .tc := ⟨.hbm, 431, rfl⟩
abbrev main_call10_v0 : Ref sig .tc := ⟨.hbm, 432, rfl⟩
abbrev main_v152 : Ref sig .tc := ⟨.hbm, 433, rfl⟩
abbrev main_cst_14 : Ref sig .tc := ⟨.hbm, 434, rfl⟩
abbrev main_v153 : Ref sig .tc := ⟨.hbm, 435, rfl⟩
abbrev main_v154 : Ref sig .tc := ⟨.hbm, 436, rfl⟩
abbrev main_v155 : Ref sig .tc := ⟨.hbm, 437, rfl⟩
abbrev main_v156 : Ref sig .tc := ⟨.hbm, 438, rfl⟩
abbrev main_v157 : Ref sig .tc := ⟨.hbm, 439, rfl⟩
abbrev main_v158 : Ref sig .tc := ⟨.hbm, 440, rfl⟩
abbrev main_v159 : Ref sig .tc := ⟨.hbm, 441, rfl⟩
abbrev main_v160 : Ref sig .tc := ⟨.hbm, 442, rfl⟩
abbrev main_v161 : Ref sig .tc := ⟨.hbm, 443, rfl⟩
abbrev main_v162 : Ref sig .tc := ⟨.hbm, 444, rfl⟩
abbrev main_v163 : Ref sig .tc := ⟨.hbm, 445, rfl⟩
abbrev main_v164 : Ref sig .tc := ⟨.hbm, 446, rfl⟩
abbrev main_v165 : Ref sig .tc := ⟨.hbm, 447, rfl⟩
abbrev main_v166 : Ref sig .tc := ⟨.hbm, 448, rfl⟩
abbrev main_v167 : Ref sig .tc := ⟨.hbm, 449, rfl⟩
abbrev main_v168 : Ref sig .tc := ⟨.hbm, 450, rfl⟩
abbrev main_v169 : Ref sig .tc := ⟨.hbm, 451, rfl⟩
abbrev main_v170 : Ref sig .tc := ⟨.hbm, 452, rfl⟩
abbrev main_v171 : Ref sig .tc := ⟨.hbm, 453, rfl⟩
abbrev main_v172 : Ref sig .tc := ⟨.hbm, 454, rfl⟩
abbrev main_v173 : Ref sig .tc := ⟨.hbm, 455, rfl⟩
abbrev main_v174 : Ref sig .tc := ⟨.hbm, 456, rfl⟩
abbrev main_v175 : Ref sig .tc := ⟨.hbm, 457, rfl⟩
abbrev main_v176 : Ref sig .tc := ⟨.hbm, 458, rfl⟩
abbrev main_v177 : Ref sig .tc := ⟨.hbm, 459, rfl⟩
abbrev main_v178 : Ref sig .tc := ⟨.hbm, 460, rfl⟩
abbrev main_v179 : Ref sig .tc := ⟨.hbm, 461, rfl⟩
abbrev main_v180 : Ref sig .tc := ⟨.hbm, 462, rfl⟩
abbrev main_v181 : Ref sig .tc := ⟨.hbm, 463, rfl⟩
abbrev main_v182 : Ref sig .tc := ⟨.hbm, 464, rfl⟩
abbrev main_v183 : Ref sig .tc := ⟨.hbm, 465, rfl⟩
abbrev main_v184 : Ref sig .tc := ⟨.hbm, 466, rfl⟩
abbrev main_v185 : Ref sig .tc := ⟨.hbm, 467, rfl⟩
abbrev main_v186 : Ref sig .tc := ⟨.hbm, 468, rfl⟩
abbrev main_v187 : Ref sig .tc := ⟨.hbm, 469, rfl⟩
abbrev main_v188 : Ref sig .tc := ⟨.hbm, 470, rfl⟩
abbrev main_v189 : Ref sig .tc := ⟨.hbm, 471, rfl⟩
abbrev main_v190 : Ref sig .tc := ⟨.hbm, 472, rfl⟩
abbrev main_v191 : Ref sig .tc := ⟨.hbm, 473, rfl⟩
abbrev main_v192 : Ref sig .tc := ⟨.hbm, 474, rfl⟩
abbrev main_v193 : Ref sig .tc := ⟨.hbm, 475, rfl⟩
abbrev main_v194 : Ref sig .tc := ⟨.hbm, 476, rfl⟩
abbrev main_v195 : Ref sig .tc := ⟨.hbm, 477, rfl⟩
abbrev main_v196 : Ref sig .tc := ⟨.hbm, 478, rfl⟩
abbrev main_v197 : Ref sig .tc := ⟨.hbm, 479, rfl⟩
abbrev main_v198 : Ref sig .tc := ⟨.hbm, 480, rfl⟩
abbrev main_v199 : Ref sig .tc := ⟨.hbm, 481, rfl⟩
abbrev main_v200 : Ref sig .tc := ⟨.hbm, 482, rfl⟩
abbrev main_v201 : Ref sig .tc := ⟨.hbm, 483, rfl⟩
abbrev main_v202 : Ref sig .tc := ⟨.hbm, 484, rfl⟩
abbrev main_v203 : Ref sig .tc := ⟨.hbm, 485, rfl⟩
abbrev main_v204 : Ref sig .tc := ⟨.hbm, 486, rfl⟩
abbrev main_v205 : Ref sig .tc := ⟨.hbm, 487, rfl⟩
abbrev main_cst_15 : Ref sig .tc := ⟨.hbm, 488, rfl⟩
abbrev main_v206 : Ref sig .tc := ⟨.hbm, 489, rfl⟩
abbrev main_v207 : Ref sig .tc := ⟨.hbm, 490, rfl⟩
abbrev main_cst_16 : Ref sig .tc := ⟨.hbm, 491, rfl⟩
abbrev main_v208 : Ref sig .tc := ⟨.hbm, 492, rfl⟩
abbrev main_v209 : Ref sig .tc := ⟨.hbm, 493, rfl⟩
abbrev main_cst_17 : Ref sig .tc := ⟨.hbm, 494, rfl⟩
abbrev main_v210 : Ref sig .tc := ⟨.hbm, 495, rfl⟩
abbrev main_cst_18 : Ref sig .tc := ⟨.hbm, 496, rfl⟩
abbrev main_v211 : Ref sig .tc := ⟨.hbm, 497, rfl⟩
abbrev main_v212 : Ref sig .tc := ⟨.hbm, 498, rfl⟩
abbrev main_v213 : Ref sig .tc := ⟨.hbm, 499, rfl⟩
abbrev main_v214 : Ref sig .tc := ⟨.hbm, 500, rfl⟩

abbrev nD : Nat := 1
abbrev τ : Topo := Topo.v7x

variable {F : FTy → Type} [FloatOps F]

abbrev main_while0_count : Scf.Loop 32 := ⟨0#32, 199#32, 1#32⟩
-- ==== Proof.GatherBatch.lean ====
/-
  Several indirect gathers outstanding on ONE semaphore. Each row that a stream transfers is one transfer of a
  counted batch (`Transfers.Batch`), so that the waits — each of one stream's credit — hand nothing back until the
  last of them, which hands back every row of every stream. `wp_gatherBatch` is the issue of one such stream.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

section Pending

variable {M : Type} [URA M] {n : ℕ}

/-- The items pending from `j` are the next `o` of them and those pending from `j + o`. -/
theorem pending_block {j : ℕ} : ∀ {o : ℕ} (hj : j + o ≤ n) (Φ : Fin n → sProp M),
    bigSep (Transfers.pending j) Φ
      = iprop((bigSep Finset.univ fun k : Fin o => Φ ⟨j + k.val, by omega⟩) ∗ bigSep (Transfers.pending (j + o)) Φ) := by
  intro o hj Φ
  classical
  have hinj : Function.Injective (fun k : Fin o => (⟨j + k.val, by omega⟩ : Fin n)) := fun a b h => by
    have := congrArg Fin.val h; exact Fin.ext (Nat.add_left_cancel this)
  let f : Fin o ↪ Fin n := ⟨_, hinj⟩
  have hfv : ∀ k, (f k).val = j + k.val := fun _ => rfl
  have hmem : ∀ (i : ℕ) (t : Fin n), t ∈ Transfers.pending (n := n) i ↔ i ≤ t.val := fun i t => by
    rw [Transfers.pending, Finset.mem_filter]; exact ⟨fun h => h.2, fun h => ⟨Finset.mem_univ _, h⟩⟩
  have hset : Transfers.pending (n := n) j = (Finset.univ.map f) ∪ Transfers.pending (j + o) := by
    ext t
    rw [Finset.mem_union, hmem, hmem, Finset.mem_map]
    constructor
    · intro h
      by_cases h' : j + o ≤ t.val
      · exact .inr h'
      · exact .inl ⟨⟨t.val - j, by omega⟩, Finset.mem_univ _, Fin.ext (by rw [hfv]; simp only; omega)⟩
    · rintro (⟨k, -, rfl⟩ | h)
      · rw [hfv]; omega
      · omega
  have hdis : Disjoint (Finset.univ.map f) (Transfers.pending (n := n) (j + o)) := by
    rw [Finset.disjoint_left]
    intro t ht ht'
    obtain ⟨k, -, rfl⟩ := Finset.mem_map.mp ht
    rw [hmem, hfv] at ht'
    omega
  rw [hset, BI.bigSep_union hdis, BI.bigSep_map]
  rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What the gather's row `k` needs of memory: its row of the destination, its entry of the offset list, its piece of the
    source. -/
def need (src : Memref sig c.2.kind sp s₀ e) (dst : Memref sig c.2.kind .vmem s e) (hg : s₀.Gathers a s)
    (offs : Memref sig c.2.kind .vmem si .i32) (hn : si.numel = s.size hg.axis')
    (qk : Fin (s.size hg.axis') → PosShare TreeShare) (qo : PosShare TreeShare) (fs : Buf (Elt F) (src.view.loc c))
    (fd : Buf (Elt F) (dst.view.loc c)) (fo : Buf (Elt F) (offs.view.loc c)) (k : Fin (s.size hg.axis')) : sProp 𝕄 :=
  iprop(((dst.view.loc c ↦[(dst.view.slice (s.rowRect hg.axis' k)).set]{fullShare} fd)
      ∗ (offs.view.loc c ↦[{offs.view.emb (si.rowMajor.symm (k.cast hn.symm))}]{qo} fo))
    ∗ (src.view.loc c ↦[src.view.set]{qk k} fs))

/-- The next stream of a batch: with the resources of all rows not yet issued and the batch with `j` rows issued, the tile
    issues the stream's `o` rows; row `k` takes what `R` holds for item `j + k` and delivers `D` of it. -/
theorem wp_gatherBatch [Infinite Name] [EC.LandsIn (upEmb : UEmb _ 𝕄)] {n : ℕ} {D R : Fin n → sProp 𝕄}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qk : Fin (s.size hg.axis') → PosShare TreeShare} {qo : PosShare TreeShare} {fs : Buf (Elt F) (src.view.loc c)}
    {fd : Buf (Elt F) (dst.view.loc c)} {fo : Buf (Elt F) (offs.view.loc c)}
    (ι : Ix) (N j u : ℕ) (hN : ∀ j, (dst.slice (s.rowRect hg.axis' j) (s.stride_rowRect hg.axis' j)).view.dmaCredit = N)
    (hj : j + s.size hg.axis' ≤ n) (hu : u ≤ j * N) (hin : ∀ x, (offs.view.read (Elt F) fo x).toNat < s₀.size hg.axis)
    (hR : ∀ k : Fin (s.size hg.axis'), R ⟨j + k.val, by omega⟩ ⊢ need c src dst hg offs hn qk qo fs fd fo k)
    (hD : ∀ k : Fin (s.size hg.axis'), need c src dst hg offs hn qk qo fs
        ((dst.view.slice (s.rowRect hg.axis' k)).write (Elt F) fd
          (fun i => src.view.read (Elt F) fs (hg.rowIdx (rows (offs.view.read (Elt F) fo) hn hin k) i)) Finset.univ) fo k
        ⊢ D ⟨j + k.val, by omega⟩) :
    iprop(bigSep (Transfers.pending j) R ∗ Transfers.Batch EC c (.dma sem) ι N D j u)
      ⊢ iprop((iprop(bigSep (Transfers.pending (j + s.size hg.axis')) R
                ∗ Transfers.Batch EC c (.dma sem) ι N D (j + s.size hg.axis') u)
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ k, (rd k).dst.view.dmaCredit = s.size hg.axis' * N := by
    rw [Finset.sum_congr rfl (fun k _ => hN k), Finset.sum_const, Finset.card_univ, Fintype.card_fin, smul_eq_mul]
  unfold Transfers.Batch
  iintro ⟨HR, ⟨%γ, %γ₀, %κ, #Hinv, HI, H0, Hcred⟩⟩ Hk
  ihave HI' := (Entails.of_eq (pending_block hj (fun t => count EC (γ t) 0))) $$ HI
  icases HI' with ⟨Ht, HI⟩
  ihave HR' := (Entails.of_eq (pending_block hj R)) $$ HR
  icases HR' with ⟨Hr, HR⟩
  iapply (wp_enqueueIndirectDma 𝒱 c bd Set.univ (qo := qo) (fo := fo) (rd := rd) ι (s.size hg.axis' * N) hA hrd hsum) $$ [Ht Hr]
  · have hrow : ∀ k : Fin (s.size hg.axis'), iprop(inv κ (Transfers.batchBody EC (c, SemLoc.dma sem) N D γ γ₀)
          ∗ (count EC (γ ⟨j + k.val, by omega⟩) 0 ∗ R ⟨j + k.val, by omega⟩))
        ⊢ iprop(S.heldEntry qo fo k ∗ (S.heldEntry qo fo k -∗ rowRes c (rd k))) := fun k => by
      iintro ⟨#Hinv, Hc, HRk⟩
      ihave Hn := (hR k) $$ HRk
      unfold need
      icases Hn with ⟨⟨Hd, He⟩, Hs⟩
      isplitl [He]; · iexact He
      iintro He
      unfold rowRes
      iexists qk k, fs, iprop((dst.view.loc c ↦[(dst.view.slice (s.rowRect hg.axis' k)).set]{fullShare} ((dst.view.slice (s.rowRect hg.axis' k)).write (Elt F) fd (w k) Finset.univ)) ∗ S.heldEntry qo fo k)
      isplitl [Hs]; · iexact Hs
      isplitl [Hd He]
      · iapply writeUpdate_frame
        isplitl [Hd]
        · iapply (pointsTo_writeUpdate c (v := dst.view.slice (s.rowRect hg.axis' k)) subset_rfl) $$ Hd
        · iexact He
      · rw [show (rd k).dst.view.amount (SemLoc.dma sem) = N from hN k]
        iapply (Transfers.batch_creditUpdate EC (N := N) (D := D) ⟨j + k.val, by omega⟩ (hD k))
        isplitr; · iexact Hinv
        iexact Hc
    unfold Stream.res
    ihave H1 := Transfers.bigSep_sep_in _ _ _ $$ [Ht Hr]; · isplitl [Ht] <;> iassumption
    iapply (Transfers.bigSep_mono_pers Finset.univ _ _ _ fun k _ => hrow k)
    isplitr; · iexact Hinv
    iexact H1
  iintro Hcred'
  iapply Hk
  isplitl [HR]; · iexact HR
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.GatherBatch

end
-- ==== Proof.Tile.lean ====
/-
  The gather kernel of `KernelIdeal` on one tile (SparseCore, vector subcore), for whatever model of the floats: the copy
  of the tile's 600 row numbers into its index scratch, five indirect gathers of 120 rows each, all outstanding on one
  semaphore, their five waits, and the write-out of the 600 rows. The table's rows that the list names arrive in the
  tile's block of the result: `tile_body`. The five gathers are one counted batch of 600 row transfers (GatherBatch).
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the TensorCore call beside the gather's. -/
abbrev ΛP : Labels := Pipeline.Sig Λ₀ (Fin 1) fun p => (pcfgs (F := F) p).Adm
/-- The SparseCore's configuration. -/
abbrev K : SparseCore.Cfg τ sig (ΛP (F := F)) 1 := sc (F := F)
/-- The gather runs on 16 tiles -/
theorem nSub_zero : (K (F := F)).nSub 0 = 16 := rfl
/-- of each of 2 SparseCores. -/
theorem nCore_zero : (K (F := F)).nCore 0 = 2 := rfl
/-- The definitions they extend to. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

/-- Where the table lies, -/
abbrev tLoc (d : Dev nD) : Loc nD τ sig := (SparseCore.T d).loc main_arg0
/-- where the list lies, -/
abbrev iLoc (d : Dev nD) : Loc nD τ sig := (SparseCore.T d).loc main_v3
/-- and where the rows go. -/
abbrev oLoc (d : Dev nD) : Loc nD τ sig := (SparseCore.T d).loc main_v4

local notation "tV" => (Memref.whole Cert.KernelIdeal.main_arg0_scv : Memref Cert.KernelIdeal.sig Kind.scVector Space.hbm Cert.KernelIdeal.S100000x128 EltTy.f32)
local notation "iV" => (Memref.whole Cert.KernelIdeal.main_v3_scv : Memref Cert.KernelIdeal.sig Kind.scVector Space.hbm Cert.KernelIdeal.S19200 EltTy.i32)
local notation "oV" => (Memref.whole Cert.KernelIdeal.main_v4_scv : Memref Cert.KernelIdeal.sig Kind.scVector Space.hbm Cert.KernelIdeal.S19200x128 EltTy.f32)
local notation "sV" => (Memref.whole Cert.KernelIdeal.cc0_scratch0 : Memref Cert.KernelIdeal.sig Kind.scVector Space.vmem Cert.KernelIdeal.S600 EltTy.i32)
local notation "rV" => (Memref.whole Cert.KernelIdeal.cc0_scratch1 : Memref Cert.KernelIdeal.sig Kind.scVector Space.vmem Cert.KernelIdeal.S600x128 EltTy.f32)

/-- The list splits in 32 parts, -/
theorem idiv : 32 ∣ S19200.size 0 := ⟨600, rfl⟩
/-- and so do the rows. -/
theorem odiv : 32 ∣ S19200x128.size 0 := ⟨600, rfl⟩
/-- Part `w` of the list. -/
abbrev irow (w : Fin 32) : Rect S19200 := Rect.part (s := S19200) (a₀ := 0) idiv w
/-- Part `w` of the rows. -/
abbrev orow (w : Fin 32) : Rect S19200x128 := Rect.part (s := S19200x128) (a₀ := 0) odiv w
/-- Its places. -/
abbrev iSet (w : Fin 32) : Finset S19200.Idx := (irow w).set
/-- Its places. -/
abbrev oSet (w : Fin 32) : Finset S19200x128.Idx := (orow w).set
/-- Worker `w`'s share of the table: one of 32 pieces of the full share. -/
abbrev tq (w : Fin 32) : PosShare TreeShare := pieceOf fullShare 32 (by decide) w

/-- The place in the table at row `i`, column `j`. -/
def tIx (i : Fin 100000) (j : Fin 128) : S100000x128.Idx := fun a => match a with | 0 => i | 1 => j
/-- The place of entry `i` in the list of row numbers. -/
def lIx (i : Fin 19200) : S19200.Idx := fun a => match a with | 0 => i
/-- The place of entry `i` in a tile's list of row numbers. -/
def eIx (i : Fin 600) : S600.Idx := fun a => match a with | 0 => i
/-- The row a word names. -/
def rowNo (v : BitVec 32) : Fin 100000 := ⟨v.toNat % 100000, Nat.mod_lt _ (by decide)⟩

/-- The rows of the table `t` that the list `l` names, one below the other. -/
def gath (t : S100000x128.Idx → Elt F .f32) (l : S19200.Idx → BitVec 32) : S19200x128.Idx → Elt F .f32 :=
  fun x => t (tIx (rowNo (l (lIx (x 0)))) (x 1))

variable (tb : (d : Dev nD) → Buf (Elt F) (tLoc d)) (ix : (d : Dev nD) → Buf (Elt F) (iLoc d))

/-- What the run asks of the list: every word names a row of the table. -/
def OkIx : Prop := ∀ (d : Dev nD) (j : S19200.Idx), (show BitVec 32 from ix d j).toNat < 100000

/-- The rows gathered. -/
abbrev gathB (d : Dev nD) : Buf (Elt F) (oLoc d) := gath (F := F) (tb d) (ix d)

section Task

variable (d : Dev nD) (L : grid0.Coords)

/-- A tile's SparseCore. -/
abbrev cV (L : grid0.Coords) : Fin τ.nSC := (L 0).castLE hcore0
/-- A tile's number on it. -/
abbrev jV (L : grid0.Coords) : Fin τ.nSub := (L 1).castLE hsub0
/-- Two SparseCores, -/
theorem bound_zero : grid0.bound 0 = 2 := rfl
/-- sixteen tiles each. -/
theorem bound_one : grid0.bound 1 = 16 := rfl
/-- The worker's number: two per subcore index, the SparseCore the parity. -/
def wid (L : grid0.Coords) : Fin 32 :=
  ⟨2 * (L 1).val + (L 0).val, by
    have h0 : (L 0).val < 2 := (L 0).isLt
    have h1 : (L 1).val < 16 := (L 1).isLt
    omega⟩

/-- A tile's thread. -/
abbrev thr (d : Dev nD) (L : grid0.Coords) : Thread nD τ := V d (cV L) (jV L)
/-- Its list scratch. -/
abbrev sLoc (d : Dev nD) (L : grid0.Coords) : Loc nD τ sig := (thr d L).loc cc0_scratch0
/-- Its row scratch. -/
abbrev rLoc (d : Dev nD) (L : grid0.Coords) : Loc nD τ sig := (thr d L).loc cc0_scratch1

/-- A tile's part of the list. -/
abbrev iRowK (L : grid0.Coords) : Memref sig .scVector .hbm S600 .i32 :=
  (iV).slice (Rect.unit (s := S19200) (k0_off1 L) S600.size (k0_off1_inb L)) (fun _ => rfl)
/-- A tile's part of the rows. -/
abbrev oRowK (L : grid0.Coords) : Memref sig .scVector .hbm S600x128 .f32 :=
  (oV).slice (Rect.unit (s := S19200x128) (k0_off2 L) S600x128.size (k0_off2_inb L)) (fun _ => rfl)
/-- The table. -/
abbrev tAllK : Memref sig .scVector .hbm S100000x128 .f32 :=
  (tV).slice (Rect.unit (s := S100000x128) ![0, 0] S100000x128.size inb_S100000x128_S100000x128_0_0) (fun _ => rfl)

/-- The part of the list that a tile copies in is its own, -/
theorem irowK_eq : Rect.unit (s := S19200) (k0_off1 L) S600.size (k0_off1_inb L) = irow (wid L) := by
  unfold irow Rect.part Rect.block
  congr 1 <;> funext a
  · rw [k0_off1_eq]
    match a with
    | 0 => simp [Shape.partIx, Shape.partSize, wid]; omega
  · match a with
    | 0 => simp [Shape.partSize]
/-- and so is the part of the rows that it copies out. -/
theorem orowK_eq : Rect.unit (s := S19200x128) (k0_off2 L) S600x128.size (k0_off2_inb L) = orow (wid L) := by
  unfold orow Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

/-- The places of its part of the list. -/
theorem set_iRowK : (iRowK L).view.set = iSet (wid L) := by
  exact (View.set_slice_whole _ _).trans (congrArg (fun r : Rect S19200 => r.set) (irowK_eq L))
/-- The places of its part of the rows. -/
theorem set_oRowK : (oRowK L).view.set = oSet (wid L) := by
  exact (View.set_slice_whole _ _).trans (congrArg (fun r : Rect S19200x128 => r.set) (orowK_eq L))
/-- The table is read whole. -/
theorem set_tAllK : tAllK.view.set = Finset.univ := by
  refine (View.set_slice_whole _ _).trans (Finset.eq_univ_iff_forall.mpr fun x => Rect.mem_set_unit.mpr fun a => ⟨?_, ?_⟩)
  · match a with
    | 0 => exact Nat.zero_le _
    | 1 => exact Nat.zero_le _
  · match a with
    | 0 => exact (x 0).isLt.trans_eq (Nat.zero_add _).symm
    | 1 => exact (x 1).isLt.trans_eq (Nat.zero_add _).symm

/-- Its part of the list held, in the copy's words. -/
theorem pts_iRowK (f : Buf (Elt F) (iLoc d)) :
    ((iRowK L).view.loc (thr d L) ↦[(iRowK L).view.set]{fullShare} f : sProp 𝕄) = iLoc d ↦[iSet (wid L)]{fullShare} f := by
  rw [set_iRowK]
/-- Its part of the rows held, in the copy's words. -/
theorem pts_oRowK (f : Buf (Elt F) (oLoc d)) :
    ((oRowK L).view.loc (thr d L) ↦[(oRowK L).view.set]{fullShare} f : sProp 𝕄) = oLoc d ↦[oSet (wid L)]{fullShare} f := by
  rw [set_oRowK]
/-- The tile's list scratch held whole, in the copy's words. -/
theorem pts_sV (f : Buf (Elt F) (sLoc d L)) :
    ((sV).view.loc (thr d L) ↦{fullShare} f : sProp 𝕄) = sLoc d L ↦{fullShare} f := rfl
/-- The tile's row scratch held whole, in the copy's words. -/
theorem pts_rV (f : Buf (Elt F) (rLoc d L)) :
    ((rV).view.loc (thr d L) ↦{fullShare} f : sProp 𝕄) = rLoc d L ↦{fullShare} f := rfl

/-! ## The tile's list and its rows -/

/-- The tile's row numbers: the list at the tile's 600 places. -/
def ofs : S600.Idx → BitVec 32 := (iRowK L).view.read (Elt F) (ix d)

/-- The tile's rows: the table at the rows its list names. -/
def grows : S600x128.Idx → Elt F .f32 := fun x => (show S100000x128.Idx → Elt F .f32 from tb d) (tIx (rowNo (ofs ix d L (eIx (x 0)))) (x 1))

/-- Every word of a tile's part names a row. -/
theorem ofs_lt (hok : OkIx ix) (x : S600.Idx) : (ofs ix d L x).toNat < 100000 := hok d _

/-- What the tile writes to its block of the result is what the gathered rows are there. -/
theorem grows_eq (y : S600x128.Idx) : grows tb ix d L y = gathB tb ix d ((oRowK L).view.emb y) := by
  unfold grows gathB gath
  have e1 : ∀ z : S600.Idx, ofs ix d L z = ix d ((iRowK L).view.emb z) := fun z => (View.read_apply _ _).trans (cast_eq _ _)
  rw [e1]
  have h0 : (iRowK L).view.emb (eIx (y 0)) = lIx ((oRowK L).view.emb y 0) := by
    funext a
    match a with
    | 0 =>
      refine Fin.ext ?_
      change k0_off1 L 0 + 1 * (y 0).val = k0_off2 L 0 + 1 * (y 0).val
      rw [k0_off1_eq, k0_off2_eq]; rfl
  have h1 : y 1 = (oRowK L).view.emb y 1 := by
    refine Fin.ext ?_
    change (y 1).val = k0_off2 L 1 + 1 * (y 1).val
    rw [k0_off2_eq]; simp
  rw [h0, ← h1]

/-! ## Rows as transfers of a batch -/

/-- The places of row `t` of the row scratch. -/
def rowSet (t : Fin 600) : Finset S600x128.Idx := Finset.univ.filter fun x => (x 0).val = t.val

/-- The places of one row. -/
theorem mem_rowSet {t : Fin 600} {x : S600x128.Idx} : x ∈ rowSet t ↔ x 0 = t := by
  unfold rowSet; rw [Finset.mem_filter]; exact ⟨fun h => Fin.ext h.2, fun h => ⟨Finset.mem_univ _, congrArg Fin.val h⟩⟩

/-- Rows are disjoint -/
theorem rows_disjoint : ∀ t ∈ (Finset.univ : Finset (Fin 600)), ∀ t' ∈ (Finset.univ : Finset (Fin 600)), t ≠ t' → Disjoint (rowSet t) (rowSet t') := by
  intro t _ t' _ h
  rw [Finset.disjoint_left]
  intro x hx hx'
  exact h ((mem_rowSet.mp hx).symm.trans (mem_rowSet.mp hx'))
set_option maxRecDepth 8192 in
/-- and cover the scratch. -/
theorem rows_cover : (Finset.univ : Finset (Fin 600)).biUnion rowSet = Finset.univ :=
  Finset.eq_univ_iff_forall.mpr fun x => Finset.mem_biUnion.mpr ⟨x 0, Finset.mem_univ _, mem_rowSet.mpr rfl⟩
/-- Entries are disjoint -/
theorem ents_disjoint : ∀ t ∈ (Finset.univ : Finset (Fin 600)), ∀ t' ∈ (Finset.univ : Finset (Fin 600)), t ≠ t' →
    Disjoint ({eIx t} : Finset S600.Idx) {eIx t'} := by
  intro t _ t' _ h
  exact Finset.disjoint_singleton.mpr fun e => h (congrFun e 0)
/-- An index by its coordinate. -/
theorem eIx_self (x : S600.Idx) : x = eIx (x 0) := funext fun a => match a with | 0 => rfl
set_option maxRecDepth 8192 in
/-- and cover the list. -/
theorem ents_cover : (Finset.univ : Finset (Fin 600)).biUnion (fun t => ({eIx t} : Finset S600.Idx)) = Finset.univ :=
  Finset.eq_univ_iff_forall.mpr fun x => Finset.mem_biUnion.mpr ⟨x 0, Finset.mem_univ _, Finset.mem_singleton.mpr (eIx_self x)⟩

/-- The row scratch held row by row. -/
theorem pts_rows (f : Buf (Elt F) (rLoc d L)) :
    (rLoc d L ↦{fullShare} f : sProp 𝕄) = bigSep Finset.univ fun t : Fin 600 => rLoc d L ↦[rowSet t]{fullShare} f := by
  rw [← pointsTo_biUnion Finset.univ (ℓ := rLoc d L) rowSet rows_disjoint, rows_cover]; try rfl
/-- The list scratch held entry by entry. -/
theorem pts_ents (f : Buf (Elt F) (sLoc d L)) :
    (sLoc d L ↦{fullShare} f : sProp 𝕄) = bigSep Finset.univ fun t : Fin 600 => sLoc d L ↦[{eIx t}]{fullShare} f := by
  rw [← pointsTo_biUnion Finset.univ (ℓ := sLoc d L) (fun t => {eIx t}) ents_disjoint, ents_cover]; try rfl

/-- Row `t`'s piece of the worker's share of the table. -/
abbrev tqr (L : grid0.Coords) (t : Fin 600) : PosShare TreeShare := pieceOf (tq (wid L)) 600 (by decide) t

/-- What row transfer `t` holds, the row scratch at contents `f`: the row, the list's entry, a share of the table. -/
abbrev rowRes (f : Buf (Elt F) (rLoc d L)) (t : Fin 600) : sProp 𝕄 :=
  iprop(((rLoc d L ↦[rowSet t]{fullShare} f) ∗ (sLoc d L ↦[{eIx t}]{fullShare} (ofs ix d L : Buf (Elt F) (sLoc d L))))
    ∗ (tLoc d ↦{tqr L t} tb d))

/-- All the rows' resources together are the row scratch, the list and the worker's share of the table. -/
theorem rowRes_all (f : Buf (Elt F) (rLoc d L)) :
    (bigSep Finset.univ fun t : Fin 600 => rowRes tb ix d L f t)
      = iprop(((rLoc d L ↦{fullShare} f) ∗ (sLoc d L ↦{fullShare} (ofs ix d L : Buf (Elt F) (sLoc d L)))) ∗ (tLoc d ↦{tq (wid L)} tb d)) := by
  rw [bigSep_sep', bigSep_sep', ← pts_rows, ← pts_ents, ← pointsTo_piecesOf]

/-- The slice of the row scratch a gather at row `o` fills, and its entries of the list. -/
abbrev dstK (o : ℕ) (inb : ∀ a, (![o, 0] : Fin 2 → ℕ) a + S120x128.size a ≤ S600x128.size a) : Memref sig .scVector .vmem S120x128 .f32 :=
  (rV).slice (Rect.unit (s := S600x128) ![o, 0] S120x128.size inb) (fun _ => rfl)
/-- A chunk of the list scratch. -/
abbrev offK (o : ℕ) (inb : ∀ a, (![o] : Fin 1 → ℕ) a + S120.size a ≤ S600.size a) : Memref sig .scVector .vmem S120 .i32 :=
  (sV).slice (Rect.unit (s := S600) ![o] S120.size inb) (fun _ => rfl)

local notation "hG" => gathers_S100000x128_S120x128

/-- The row that a copy's entry fills. -/
theorem dst_set (o : ℕ) (ho : o + 120 ≤ 600) (inb) (k : Fin 120) :
    ((dstK o inb).view.slice (S120x128.rowRect (hG).axis' k)).set = rowSet ⟨o + k.val, by omega⟩ := by
  ext x
  rw [View.set, Finset.mem_map, mem_rowSet]
  constructor
  · rintro ⟨y, -, rfl⟩
    refine Fin.ext ?_
    have hy : (y 0).val < 1 := (y 0).isLt
    change o + 1 * (k.val + 1 * (y 0).val) = o + k.val
    omega
  · intro hx
    have hx' : (x 0).val = o + k.val := congrArg Fin.val hx
    refine ⟨fun a => match a with | 0 => ⟨0, Nat.one_pos⟩ | 1 => ⟨(x 1).val, (x 1).isLt⟩, Finset.mem_univ _, ?_⟩
    funext a
    match a with
    | 0 => refine Fin.ext ?_; change o + 1 * (k.val + 1 * 0) = (x 0).val; omega
    | 1 => refine Fin.ext ?_; change 0 + 1 * (0 + 1 * (x 1).val) = (x 1).val; omega

/-- The word that a copy's entry reads. -/
theorem off_emb (o : ℕ) (ho : o + 120 ≤ 600) (inb) (hn : S120.numel = S120x128.size (hG).axis') (k : Fin 120) :
    (offK o inb).view.emb (S120.rowMajor.symm (k.cast hn.symm)) = eIx ⟨o + k.val, by omega⟩ := by
  have h : (S120.rowMajor.symm (k.cast hn.symm) 0).val = k.val := by
    have := Shape.rowMajor_val_one (S120.rowMajor.symm (k.cast hn.symm))
    rw [← this, Equiv.apply_symm_apply]; rfl
  funext a
  match a with
  | 0 => refine Fin.ext ?_; change o + 1 * (S120.rowMajor.symm (k.cast hn.symm) 0).val = o + k.val; rw [h]; omega

/-- The credit of one row's transfer. -/
abbrev Ncr : ℕ := ((rV).slice (S600x128.rowRect 0 (0 : Fin 600)) (S600x128.stride_rowRect 0 (0 : Fin 600))).view.dmaCredit

variable [FloatOps F]

/-- The semaphore of the gathers, -/
abbrev cG (d : Dev nD) (c : Fin τ.nSC) (i : Fin τ.nSub) : GSem nD τ sig := (V d c i, .dma cc0_scratch2.sem)
/-- of the copy in, -/
abbrev cA (d : Dev nD) (c : Fin τ.nSC) (i : Fin τ.nSub) : GSem nD τ sig := (V d c i, .dma cc0_scoped0.sem)
/-- and of the copy out. -/
abbrev cB (d : Dev nD) (c : Fin τ.nSC) (i : Fin τ.nSub) : GSem nD τ sig := (V d c i, .dma cc0_scoped1.sem)

omit [FloatOps F] in
/-- A gathered row, written to row `o + k` of the scratch, is that row of the tile's rows. -/
theorem row_written (hok : OkIx ix) (o : ℕ) (ho : o + 120 ≤ 600) (inb inb') (hn : S120.numel = S120x128.size (hG).axis')
    (hin : ∀ x, ((offK o inb').view.read (Elt F) (ofs ix d L : Buf (Elt F) (sLoc d L)) x).toNat < S100000x128.size (hG).axis)
    (fr : Buf (Elt F) (rLoc d L)) (k : Fin 120) (x : S600x128.Idx) (hx : x ∈ rowSet ⟨o + k.val, by omega⟩) :
    (((dstK o inb).view.slice (S120x128.rowRect (hG).axis' k)).write (Elt F) fr
      (fun i => tAllK.view.read (Elt F) (tb d) ((hG).rowIdx (SparseCore.rows ((offK o inb').view.read (Elt F) (ofs ix d L : Buf (Elt F) (sLoc d L))) hn hin k) i)) Finset.univ) x
      = grows tb ix d L x := by
  have hx0 := mem_rowSet.mp hx
  rw [← dst_set o ho inb k, View.set, Finset.mem_map] at hx
  obtain ⟨y, -, rfl⟩ := hx
  refine (View.write_emb_of_mem _ _ (Finset.mem_univ y)).trans ((cast_eq _ _).trans ?_)
  refine ((View.read_apply _ _).trans (cast_eq _ _)).trans ?_
  unfold grows
  rw [hx0]
  refine congrArg (tb d) ?_
  have hr : (SparseCore.rows ((offK o inb').view.read (Elt F) (ofs ix d L : Buf (Elt F) (sLoc d L))) hn hin k).val
      = (ofs ix d L (eIx ⟨o + k.val, by omega⟩)).toNat := by
    change ((offK o inb').view.read (Elt F) (ofs ix d L : Buf (Elt F) (sLoc d L)) (S120.rowMajor.symm (k.cast hn.symm))).toNat = _
    rw [View.read_apply, off_emb o ho inb' hn k]; rfl
  funext a
  match a with
  | 0 =>
    refine Fin.ext ?_
    have h1 := congrArg Fin.val (Shape.Gathers.rowIdx_axis (hG) (SparseCore.rows ((offK o inb').view.read (Elt F) (ofs ix d L : Buf (Elt F) (sLoc d L))) hn hin k) y)
    change 0 + 1 * ((hG).rowIdx _ y (hG).axis).val = (rowNo _).val
    rw [h1, hr, Nat.zero_add, Nat.one_mul]
    exact (Nat.mod_eq_of_lt (ofs_lt ix d L hok _)).symm
  | 1 =>
    refine Fin.ext ?_
    have h1 := Shape.Gathers.rowIdx_of_ne (hG) (SparseCore.rows ((offK o inb').view.read (Elt F) (ofs ix d L : Buf (Elt F) (sLoc d L))) hn hin k) y 1 (by decide)
    change 0 + 1 * ((hG).rowIdx _ y 1).val = 0 + 1 * (0 + 1 * (y 1).val)
    rw [h1]
    change 0 + 1 * (y 1).val = _
    omega

omit [FloatOps F] in
/-- Every row transfer is worth the same credit. -/
theorem row_credit (o : ℕ) (inb) (k : Fin (S120x128.size (hG).axis')) :
    ((dstK o inb).slice (S120x128.rowRect (hG).axis' k) (S120x128.stride_rowRect (hG).axis' k)).view.dmaCredit = Ncr := rfl

omit [FloatOps F] in
/-- A chunk's row is among the tile's. -/
theorem row_lt {o : ℕ} (ho : o + 120 ≤ 600) (k : Fin (S120x128.size (hG).axis')) : o + k.val < 600 :=
  lt_of_lt_of_le (Nat.add_lt_add_left k.isLt o) ho

omit [FloatOps F] in
/-- What a gather's row `k` needs is what row transfer `o + k` holds, at contents that agree on that row. -/
theorem need_eq (o : ℕ) (ho : o + 120 ≤ 600) (inb inb') (hn : S120.numel = S120x128.size (hG).axis')
    (f g : Buf (Elt F) (rLoc d L)) (k : Fin (S120x128.size (hG).axis')) (hfg : ∀ x ∈ rowSet ⟨o + k.val, row_lt ho k⟩, f x = g x) :
    (GatherBatch.need (thr d L) tAllK (dstK o inb) (hG) (offK o inb') hn (fun kk => tqr L ⟨o + kk.val, row_lt ho kk⟩) fullShare (tb d) f
        (ofs ix d L : Buf (Elt F) (sLoc d L)) k : sProp 𝕄) = rowRes tb ix d L g ⟨o + k.val, row_lt ho k⟩ := by
  unfold GatherBatch.need
  have h1 := dst_set o ho inb k
  have h2 := off_emb o ho inb' hn k
  have h3 : ((rLoc d L ↦[rowSet ⟨o + k.val, row_lt ho k⟩]{fullShare} f : sProp 𝕄)) = (rLoc d L ↦[rowSet ⟨o + k.val, row_lt ho k⟩]{fullShare} g) := pointsTo_congr hfg
  unfold rowRes
  rw [← h3, ← h1, ← h2, ← set_tAllK]

omit [FloatOps F] in
/-- The words of a chunk name rows. -/
theorem off_in (hok : OkIx ix) (o : ℕ) (inb') :
    ∀ x, ((offK o inb').view.read (Elt F) (ofs ix d L : Buf (Elt F) (sLoc d L)) x).toNat < S100000x128.size (hG).axis := fun x => by
  rw [View.read_apply]; exact ofs_lt ix d L hok _

/-- One of the five gathers, at row `o` of the scratch: 120 more transfers of the batch issued. -/
theorem gather_step {α : Type} (hok : OkIx ix) (o o' : ℕ) (ho : o + 120 ≤ 600) (hoo : o + S120x128.size (hG).axis' = o') (inb inb') (hn : S120.numel = S120x128.size (hG).axis')
    (fr : Buf (Elt F) (rLoc d L)) {k : PUnit → Prog (TpuEff nD τ sig (Elt F) Λ₀ (thr d L).2) α} {Q : α → sProp 𝕄} :
    iprop(bigSep (Transfers.pending o) (rowRes tb ix d L fr)
        ∗ Transfers.Batch countersEmb (thr d L) (.dma cc0_scratch2.sem) (default : HIx 1) Ncr (rowRes tb ix d L (grows tb ix d L : Buf (Elt F) (rLoc d L))) o 0)
      ⊢ iprop((iprop(bigSep (Transfers.pending o') (rowRes tb ix d L fr)
            ∗ Transfers.Batch countersEmb (thr d L) (.dma cc0_scratch2.sem) (default : HIx 1) Ncr (rowRes tb ix d L (grows tb ix d L : Buf (Elt F) (rLoc d L))) o' 0)
          -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK (dstK o inb) (hG) (offK o inb') hn cc0_scratch2.sem (View.wordExact_bits rfl) rfl (Or.inl rfl) >>= k) Q) := by
  subst hoo
  have ho' : o + S120x128.size (hG).axis' ≤ 600 := ho
  have H := GatherBatch.wp_gatherBatch (defs := defs₀ (F := F)) (F := F) (Q := Q) (k := k) (n := 600) (src := tAllK) (dst := dstK o inb) (offs := offK o inb') (sem := cc0_scratch2.sem) (hg := hG) (hn := hn) (hp := rfl) (hsrc := View.wordExact_bits rfl) (he := rfl) (hsp := Or.inl rfl) (hr := by decide) countersEmb 𝒱₀ (thr d L) none (default : HIx 1) Ncr o 0
    (D := rowRes tb ix d L (grows tb ix d L : Buf (Elt F) (rLoc d L))) (R := rowRes tb ix d L fr)
    (qk := fun kk => tqr L ⟨o + kk.val, row_lt ho kk⟩) (qo := fullShare) (fs := tb d) (fd := fr) (fo := (ofs ix d L : Buf (Elt F) (sLoc d L)))
    (row_credit o inb) ho' (Nat.zero_le _) (off_in ix d L hok o inb')
  refine H ?_ ?_
  · intro kk
    rw [need_eq tb ix d L o ho inb inb' hn fr fr kk fun _ _ => rfl]
  · intro kk
    rw [need_eq tb ix d L o ho inb inb' hn _ (grows tb ix d L : Buf (Elt F) (rLoc d L)) kk fun x hx =>
      row_written tb ix d L hok o ho inb inb' hn (off_in ix d L hok o inb') fr kk x hx]

/-- What a tile is handed, -/
abbrev goRes (w : Fin 32) : sProp 𝕄 :=
  iprop((iLoc d ↦[iSet w]{fullShare} ix d) ∗ (tLoc d ↦{tq w} tb d) ∗ ∃ f : Buf (Elt F) (oLoc d), oLoc d ↦[oSet w]{fullShare} f)
/-- and what it hands back. -/
abbrev tdRes (w : Fin 32) : sProp 𝕄 :=
  iprop((iLoc d ↦[iSet w]{fullShare} ix d) ∗ (tLoc d ↦{tq w} tb d) ∗ oLoc d ↦[oSet w]{fullShare} gathB tb ix d)

omit [FloatOps F] in
/-- The semaphores a tile owns at zero. -/
theorem ownSems0_V :
    (ownSems0 (thr d L) : sProp 𝕄)
      = iprop(semVal (cA d (cV L) (jV L)) 0 ∗ semVal (cB d (cV L) (jV L)) 0 ∗ semVal (cG d (cV L) (jV L)) 0
          ∗ bigSep ((((ownCells (thr d L)).erase (cA d (cV L) (jV L))).erase (cB d (cV L) (jV L))).erase (cG d (cV L) (jV L))) fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped1.sem : SemLoc sig).isScoped .scVector = true; decide⟩⟩),
    SparseCore.bigSep_erase' (Finset.mem_erase.mpr ⟨by simp [cB, cG]; decide, Finset.mem_erase.mpr ⟨by simp [cA, cG]; decide,
      (mem_ownCells (g := cG d (cV L) (jV L))).mpr ⟨rfl, by show (SemLoc.dma cc0_scratch2.sem : SemLoc sig).isScoped .scVector = true; decide⟩⟩⟩)]

omit [FloatOps F] in
/-- The buffers a tile owns. -/
theorem ownBufs_V :
    (ownBufs (thr d L) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- A block written whole is what was written. -/
theorem block_written (fo : Buf (Elt F) (oLoc d)) (w : S600x128.Idx → Elt F .f32) (y : S600x128.Idx) :
    (((oRowK L).view.slice (Rect.whole S600x128)).write (Elt F) fo w Finset.univ) ((oRowK L).view.emb y) = w y := by
  have e : ((oRowK L).view.slice (Rect.whole S600x128)).emb y = (oRowK L).view.emb y := by
    rw [View.emb_slice]; exact congrArg (oRowK L).view.emb (Rect.emb_whole_apply S600x128 y)
  rw [← e]
  exact (View.write_emb_of_mem _ _ (Finset.mem_univ y)).trans (cast_eq _ _)

/-- A program that has returned. -/
theorem wp_ret' {α : Type} {c : Thread nD τ} (a : α) (Q : α → sProp 𝕄) :
    wp frame (wpE (defs₀ (F := F)) 𝒱₀ c none) Set.univ (.ret a : Prog (TpuEff nD τ sig (Elt F) Λ₀ c.2) α) Q = iprop(|={Set.univ}=> Q a) := rfl

set_option maxHeartbeats 4000000 in
/-- The task on vector subcore `(L 0, L 1)` of device `d`: from its block of the list, its share of the table and its
    block of the result, it leaves in that block the table's rows that the list names. -/
theorem tile_body (hF : (K (F := F)).Facts) (hok : OkIx ix) (O : CellTallies nD τ sig (HIx 1)) (W : Waits sig (HIx 1)) (hO : ∀ g, O g none = 0) :
    iprop(levAts (K (F := F)).L (K (F := F)).lev ∗ emp
        ∗ goRes tb ix d (wid L)
        ∗ scopedBufs (thr d L) ∗ scopedSems0 (thr d L) ∗ owes (thr d L) O W)
      ⊢ wp frame (wpE (defs₀ (F := F)) 𝒱₀ (thr d L) none) Set.univ
          (cc0_gather_kernel L tV (Memref.isWhole_whole _) iV (Memref.isWhole_whole _) oV (Memref.isWhole_whole _)
            sV (Memref.isWhole_whole _) rV (Memref.isWhole_whole _) cc0_scratch2 cc0_scoped0 cc0_scoped1)
          fun _ => iprop(tdRes tb ix d (wid L)
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Ht, ⟨%fo, Ho⟩⟩, ⟨⟨%fs, Hs⟩, ⟨%fr, Hr⟩, Hbufs⟩, ⟨HsemA, HsemB, HsemG, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRowK (F := F) d L _).symm) $$ Hi
  ihave Ho' := (Entails.of_eq (pts_oRowK (F := F) d L _).symm) $$ Ho
  ihave Hs' := (Entails.of_eq (pts_sV (F := F) d L _).symm) $$ Hs
  sl_exec
  have hofs : (View.write (Elt F) (sV).view fs (tile_body.sl.dma0 ix d L) Finset.univ : Buf (Elt F) (sLoc d L)) = ofs ix d L := View.write_whole_univ _ _ _
  ihave Hall := (Entails.of_eq (rowRes_all (F := F) tb ix d L fr).symm) $$ [Hr Hs' Ht]
  · isplitr [Ht]
    · isplitl [Hr]; · iexact Hr
      iapply (Entails.of_eq (show ((sV).view.loc (thr d L) ↦{fullShare} View.write (Elt F) (sV).view fs (tile_body.sl.dma0 ix d L) Finset.univ : sProp 𝕄)
        = sLoc d L ↦{fullShare} (ofs ix d L : Buf (Elt F) (sLoc d L)) by rw [hofs])); iexact Hs'
    · iexact Ht
  ihave Hpend := (Entails.of_eq (Transfers.bigSep_pending_zero (rowRes tb ix d L fr))) $$ Hall
  imod (Transfers.batch_alloc' countersEmb (thr d L) (default : HIx 1) Ncr (rowRes tb ix d L (grows tb ix d L : Buf (Elt F) (rLoc d L))) (E := Set.univ)) $$ HsemG with HB
  rw [wp_bind]
  iapply (gather_step tb ix d L hok 0 120 (by decide) rfl inb_S600x128_S120x128_0_0 inb_S600_S120_0 rfl fr) $$ [Hpend HB]
  · isplitl [Hpend] <;> iassumption
  iintro ⟨Hpend, HB⟩
  rw [wp_ret']; imodintro
  first | (rw [wp_bind, wp_bind]) | (rw [wp_bind])
  iapply (gather_step tb ix d L hok 120 240 (by decide) rfl inb_S600x128_S120x128_120_0 inb_S600_S120_120 rfl fr) $$ [Hpend HB]
  · isplitl [Hpend] <;> iassumption
  iintro ⟨Hpend, HB⟩
  rw [wp_ret']; imodintro
  first | (rw [wp_bind, wp_bind]) | (rw [wp_bind])
  iapply (gather_step tb ix d L hok 240 360 (by decide) rfl inb_S600x128_S120x128_240_0 inb_S600_S120_240 rfl fr) $$ [Hpend HB]
  · isplitl [Hpend] <;> iassumption
  iintro ⟨Hpend, HB⟩
  rw [wp_ret']; imodintro
  first | (rw [wp_bind, wp_bind]) | (rw [wp_bind])
  iapply (gather_step tb ix d L hok 360 480 (by decide) rfl inb_S600x128_S120x128_360_0 inb_S600_S120_360 rfl fr) $$ [Hpend HB]
  · isplitl [Hpend] <;> iassumption
  iintro ⟨Hpend, HB⟩
  rw [wp_ret']; imodintro
  first | (rw [wp_bind, wp_bind]) | (rw [wp_bind])
  iapply (gather_step tb ix d L hok 480 600 (by decide) rfl inb_S600x128_S120x128_480_0 inb_S600_S120_480 rfl fr) $$ [Hpend HB]
  · isplitl [Hpend] <;> iassumption
  iintro ⟨-, HB⟩
  rw [wp_ret']; imodintro
  rw [wp_pure]; imodintro
  iapply (Transfers.wp_waitBatchMulO countersEmb 𝒱₀ (thr d L) none (default : HIx 1) 120 (N := Ncr) (by decide) (j := 600) (u := 0) (by decide)) $$ [HB HO]
  · isplitl [HB]; · iexact HB
    isplitl [HO]; · iexact HO
    iapply (Transfers.MayWaits.elim (SemLoc.dma cc0_scratch2.sem)) $$ Hmw
  iintro ⟨HB, HO⟩
  rw [wp_ret']; imodintro
  first | (rw [wp_bind, wp_bind]) | (rw [wp_bind]) | skip
  iapply (Transfers.wp_waitBatchMulO countersEmb 𝒱₀ (thr d L) none (default : HIx 1) 120 (N := Ncr) (by decide) (j := 600) (u := 0 + 120 * Ncr) (by decide)) $$ [HB HO]
  · isplitl [HB]; · iexact HB
    isplitl [HO]; · iexact HO
    iapply (Transfers.MayWaits.elim (SemLoc.dma cc0_scratch2.sem)) $$ Hmw
  iintro ⟨HB, HO⟩
  rw [wp_ret']; imodintro
  first | (rw [wp_bind, wp_bind]) | (rw [wp_bind]) | skip
  iapply (Transfers.wp_waitBatchMulO countersEmb 𝒱₀ (thr d L) none (default : HIx 1) 120 (N := Ncr) (by decide) (j := 600) (u := 0 + 120 * Ncr + 120 * Ncr) (by decide)) $$ [HB HO]
  · isplitl [HB]; · iexact HB
    isplitl [HO]; · iexact HO
    iapply (Transfers.MayWaits.elim (SemLoc.dma cc0_scratch2.sem)) $$ Hmw
  iintro ⟨HB, HO⟩
  rw [wp_ret']; imodintro
  first | (rw [wp_bind, wp_bind]) | (rw [wp_bind]) | skip
  iapply (Transfers.wp_waitBatchMulO countersEmb 𝒱₀ (thr d L) none (default : HIx 1) 120 (N := Ncr) (by decide) (j := 600) (u := 0 + 120 * Ncr + 120 * Ncr + 120 * Ncr) (by decide)) $$ [HB HO]
  · isplitl [HB]; · iexact HB
    isplitl [HO]; · iexact HO
    iapply (Transfers.MayWaits.elim (SemLoc.dma cc0_scratch2.sem)) $$ Hmw
  iintro ⟨HB, HO⟩
  rw [wp_ret']; imodintro
  first | (rw [wp_bind, wp_bind]) | (rw [wp_bind]) | skip
  iapply (Transfers.wp_waitBatchAllO countersEmb 𝒱₀ (thr d L) none (default : HIx 1) (N := Ncr) rfl (by decide) (n := 600) (u := 0 + 120 * Ncr + 120 * Ncr + 120 * Ncr + 120 * Ncr) (by decide)) $$ [HB HO]
  · isplitl [HB]; · iexact HB
    isplitl [HO]; · iexact HO
    iapply (Transfers.MayWaits.elim (SemLoc.dma cc0_scratch2.sem)) $$ Hmw
  iintro ⟨Hall, HsemG, HO⟩
  ihave Hall' := (Entails.of_eq (rowRes_all (F := F) tb ix d L (grows tb ix d L : Buf (Elt F) (rLoc d L)))) $$ Hall
  icases Hall' with ⟨⟨Hr, Hs⟩, Ht⟩
  ihave Hr' := (Entails.of_eq (pts_rV (F := F) d L _).symm) $$ Hr
  rw [wp_ret']; imodintro
  sl_exec
  have hout : ∀ x ∈ (oRowK L).view.set,
      ((oRowK L).view.writes (Elt F) fo [⟨Rect.whole S600x128, tile_body.sl.dma0_1 tb ix d L⟩] : Buf (Elt F) (oLoc d)) x = gathB tb ix d x := by
    intro x hx
    rw [View.set, Finset.mem_map] at hx
    obtain ⟨y, -, rfl⟩ := hx
    rw [← grows_eq tb ix d L y, View.writes_singleton]
    exact block_written d L fo (tile_body.sl.dma0_1 tb ix d L) y
  ihave Ho := (Entails.of_eq ((pointsTo_congr hout).trans (pts_oRowK (F := F) d L _))) $$ Ho'
  ihave Hi := (Entails.of_eq (pts_iRowK (F := F) d L _)) $$ Hi'
  rw [wp_ret']; imodintro
  isplitl [Hi Ht Ho]
  · isplitl [Hi]; · iexact Hi
    isplitl [Ht]; · iexact Ht
    iexact Ho
  isplitl [Hs Hr' Hbufs]
  · isplitl [Hs]; · iexists _; iexact Hs
    isplitl [Hr']; · iexists _; iexact Hr'
    iexact Hbufs
  isplitl [HsemA HsemB HsemG Hsems]
  · isplitl [HsemA]; · iexact HsemA
    isplitl [HsemB]; · iexact HsemB
    isplitl [HsemG] <;> iassumption
  iexists _
  isplitr [HO]
  rotate_left
  · iexact HO
  · ipureintro
    intro p hp
    simp only [Finset.mem_insert] at hp
    rcases hp with rfl | rfl | rfl | rfl | rfl | rfl | rfl | h
    all_goals first | exact .inr rfl | exact .inl h

end Task

end Cert.Proof.Tile

end
-- ==== Proof.Body.lean ====
/-
  The TensorCore kernel of `KernelIdeal` (the folded convolutions, the matrices of the chain, their product by a tree,
  the score), run by the executor for whatever model of the floats.
-/
module

public import proofs.«01_k».proof.Proof.Tile

@[expose] public section

noncomputable section

namespace Cert.Proof.Body

open Cert.KernelIdeal Cert.KernelIdeal.Gen Cert.Proof.Tile

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
noncomputable def bodyRun (c : Dev nD) (f0 : Bf (F := F) c (stage1_0 0)) (f1 : Bf (F := F) c (stage1_1 0)) (f2 : Bf (F := F) c (stage1_2 0))
    (f3 : Bf (F := F) c (stage1_3 0)) (f4 : Bf (F := F) c (stage1_4 0)) (f5 : Bf (F := F) c (stage1_5 0)) (f6 : Bf (F := F) c (stage1_6 0))
    (f7 : Bf (F := F) c (stage1_7 0)) (f8 : Bf (F := F) c (stage1_8 0)) :
    { v : S1x1.Idx → F .f32 // ∀ (f9 : Bf (F := F) c (stage1_9 0)) (fs : Bf (F := F) c (Memref.whole cc1_scratch0)) (E : Set ℕ) (Q : PUnit → sProp 𝕄),
        iprop(pt c (stage1_0 0) f0 ∗ pt c (stage1_1 0) f1 ∗ pt c (stage1_2 0) f2 ∗ pt c (stage1_3 0) f3 ∗ pt c (stage1_4 0) f4 ∗ pt c (stage1_5 0) f5
          ∗ pt c (stage1_6 0) f6 ∗ pt c (stage1_7 0) f7 ∗ pt c (stage1_8 0) f8 ∗ pt c (stage1_9 0) f9 ∗ pt c (Memref.whole cc1_scratch0) fs
          ∗ (∀ gs, iprop(pt c (stage1_0 0) f0 ∗ pt c (stage1_1 0) f1 ∗ pt c (stage1_2 0) f2 ∗ pt c (stage1_3 0) f3 ∗ pt c (stage1_4 0) f4 ∗ pt c (stage1_5 0) f5
          ∗ pt c (stage1_6 0) f6 ∗ pt c (stage1_7 0) f7 ∗ pt c (stage1_8 0) f8 ∗ pt c (stage1_9 0) ((stage1_9 0).view.writes (Elt F) f9 [⟨Rect.unit (s := S1x1) ![0, 0] S1x1.size inb_S1x1_S1x1_0_0, v⟩]) ∗ pt c (Memref.whole cc1_scratch0) gs) -∗ Q ⟨⟩))
          ⊢ wp frame (wpE (defs₀ (F := F)) Variants.none c none) E
            (cc1__fused_body (stage1_0 0) (hstage1_0 0) (stage1_1 0) (hstage1_1 0) (stage1_2 0) (hstage1_2 0) (stage1_3 0) (hstage1_3 0) (stage1_4 0) (hstage1_4 0)
              (stage1_5 0) (hstage1_5 0) (stage1_6 0) (hstage1_6 0) (stage1_7 0) (hstage1_7 0) (stage1_8 0) (hstage1_8 0) (stage1_9 0) (hstage1_9 0)
              (Memref.whole cc1_scratch0) (Memref.isWhole_whole _)) Q } := by
  refine ⟨?_, fun f9 fs E Q => ?run⟩
  case run =>
    iintro ⟨H0, H1, H2, H3, H4, H5, H6, H7, H8, H9, Hs, Hk⟩
    sl_unfold [cc1__fused_body]
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hs

end Cert.Proof.Body

end
-- ==== Proof.Region.lean ====
/-
  The TensorCore region of `KernelIdeal`: its proof data at whatever the arrays hold when it is entered, the body's
  obligation from the run of the body, and the region as a step of the program's thread state (every unscoped buffer at
  a valuation, beside what the thread owes, which is nothing once its SparseCore call is over).
-/
module

public import proofs.«01_k».proof.Proof.Body
public import Idealize.ShloMosaic.Lib.Pipeline.RegionsLoop
public import Idealize.ShloMosaic.Lib.VecWindow

@[expose] public section

noncomputable section

namespace Cert.Proof.Region

open Cert.KernelIdeal Cert.KernelIdeal.Gen Cert.Proof.Tile Cert.Proof.Body

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The memory at a core's references. -/
abbrev Vals : Type := (c : Dev nD) → (b : Ref sig .tc) → Buf (Elt F) ((c : Thread nD τ).loc b)

variable (V : Vals (F := F))

/-! ## The proof data -/

/-- Window 0's block as it is fetched. -/
abbrev stg0 (c : Dev nD) : (cfg1.win 0).block.Idx → Elt F (cfg1.win 0).elt := ((cfg1.win 0).blk t1_0).view.read (Elt F) (V c main_arg1)
/-- Window 1's block as it is fetched. -/
abbrev stg1 (c : Dev nD) : (cfg1.win 1).block.Idx → Elt F (cfg1.win 1).elt := ((cfg1.win 1).blk t1_0).view.read (Elt F) (V c main_arg2)
/-- Window 2's block as it is fetched. -/
abbrev stg2 (c : Dev nD) : (cfg1.win 2).block.Idx → Elt F (cfg1.win 2).elt := ((cfg1.win 2).blk t1_0).view.read (Elt F) (V c main_arg4)
/-- Window 3's block as it is fetched. -/
abbrev stg3 (c : Dev nD) : (cfg1.win 3).block.Idx → Elt F (cfg1.win 3).elt := ((cfg1.win 3).blk t1_0).view.read (Elt F) (V c main_arg5)
/-- Window 4's block as it is fetched. -/
abbrev stg4 (c : Dev nD) : (cfg1.win 4).block.Idx → Elt F (cfg1.win 4).elt := ((cfg1.win 4).blk t1_0).view.read (Elt F) (V c main_arg6)
/-- Window 5's block as it is fetched. -/
abbrev stg5 (c : Dev nD) : (cfg1.win 5).block.Idx → Elt F (cfg1.win 5).elt := ((cfg1.win 5).blk t1_0).view.read (Elt F) (V c main_arg8)
/-- Window 6's block as it is fetched. -/
abbrev stg6 (c : Dev nD) : (cfg1.win 6).block.Idx → Elt F (cfg1.win 6).elt := ((cfg1.win 6).blk t1_0).view.read (Elt F) (V c main_v4)
/-- Window 7's block as it is fetched. -/
abbrev stg7 (c : Dev nD) : (cfg1.win 7).block.Idx → Elt F (cfg1.win 7).elt := ((cfg1.win 7).blk t1_0).view.read (Elt F) (V c main_arg3)
/-- Window 8's block as it is fetched. -/
abbrev stg8 (c : Dev nD) : (cfg1.win 8).block.Idx → Elt F (cfg1.win 8).elt := ((cfg1.win 8).blk t1_0).view.read (Elt F) (V c main_arg7)

/-- What the body computes of the nine blocks it is given. -/
def outv (c : Dev nD) : S1x1.Idx → F .f32 := (bodyRun (F := F) c (stg0 V c) (stg1 V c) (stg2 V c) (stg3 V c) (stg4 V c) (stg5 V c) (stg6 V c) (stg7 V c) (stg8 V c)).1

/-- Nothing the thread has waited on lies above the end of its SparseCore call. -/
def low (c : Dev nD) : Set (SemLoc sig × HIx 1) := {p | (K (F := F)).lev (T c, p.1) p.2 ≤ 8}

/-- The region's proof data: the arrays at the valuation, the inputs left as fetched and the result at the body's value,
    the scratch beside, nothing owed. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => stg7 V c
    | ⟨8, _⟩ => stg8 V c
    | ⟨9, _⟩ => outv V c
  Φ _ := Pipeline.scopedRest (Ix := HIx 1) (Name := ℕ) (U := UU) (Lvl := ℕ) (Val := Elt F) spec1 c
  q _ := fullShare
  owed _ := 0
  recorded _ := low (F := F) c

variable (adm : (p : Fin 1) → (pcfgs (F := F) p).Adm)

/-- The proof data of the one region. -/
def pdats : (p : Fin 1) → (c : Dev nD) → Dat τ (Elt F) (HIx 1) ℕ UU ℕ (Pipeline.pin (pcfgs (F := F)) adm p) c
  | ⟨0, _⟩ => fun c => dat V c

/-- The body finds operand 0 staged. -/
theorem before0 (c : Dev nD) (d : (cfg1.win 0).block.Idx → Elt F (cfg1.win 0).elt) : (dat V c).before 0 t1_0 d = stg0 V c := by
  unfold Dat.before; rw [if_pos (by decide)]; rfl
/-- The body finds operand 1 staged. -/
theorem before1 (c : Dev nD) (d : (cfg1.win 1).block.Idx → Elt F (cfg1.win 1).elt) : (dat V c).before 1 t1_0 d = stg1 V c := by
  unfold Dat.before; rw [if_pos (by decide)]; rfl
/-- The body finds operand 2 staged. -/
theorem before2 (c : Dev nD) (d : (cfg1.win 2).block.Idx → Elt F (cfg1.win 2).elt) : (dat V c).before 2 t1_0 d = stg2 V c := by
  unfold Dat.before; rw [if_pos (by decide)]; rfl
/-- The body finds operand 3 staged. -/
theorem before3 (c : Dev nD) (d : (cfg1.win 3).block.Idx → Elt F (cfg1.win 3).elt) : (dat V c).before 3 t1_0 d = stg3 V c := by
  unfold Dat.before; rw [if_pos (by decide)]; rfl
/-- The body finds operand 4 staged. -/
theorem before4 (c : Dev nD) (d : (cfg1.win 4).block.Idx → Elt F (cfg1.win 4).elt) : (dat V c).before 4 t1_0 d = stg4 V c := by
  unfold Dat.before; rw [if_pos (by decide)]; rfl
/-- The body finds operand 5 staged. -/
theorem before5 (c : Dev nD) (d : (cfg1.win 5).block.Idx → Elt F (cfg1.win 5).elt) : (dat V c).before 5 t1_0 d = stg5 V c := by
  unfold Dat.before; rw [if_pos (by decide)]; rfl
/-- The body finds operand 6 staged. -/
theorem before6 (c : Dev nD) (d : (cfg1.win 6).block.Idx → Elt F (cfg1.win 6).elt) : (dat V c).before 6 t1_0 d = stg6 V c := by
  unfold Dat.before; rw [if_pos (by decide)]; rfl
/-- The body finds operand 7 staged. -/
theorem before7 (c : Dev nD) (d : (cfg1.win 7).block.Idx → Elt F (cfg1.win 7).elt) : (dat V c).before 7 t1_0 d = stg7 V c := by
  unfold Dat.before; rw [if_pos (by decide)]; rfl
/-- The body finds operand 8 staged. -/
theorem before8 (c : Dev nD) (d : (cfg1.win 8).block.Idx → Elt F (cfg1.win 8).elt) : (dat V c).before 8 t1_0 d = stg8 V c := by
  unfold Dat.before; rw [if_pos (by decide)]; rfl

/-- A store of the whole one-by-one result leaves the value stored. -/
theorem wrote (c : Dev nD) (f9 : Bf (F := F) c (stage1_9 0)) (v : S1x1.Idx → F .f32) :
    (stage1_9 0).view.writes (Elt F) f9 [⟨Rect.unit (s := S1x1) ![0, 0] S1x1.size inb_S1x1_S1x1_0_0, v⟩] = v :=
  View.read_writes_full (Val := Elt F) (stage1_9 0).view f9 inb_S1x1_S1x1_0_0 v []

/-- The body's obligation at the region's one point. -/
theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = Pipeline.scopedRest spec1 c from rfl, show (dat V c).Φ t1_0.succ = Pipeline.scopedRest spec1 c from rfl,
    show (dat V c).owesAt none t1_0.succ = (dat V c).owesAt none t1_0.castSucc from rfl, scopedRest1_eq]
  iintro ⟨⟨%fs, Hs⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩⟩
  rw [before0] at hf0; subst hf0
  rw [before1] at hf1; subst hf1
  rw [before2] at hf2; subst hf2
  rw [before3] at hf3; subst hf3
  rw [before4] at hf4; subst hf4
  rw [before5] at hf5; subst hf5
  rw [before6] at hf6; subst hf6
  rw [before7] at hf7; subst hf7
  rw [before8] at hf8; subst hf8
  iapply ((bodyRun (F := F) c (stg0 V c) (stg1 V c) (stg2 V c) (stg3 V c) (stg4 V c) (stg5 V c) (stg6 V c) (stg7 V c) (stg8 V c)).2 f9 fs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  iintro %gs ⟨H0, H1, H2, H3, H4, H5, H6, H7, H8, H9, Hs⟩
  isplitl [Hs]; · iexists _; iexact Hs
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  iexists _; isplitr; swap; (· iexact H9); ipureintro; exact wrote c f9 _

/-! ## The region over the thread state -/

/-- The result's array after the region. -/
def outArr (c : Dev nD) : Buf (Elt F) ((c : Thread nD τ).loc main_v5) := (dat V c).arrAt 9 cfg1.N

variable (Vp : Vals (F := F))

set_option backward.isDefEq.respectTransparency.types false in
/-- The region, entered with every unscoped buffer at `V` and left with them at any `Vp` that has the result's array at
    what the region leaves and agrees with `V` at every other reference. -/
def reg (hVp_out : ∀ c, Vp c main_v5 = outArr V c) (hVp_ne : ∀ c (b : Ref sig .tc), b ≠ main_v5 → Vp c b = V c b) :
    Pipeline.RegionSeg (pcfgs (F := F)) adm (pdats V adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, ⌜∀ p ∈ W, p ∈ low (F := F) c⌝ ∗ owes (c : Thread nD τ) (0 : CellTallies nD τ sig (HIx 1)) W)
  post c := iprop(unscopedBufs c (Vp c) ∗ ∃ W, ⌜∀ p ∈ W, p ∈ low (F := F) c⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) (launch1).win (launch1).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest spec1 c from rfl]
    iintro ⟨-, -, Hr⟩; iexact Hr
  hout c := by
    rw [Pipeline.ownSems0_none, show (pdats V adm 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_arg1 (by decide)).symm
        · exact ((pdats V adm 0 c).arrAt_in 1 rfl _).trans (hVp_ne c main_arg2 (by decide)).symm
        · exact ((pdats V adm 0 c).arrAt_in 2 rfl _).trans (hVp_ne c main_arg4 (by decide)).symm
        · exact ((pdats V adm 0 c).arrAt_in 3 rfl _).trans (hVp_ne c main_arg5 (by decide)).symm
        · exact ((pdats V adm 0 c).arrAt_in 4 rfl _).trans (hVp_ne c main_arg6 (by decide)).symm
        · exact ((pdats V adm 0 c).arrAt_in 5 rfl _).trans (hVp_ne c main_arg8 (by decide)).symm
        · exact ((pdats V adm 0 c).arrAt_in 6 rfl _).trans (hVp_ne c main_v4 (by decide)).symm
        · exact ((pdats V adm 0 c).arrAt_in 7 rfl _).trans (hVp_ne c main_arg3 (by decide)).symm
        · exact ((pdats V adm 0 c).arrAt_in 8 rfl _).trans (hVp_ne c main_arg7 (by decide)).symm
        · exact (hVp_out c).symm)
      (fun b hb => hVp_ne c b fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    intro p hp
    rcases hW hp with h | ⟨w, s, h⟩
    · exact h
    · rw [h]; exact Nat.zero_le _

end Cert.Proof.Region

end
-- ==== Proof.Launch.lean ====
/-
  The whole program of `KernelIdeal`, for whatever model of the floats: the host's list of row numbers, the SparseCore
  call (each tile its block of the list, its share of the table, its block of the result), the TensorCore region, the
  reshape of its result. `run_main`: it runs, every semaphore ends at zero, and every unscoped buffer of the TensorCore
  ends at a valuation written down as a function of the launch memory (`Vend`).
-/
module

public import proofs.«01_k».proof.Proof.Region

@[expose] public section

noncomputable section

namespace Cert.Proof.Launch

open Cert.KernelIdeal Cert.KernelIdeal.Gen Cert.Proof.Tile Cert.Proof.Region

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The valuations the program goes through -/

variable (m : (ℓ : Loc nD τ sig) → Buf (Elt F) ℓ) (ρ : Dev nD → PrngReg)

/-- The operations of the host before the SparseCore call: three lists flattened, then joined. -/
abbrev hop0 : HloOp τ sig (Elt F) := StableHlo.reshape main_arg9 main_v0 (rfl : (.i32 : EltTy) = .i32) shapeCasts_S200x16_S3200
/-- The second of the host's operations. -/
abbrev hop1 : HloOp τ sig (Elt F) := StableHlo.reshape main_arg10 main_v1 (rfl : (.i32 : EltTy) = .i32) shapeCasts_S200x64_S12800
/-- The third. -/
abbrev hop2 : HloOp τ sig (Elt F) := StableHlo.reshape main_arg11 main_v2 (rfl : (.i32 : EltTy) = .i32) shapeCasts_S200x16_S3200
/-- The fourth: the three lists joined. -/
abbrev hop3 : HloOp τ sig (Elt F) := StableHlo.nary ![main_v0, main_v1, main_v2] main_v3 (fun u => (concatenate S19200 0 [⟨S3200, (u 0 : (⟨S3200, .i32⟩ : BufTy).Contents (Elt F))⟩, ⟨S12800, (u 1 : (⟨S12800, .i32⟩ : BufTy).Contents (Elt F))⟩, ⟨S3200, (u 2 : (⟨S3200, .i32⟩ : BufTy).Contents (Elt F))⟩] concatenates_S3200_S12800_S3200_S19200_d0 : (⟨S19200, .i32⟩ : BufTy).Contents (Elt F)))
/-- The operation of the host at the end: the result as a list of one entry. -/
abbrev hop4 : HloOp τ sig (Elt F) := StableHlo.reshape main_v5 main_v6 (rfl : (.f32 : EltTy) = .f32) shapeCasts_S1x1_S1

/-- After the host's operations. -/
def Vhost (d : Dev nD) : Valuation τ sig (Elt F) := (hop3).result ((hop2).result ((hop1).result ((hop0).result (StableHlo.launchContents m d))))
/-- The table and the list as the SparseCore call finds them. -/
abbrev tb (d : Dev nD) : Buf (Elt F) (tLoc d) := Vhost m d main_arg0
/-- The list as the host leaves it. -/
abbrev ix (d : Dev nD) : Buf (Elt F) (iLoc d) := Vhost m d main_v3
/-- After the SparseCore call. -/
def Vgath (d : Dev nD) : Valuation τ sig (Elt F) := Function.update (Vhost m d) (Proc.devRef .tc main_v4) (gathB (tb m) (ix m) d)
/-- The same, at a core's references. -/
def Vin : Vals (F := F) := fun d b => Vgath m d b
/-- After the TensorCore region. -/
def Vtc (d : Dev nD) : Valuation τ sig (Elt F) := Function.update (Vgath m d) (Proc.devRef .tc main_v5) (outArr (Vin m) d)
/-- The same, at a core's references. -/
def Vout : Vals (F := F) := fun d b => Vtc m d b
/-- At the end. -/
def Vend (d : Dev nD) : Valuation τ sig (Elt F) := (hop4).result (Vtc m d)

/-- A reference the host does not write keeps the launch memory. -/
theorem Vhost_ne (d : Dev nD) (r : Ref sig .tc) (h0 : r ≠ main_v0) (h1 : r ≠ main_v1) (h2 : r ≠ main_v2) (h3 : r ≠ main_v3) :
    Vhost m d r = m ((SparseCore.T d : Thread nD τ).loc r) := by
  unfold Vhost
  rw [HloOp.result_of_not_mem (hop3 (F := F)) _ (b := Proc.devRef .tc r) fun h => StableHlo.devRef_ne_of_ne h3 (Finset.mem_singleton.mp h),
    HloOp.result_of_not_mem (hop2 (F := F)) _ (b := Proc.devRef .tc r) fun h => StableHlo.devRef_ne_of_ne h2 (Finset.mem_singleton.mp h),
    HloOp.result_of_not_mem (hop1 (F := F)) _ (b := Proc.devRef .tc r) fun h => StableHlo.devRef_ne_of_ne h1 (Finset.mem_singleton.mp h),
    HloOp.result_of_not_mem (hop0 (F := F)) _ (b := Proc.devRef .tc r) fun h => StableHlo.devRef_ne_of_ne h0 (Finset.mem_singleton.mp h)]

/-- A reference no operation writes ends at the launch memory. -/
theorem Vend_ne (d : Dev nD) (r : Ref sig .tc) (h0 : r ≠ main_v0) (h1 : r ≠ main_v1) (h2 : r ≠ main_v2) (h3 : r ≠ main_v3)
    (h4 : r ≠ main_v4) (h5 : r ≠ main_v5) (h6 : r ≠ main_v6) : Vend m d r = m ((SparseCore.T d : Thread nD τ).loc r) := by
  unfold Vend Vtc Vgath
  rw [HloOp.result_of_not_mem (hop4 (F := F)) _ (b := Proc.devRef .tc r) fun h => StableHlo.devRef_ne_of_ne h6 (Finset.mem_singleton.mp h),
    Function.update_of_ne (StableHlo.devRef_ne_of_ne h5), Function.update_of_ne (StableHlo.devRef_ne_of_ne h4),
    Vhost_ne m d r h0 h1 h2 h3]

/-- The host leaves the table alone. -/
theorem tb_eq (d : Dev nD) : tb m d = m (tLoc d) := Vhost_ne m d main_arg0 (by decide) (by decide) (by decide) (by decide)

/-! ## What the SparseCore call's handshakes carry -/

/-- The number of the tile on SparseCore `c`, subcore `i`. -/
def wkr (c : Fin ((K (F := F)).nCore 0)) (i : Fin ((K (F := F)).nSub 0)) : Fin 32 :=
  ⟨2 * i.val + c.val, by have h0 : c.val < 2 := c.isLt; have h1 : i.val < 16 := i.isLt; omega⟩

/-- Each tile takes its block of the list, its share of the table and its block of the result, and brings them back, the
    result's at the table's rows; a SparseCore takes its sixteen tiles' at once. -/
def P : (K (F := F)).Pay (nD := nD) (Val := Elt F) (Name := ℕ) (U := UU) where
  st := fun q d c => match q with | 0 => bigSep Finset.univ fun i => goRes (tb m) (ix m) d (wkr c i)
  dn := fun q d c => match q with | 0 => bigSep Finset.univ fun i => tdRes (tb m) (ix m) d (wkr c i)
  go := fun q d c i => match q with | 0 => goRes (tb m) (ix m) d (wkr c i)
  td := fun q d c i => match q with | 0 => tdRes (tb m) (ix m) d (wkr c i)
  x := fun _ _ => iprop(emp)

/-- What the handshakes carry can be stored. -/
instance P_storable : (P (F := F) m).IsStorable where
  st q d c := match q with
    | 0 => (inferInstance : BI.Storable (upEmb : UEmb _ 𝕄) (bigSep Finset.univ fun i => goRes (tb m) (ix m) d (wkr c i)))
  dn q d c := match q with
    | 0 => (inferInstance : BI.Storable (upEmb : UEmb _ 𝕄) (bigSep Finset.univ fun i => tdRes (tb m) (ix m) d (wkr c i)))
  go q d c i := match q with
    | 0 => (inferInstance : BI.Storable (upEmb : UEmb _ 𝕄) (goRes (tb m) (ix m) d (wkr c i)))
  td q d c i := match q with
    | 0 => (inferInstance : BI.Storable (upEmb : UEmb _ 𝕄) (tdRes (tb m) (ix m) d (wkr c i)))

/-! ## The tiles' obligation -/

/-- The place on the grid of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's body under its label. -/
theorem defs₀_vector (c : Fin τ.nSC) (s : Fin τ.nSub) :
    defs₀ (F := F) (.scVector c s) 0 ()
      = SparseCore.onTile hcore0 hsub0 (fun c s => cc0_gather_kernel (coordsV c s)
          (Memref.whole main_arg0_scv) (Memref.isWhole_whole _) (Memref.whole main_v3_scv) (Memref.isWhole_whole _) (Memref.whole main_v4_scv) (Memref.isWhole_whole _)
          (Memref.whole cc0_scratch0) (Memref.isWhole_whole _) (Memref.whole cc0_scratch1) (Memref.isWhole_whole _) cc0_scratch2 cc0_scoped0 cc0_scoped1) ⟨⟩ c s := rfl

omit [FloatOps F] in
/-- The record of a tile's waits at its end, weakened to what its obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task of the call. -/
theorem tileObl (hok : OkIx (ix m)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (tb m) (ix m) d (coordsV ⟨_, hci.1⟩ ⟨_, hci.2⟩) facts hok O W hO).trans (wp_mono frame _ _ fun _ => obl_post)

/-- A SparseCore's resources are its tiles' already. -/
theorem vecSplit : (K (F := F)).VecSplit' (P m) 0 := by
  intro d c
  show (bigSep Finset.univ fun i => goRes (tb m) (ix m) d (wkr c i)) ⊢ |={Set.univ}=> iprop(
      (bigSep Finset.univ fun i => goRes (tb m) (ix m) d (wkr c i))
      ∗ ((bigSep Finset.univ fun i => tdRes (tb m) (ix m) d (wkr c i)) -∗ (bigSep Finset.univ fun i => tdRes (tb m) (ix m) d (wkr c i))))
  iintro H; imodintro
  isplitl [H]; · iexact H
  iintro H; iexact H

/-! ## The arrays split among the thirty-two tiles -/

/-- Sixteen tiles on each of two SparseCores, in the order of their numbers. -/
def tilesEquiv : Fin 2 × Fin 16 ≃ Fin 32 := (Equiv.prodComm _ _).trans finProdFinEquiv

omit [FloatOps F] in
/-- All tiles are two times sixteen. -/
theorem bigSep_tiles (Φ : Fin 32 → sProp 𝕄) :
    (bigSep Finset.univ fun c : Fin ((K (F := F)).nCore 0) => bigSep Finset.univ fun i => Φ (wkr (F := F) c i)) = bigSep Finset.univ Φ := by
  rw [bigSep_univ_equiv tilesEquiv, bigSep_univ_prod]
  refine bigSep_congr fun c _ => bigSep_congr fun i _ => congrArg Φ (Fin.ext ?_)
  show 2 * i.val + c.val = c.val + 2 * i.val
  omega

omit [FloatOps F] in
/-- The list splits among the tiles, -/
theorem iPts_split (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet (fun i _ j _ h => Rect.part_disjoint idiv h), Rect.biUnion_part idiv]; try rfl
omit [FloatOps F] in
/-- the rows do, -/
theorem oPts_split (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (fun i _ j _ h => Rect.part_disjoint odiv h), Rect.biUnion_part odiv]; try rfl
omit [FloatOps F] in
/-- and the table goes out in shares. -/
theorem tPts_split (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

omit [FloatOps F] in
/-- Rows known are rows of some contents. -/
theorem o_some (d : Dev nD) (f : Buf (Elt F) (oLoc d)) :
    (bigSep Finset.univ fun w : Fin 32 => (oLoc d ↦[oSet w]{fullShare} f : sProp 𝕄))
      ⊢ bigSep Finset.univ fun w : Fin 32 => iprop(∃ f : Buf (Elt F) (oLoc d), oLoc d ↦[oSet w]{fullShare} f) :=
  bigSep_mono fun w _ => by
    show (oLoc d ↦[oSet w]{fullShare} f : sProp 𝕄) ⊢ iprop(∃ f : Buf (Elt F) (oLoc d), oLoc d ↦[oSet w]{fullShare} f)
    iintro H; iexists f; iexact H

/-- The three arrays whole are what the call's SparseCores take, -/
theorem st_of (d : Dev nD) (f : Buf (Elt F) (oLoc d)) :
    iprop((iLoc d ↦{fullShare} ix m d) ∗ (tLoc d ↦{fullShare} tb m d) ∗ oLoc d ↦{fullShare} f)
      ⊢ (bigSep Finset.univ fun c : Fin ((K (F := F)).nCore 0) => (P m).st 0 d c : sProp 𝕄) := by
  rw [show (bigSep Finset.univ fun c : Fin ((K (F := F)).nCore 0) => (P m).st 0 d c : sProp 𝕄)
      = bigSep Finset.univ fun c : Fin ((K (F := F)).nCore 0) => bigSep Finset.univ fun i => goRes (tb m) (ix m) d (wkr c i) from rfl,
    bigSep_tiles (fun w => goRes (tb m) (ix m) d w), bigSep_sep', bigSep_sep', iPts_split, tPts_split, oPts_split]
  iintro ⟨Hi, Ht, Ho⟩
  isplitl [Hi]; · iexact Hi
  isplitl [Ht]; · iexact Ht
  iapply (o_some d f) $$ Ho

/-- and what they bring back is the three whole, the result at the table's rows. -/
theorem of_dn (d : Dev nD) :
    (bigSep Finset.univ fun c : Fin ((K (F := F)).nCore 0) => (P m).dn 0 d c : sProp 𝕄)
      ⊢ iprop((iLoc d ↦{fullShare} ix m d) ∗ (tLoc d ↦{fullShare} tb m d) ∗ oLoc d ↦{fullShare} gathB (tb m) (ix m) d) := by
  rw [show (bigSep Finset.univ fun c : Fin ((K (F := F)).nCore 0) => (P m).dn 0 d c : sProp 𝕄)
      = bigSep Finset.univ fun c : Fin ((K (F := F)).nCore 0) => bigSep Finset.univ fun i => tdRes (tb m) (ix m) d (wkr c i) from rfl,
    bigSep_tiles (fun w => tdRes (tb m) (ix m) d w), bigSep_sep', bigSep_sep', iPts_split, tPts_split, oPts_split]

/-! ## The launch's ghost state -/

/-- Where the region's rounds live. -/
abbrev EP : Emb UP (MT nD τ sig (HIx 1) (Elt F) ℕ UU ℕ) := (Emb.inl : Emb UP (UP × Counters)).trans embR

instance EP_landsIn : (EP (F := F)).LandsIn (upEmb : UEmb _ 𝕄) := by
  unfold EP; infer_instance

/-- The configurations' (empty) tables of prefetched scalars. -/
abbrev adm : (p : Fin 1) → (pcfgs (F := F) p).Adm := fun p => (cfgs p).toPCfg_adm

/-- The launch element. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What each core is dealt for its region. -/
abbrev G (d : Dev nD) : sProp 𝕄 := iprop(Pipeline.cellsGhost cfgs EP 0 d ∗ Pipeline.toksInit cfgs EP 0 d)

omit [FloatOps F] in
/-- Nothing, many times over, is nothing. -/
theorem bigSep_emp' {I : Type} (s : Finset I) : (bigSep s fun _ => iprop(emp)) = (iprop(emp) : sProp 𝕄) := bigSep_emp_const s

/-- The launch element gives every side its tokens. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave H2 := (own_pair_emb (embR : Emb (UP × Counters) 𝕄) (initOf (Pipeline.cells (nD := nD) (τ := τ) cfgs cellOf_inj) (Pipeline.launchToks (nD := nD) (τ := τ) cfgs cellOf_inj)) (1 : Counters)) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · rw [bigSep_sep']
    isplitl [Hg]
    · rw [show (bigSep Finset.univ fun d : Dev nD => Pipeline.cellsGhost cfgs (EP (F := F)) 0 d) = (bigSep Finset.univ fun d : Dev nD => bigSep Finset.univ fun p : Fin 1 => Pipeline.cellsGhost cfgs (EP (F := F)) p d) from
        bigSep_congr fun d _ => (bigSep_univ_of_subsingleton (Φ := fun p : Fin 1 => Pipeline.cellsGhost cfgs (EP (F := F)) p d) (0 : Fin 1)).symm]
      iexact Hg
    · rw [show (bigSep Finset.univ fun d : Dev nD => Pipeline.toksInit cfgs (EP (F := F)) 0 d) = (bigSep Finset.univ fun d : Dev nD => bigSep Finset.univ fun p : Fin 1 => Pipeline.toksInit cfgs (EP (F := F)) p d) from
        bigSep_congr fun d _ => (bigSep_univ_of_subsingleton (Φ := fun p : Fin 1 => Pipeline.toksInit cfgs (EP (F := F)) p d) (0 : Fin 1)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The three arrays the SparseCore call takes. -/
def scRefs : Finset (DevRef τ sig) := {Proc.devRef .tc main_v3, Proc.devRef .tc main_arg0, Proc.devRef .tc main_v4}

omit [FloatOps F] in
/-- The three operands held one by one. -/
theorem held_scRefs (d : Dev nD) (W : Valuation τ sig (Elt F)) :
    (StableHlo.held (d.tc : Thread nD τ) scRefs W : sProp 𝕄)
      = iprop((iLoc d ↦{fullShare} W main_v3) ∗ (tLoc d ↦{fullShare} W main_arg0) ∗ oLoc d ↦{fullShare} W main_v4) := by
  unfold StableHlo.held scRefs
  rw [SparseCore.bigSep_insert' (by decide), SparseCore.bigSep_insert' (by decide), bigSep_singleton]

/-- They are among the unscoped buffers. -/
theorem scRefs_sub : scRefs ⊆ Pipeline.ucRefs τ sig := by decide

/-- Once its one call is over the TensorCore owes nothing. -/
theorem Otc_one (d : Dev nD) : (K (F := F)).Otc (nD := nD) d 1 = 0 := by
  unfold SparseCore.Cfg.Otc
  simp

/-- What the TensorCore ends with: every unscoped buffer, at the end's valuation. -/
abbrev FIN (d : Dev nD) : sProp 𝕄 := StableHlo.held (d.tc : Thread nD τ) (Pipeline.ucRefs τ sig) (Vend m d)

/-- After the gather they hold the same but for the rows. -/
theorem scRefs_after (d : Dev nD) :
    iprop((iLoc d ↦{fullShare} ix m d) ∗ (tLoc d ↦{fullShare} tb m d) ∗ oLoc d ↦{fullShare} gathB (tb m) (ix m) d)
      = (StableHlo.held (d.tc : Thread nD τ) scRefs (Vgath m d) : sProp 𝕄) := by
  rw [held_scRefs]; unfold Vgath
  rw [Function.update_self, Function.update_of_ne (by decide), Function.update_of_ne (by decide)]

/-- The rest holds the same. -/
theorem rest_after (d : Dev nD) :
    (StableHlo.held (d.tc : Thread nD τ) (Pipeline.ucRefs τ sig \ scRefs) (Vhost m d) : sProp 𝕄)
      = StableHlo.held (d.tc : Thread nD τ) (Pipeline.ucRefs τ sig \ scRefs) (Vgath m d) :=
  StableHlo.held_congr _ fun b hb => by
    unfold Vgath
    rw [Function.update_of_ne]
    rintro rfl
    exact (Finset.mem_sdiff.mp hb).2 (by decide)

/-- The region as a step of @main. -/
def R : Pipeline.RegionSeg (pcfgs (F := F)) adm (pdats (Vin m) adm) none defs₀ 𝒱₀ (K (F := F)).L (K (F := F)).lev 0 :=
  reg (Vin m) adm (Vout m) (fun c => by unfold Vout Vtc; exact Function.update_self _ _ _)
    (fun c b h => by unfold Vout Vtc Vin; exact Function.update_of_ne (StableHlo.devRef_ne_of_ne h) _ _)

/-- What the region starts from. -/
theorem R_pre (d : Dev nD) : (R m).pre d = iprop(StableHlo.held (d.tc : Thread nD τ) (Pipeline.ucRefs τ sig) (Vgath m d)
    ∗ ∃ W, ⌜∀ p ∈ W, p ∈ low (F := F) d⌝ ∗ owes (d : Thread nD τ) (0 : CellTallies nD τ sig (HIx 1)) W) := by
  rw [← Pipeline.unscopedBufs_held]; rfl
/-- What it leaves. -/
theorem R_post (d : Dev nD) : (R m).post d = iprop(StableHlo.held (d.tc : Thread nD τ) (Pipeline.ucRefs τ sig) (Vtc m d)
    ∗ ∃ W, ⌜∀ p ∈ W, p ∈ low (F := F) d⌝ ∗ owes (d : Thread nD τ) (0 : CellTallies nD τ sig (HIx 1)) W) := by
  rw [← Pipeline.unscopedBufs_held]; rfl

end Cert.Proof.Launch

end
-- ==== Proof.RunAll.lean ====
/-
  The whole program of `KernelIdeal` run: @main on the TensorCore, and the launch. `run_main`: every semaphore ends at
  zero, and every unscoped buffer of the TensorCore ends at `Vend` of the launch memory.
-/
module

public import proofs.«01_k».proof.Proof.Launch

@[expose] public section

noncomputable section

namespace Cert.Proof.Run

open Cert.KernelIdeal Cert.KernelIdeal.Gen Cert.Proof.Tile Cert.Proof.Region Cert.Proof.Launch

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable [∀ e, Nonempty (Elt F e)] (m : (ℓ : Loc nD τ sig) → Buf (Elt F) ℓ) (ρ : Dev nD → PrngReg)

omit [FloatOps F] [∀ e, Nonempty (Elt F e)] in
/-- The unscoped buffers at the launch are held at their contents. -/
theorem launch_held (d : Dev nD) : (unscopedBufs d (fun b => m ((SparseCore.T d : Thread nD τ).loc b)) : sProp 𝕄)
    = StableHlo.held (d.tc : Thread nD τ) (Pipeline.ucRefs τ sig) (StableHlo.launchContents m d) := by
  rw [← Pipeline.unscopedBufs_held]

/-- The call's three arrays, out of what the host's operations leave. -/
theorem split_host (d : Dev nD) :
    (StableHlo.held (d.tc : Thread nD τ) (Pipeline.ucRefs τ sig) ((hop3).result ((hop2).result ((hop1).result ((hop0).result (StableHlo.launchContents m d))))) : sProp 𝕄)
      ⊢ iprop(StableHlo.held (d.tc : Thread nD τ) scRefs (Vhost m d) ∗ StableHlo.held (d.tc : Thread nD τ) (Pipeline.ucRefs τ sig \ scRefs) (Vhost m d)) :=
  Entails.of_eq (StableHlo.held_sub_split (d.tc : Thread nD τ) scRefs_sub (Vhost m d))

/-- The two lists of tables of the region's pipeline are one. -/
theorem inj' : Function.Injective (Pipeline.cellOf (nD := nD) (τ := τ) (Pipeline.pin (pcfgs (F := F)) adm)) := cellOf_inj

/-- The region's call, run, under the kernels' own table. -/
theorem wp_region₀ (d : Dev nD) (Q : PUnit → sProp 𝕄) :
    iprop((iprop(boundary (d.tc : Thread nD τ) ∗ (R m).post d) -∗ wp frame (wpE (D (F := F)) 𝒱 (d.tc : Thread nD τ) none) Set.univ (.ret ⟨⟩) Q)
        ∗ boundary (d.tc : Thread nD τ) ∗ (R m).pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (d.tc : Thread nD τ) none) Set.univ (.op (.customCall (Pipeline.entry 0) ()) .ret) Q := by
  have h := Pipeline.RegionSeg.wp (pcfgs (F := F)) adm (pdats (Vin m) adm) none inj' (EP (F := F)) defs₀ 𝒱₀ (K (F := F)).L (K (F := F)).lev (R m) d none
    (fun u h => nomatch h) (fun x => .ret x) Q
  exact h

/-- The region's continuation with its resources in the order the region wants. -/
theorem region_reorder (d : Dev nD) (Q : PUnit → sProp 𝕄) :
    iprop((iprop(boundary (d.tc : Thread nD τ) ∗ (R m).post d) -∗ Q ⟨⟩)
        ∗ boundary (d.tc : Thread nD τ) ∗ (R m).pre d ∗ levAts (K (F := F)).L (K (F := F)).lev ∗ G (F := F) d)
      ⊢ iprop((iprop(boundary (d.tc : Thread nD τ) ∗ (R m).post d) -∗ wp frame (wpE (D (F := F)) 𝒱 (d.tc : Thread nD τ) none) Set.univ (.ret ⟨⟩) Q)
        ∗ boundary (d.tc : Thread nD τ) ∗ (R m).pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d) := by
  rw [wp_ret]
  iintro ⟨Hk, Hb, Hp, Hl, Hg, Ht⟩
  isplitl [Hk]
  · iintro H
    imodintro
    iapply Hk; iexact H
  isplitl [Hb]; · iexact Hb
  isplitl [Hp]; · iexact Hp
  isplitl [Hl]; · iexact Hl
  isplitl [Hg]; · iexact Hg
  iexact Ht

/-- The region's call, run. -/
theorem wp_region (d : Dev nD) (Q : PUnit → sProp 𝕄) :
    iprop((iprop(boundary (d.tc : Thread nD τ) ∗ (R m).post d) -∗ Q ⟨⟩)
        ∗ boundary (d.tc : Thread nD τ) ∗ (R m).pre d ∗ levAts (K (F := F)).L (K (F := F)).lev ∗ G (F := F) d)
      ⊢ wp frame (wpE ((K (F := F)).defs (D (F := F))) 𝒱 (T d) none) Set.univ
          (Prog.lift (.customCall (SparseCore.inner (Pipeline.entry 0)) ())) Q := by
  have h1 := (K (F := F)).wp_liftProg (D (F := F)) 𝒱 (d.tc : Thread nD τ) Set.univ none (.op (.customCall (Pipeline.entry 0) ()) .ret) Q
  have h2 := (wp_region₀ m d Q).trans h1
  exact (region_reorder m d Q).trans h2

set_option maxHeartbeats 1000000 in
/-- @main on a device's TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hu, Hts, -⟩, HG⟩
  iapply (StableHlo.wp_hlo_within 𝒱 (d.tc : Thread nD τ) none Set.univ (Pipeline.sub_ucRefs (hop0 (F := F)) (StableHlo.reshape_bufs_sub _ _ _ _ _ _))) $$ [Hb Hu]
  · isplitl [Hb] <;> iassumption
  iintro ⟨Hb, Hu⟩
  rw [wp_ret]; imodintro
  iapply (StableHlo.wp_hlo_within 𝒱 (d.tc : Thread nD τ) none Set.univ (Pipeline.sub_ucRefs (hop1 (F := F)) (StableHlo.reshape_bufs_sub _ _ _ _ _ _))) $$ [Hb Hu]
  · isplitl [Hb] <;> iassumption
  iintro ⟨Hb, Hu⟩
  rw [wp_ret]; imodintro
  iapply (StableHlo.wp_hlo_within 𝒱 (d.tc : Thread nD τ) none Set.univ (Pipeline.sub_ucRefs (hop2 (F := F)) (StableHlo.reshape_bufs_sub _ _ _ _ _ _))) $$ [Hb Hu]
  · isplitl [Hb] <;> iassumption
  iintro ⟨Hb, Hu⟩
  rw [wp_ret]; imodintro
  iapply (StableHlo.wp_hlo_within 𝒱 (d.tc : Thread nD τ) none Set.univ (Pipeline.sub_ucRefs (hop3 (F := F)) (StableHlo.nary_bufs_sub _ _ _ _ _))) $$ [Hb Hu]
  · isplitl [Hb] <;> iassumption
  iintro ⟨Hb, Hu⟩
  rw [wp_ret]; imodintro
  ihave Hu := (split_host m d) $$ Hu
  icases Hu with ⟨Hsc, Hrest⟩
  ihave Hsc := (Entails.of_eq (held_scRefs d (Vhost m d))) $$ Hsc
  ihave Hsc := (st_of m d (Vhost m d main_v4)) $$ Hsc
  iapply ((K (F := F)).wp_run (D (F := F)) 𝒱 (EH := EH) (P := P m) κ d 0) $$ [Hst Hsc Hb Hts Hrest HG]
  isplitr; · iexact Hctx
  isplitl [Hst]; · iexact Hst
  isplitl [Hsc]; · iexact Hsc
  iintro ⟨Hst, Hdn⟩
  ihave Hsc := (of_dn m d) $$ Hdn
  ihave Hsc := (Entails.of_eq (scRefs_after m d)) $$ Hsc
  ihave Hrest := (Entails.of_eq (rest_after m d)) $$ Hrest
  ihave Hu := (Entails.of_eq (StableHlo.held_sub_split (d.tc : Thread nD τ) scRefs_sub (Vgath m d)).symm) $$ [Hsc Hrest]
  · isplitl [Hsc] <;> iassumption
  ihave #Hlev := (SparseCore.Cfg.ctx_levAts κ) $$ Hctx
  ihave Hst := (Entails.of_eq (show (K (F := F)).tcSt (Val := Elt F) (Name := ℕ) (U := UU) EH d ((0 : Fin 1).val + 1) = _ from rfl)) $$ Hst
  unfold SparseCore.Cfg.tcSt
  icases Hst with ⟨⟨%W, %hW, HO⟩, Hst⟩
  ihave HO := (Entails.of_eq (show (owes (T d) ((K (F := F)).Otc (nD := nD) d ((0 : Fin 1).val + 1)) W : sProp 𝕄) = owes (T d) ((K (F := F)).Otc (nD := nD) d 1) W from rfl)) $$ HO
  ihave HO := (Entails.of_eq (congrArg (fun O => (owes (T d) O W : sProp 𝕄)) (Otc_one d))) $$ HO
  iapply (wp_region m d _)
  isplitr [Hb Hu HO HG]
  · rw [R_post]
    iintro ⟨Hb, Hu, ⟨%W', %hW', HO⟩⟩
    iapply (StableHlo.wp_hlo_within 𝒱 (d.tc : Thread nD τ) none Set.univ (Pipeline.sub_ucRefs (hop4 (F := F)) (StableHlo.reshape_bufs_sub _ _ _ _ _ _))) $$ [Hb Hu]
    · isplitl [Hb] <;> iassumption
    iintro ⟨Hb, Hu⟩
    rw [wp_ret]; imodintro; imodintro
    isplitl [Hst HO]
    · isplitl [HO]
      · iexists W'; isplitr; · ipureintro; exact hW'
        rw [show (K (F := F)).Otc (nD := nD) d 1 = 0 from Otc_one d]; iexact HO
      iexact Hst
    isplitl [Hu]; · iexact Hu
    isplitl [Hb] <;> iassumption
  isplitl [Hb]; · iexact Hb
  isplitl [Hu HO]
  · rw [R_pre]
    isplitl [Hu]; · iexact Hu
    iexists W; isplitr; · ipureintro; exact hW
    iexact HO
  isplitr; · iexact Hlev
  iexact HG

/-- The end's facts of the memory: every unscoped buffer of the TensorCore at the end's valuation. -/
def fq (d : Dev nD) (s' : Phys nD τ sig (Elt F)) : Prop := ∀ b ∈ Pipeline.ucRefs τ sig, s'.mem.mem (d, b) = Vend m d b

/-- What the TensorCore ends with shows the final memory. -/
theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro; exact h

/-! ## The program's run -/

/-- How the program ends: every unscoped buffer at the end's valuation, every semaphore at zero. -/
def QC : PUnit × MemSt nD τ sig (Elt F) → Prop :=
  fun r => (∀ c : Dev nD, ∀ b ∈ Pipeline.ucRefs τ sig, r.2.mem (c, b) = Vend m c b) ∧ r.2.sem = fun _ => 0

/-- The program runs from any launch memory whose list names rows of the table, and ends so. -/
theorem run_main (hok : OkIx (ix m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hok)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Run

end
-- ==== Proof.Pre.lean ====
/-
  What the precondition says of the arguments: every row number is below 100000, and every entry of the float arguments
  has an absolute value below infinity. And what that makes of the joined list of row numbers.
-/
module

public import proofs.«01_k».proof.Proof.Launch
public import proofs.«01_k».proof.Proof.Gen.Pre_in_range
public import Idealize.ShloMosaic.Lib.ReduceAll
public import Idealize.ShloMosaic.Lib.Pointwise

@[expose] public section

noncomputable section

namespace Cert.Proof.Pre

open Idealize.ShloMosaic Cert.Pre_in_range Cert.Pre_in_range.Gen

variable {F : FTy → Type} [FloatOps F]

/-- Every entry of `x` has an absolute value below infinity, as the format compares. -/
def Fin' {s : Shape} (x : FVec F s .f32) : Prop :=
  ∀ i, cmpf .olt (Host.absf x) (fun _ => FloatOps.ofBits .f32 0x7F800000#32) i = 1#1
/-- Every word of `x` is a row number. -/
def Row {s : Shape} (x : IVec s 32) : Prop := ∀ i, (x i).toNat < 100000

/-- A conjunction of bits that is one has both one. -/
theorem and_one {a b : BitVec 1} (h : IntOp.andi a b = 1#1) : a = 1#1 ∧ b = 1#1 := by
  revert a b; decide

/-- A word between zero and the table's height names a row. -/
theorem row_of {v : BitVec 32} (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A scalar has one index. -/
instance sub0 : Subsingleton S_.Idx := ⟨fun a b => funext fun i => i.elim0⟩

variable (a0 : FVec F S100000x128 .f32) (a1 : FVec F S1x2x3 .f32) (a2 : FVec F S1 .f32) (a3 : FVec F S1x128 .f32) (a4 : FVec F S1 .f32)
  (a5 : FVec F S1x2x3 .f32) (a6 : FVec F S1 .f32) (a7 : FVec F S1x128 .f32) (a8 : FVec F S1 .f32)
  (a9 : IVec S200x16 32) (a10 : IVec S200x64 32) (a11 : IVec S200x16 32)

/-- The precondition read at the arguments' entries. -/
theorem of_fn (h : Cert.Pre_in_range.fn a0 a1 a2 a3 a4 a5 a6 a7 a8 a9 a10 a11 = fun _ => 1#1) :
    (Row a9 ∧ Row a10 ∧ Row a11) ∧ Fin' a0 ∧ Fin' a1 ∧ Fin' a2 ∧ Fin' a3 ∧ Fin' a4 ∧ Fin' a5 ∧ Fin' a6 ∧ Fin' a7 ∧ Fin' a8 := by
  have e := congrFun h ix0
  unfold fn fn_part1 fn_part2 fn_part3 at e
  obtain ⟨e, h8⟩ := and_one e
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨e, h1⟩ := and_one e
  obtain ⟨e, h0⟩ := and_one e
  obtain ⟨e, h11⟩ := and_one e
  obtain ⟨h9, h10⟩ := and_one e
  refine ⟨⟨fun i => row_of (Host.reduce_andi_all _ _ _ _ _ h9 i), fun i => row_of (Host.reduce_andi_all _ _ _ _ _ h10 i),
    fun i => row_of (Host.reduce_andi_all _ _ _ _ _ h11 i)⟩, fun i => Host.reduce_andi_all _ _ _ _ _ h0 i,
    fun i => Host.reduce_andi_all _ _ _ _ _ h1 i, fun i => Host.reduce_andi_all _ _ _ _ _ h2 i, fun i => Host.reduce_andi_all _ _ _ _ _ h3 i,
    fun i => Host.reduce_andi_all _ _ _ _ _ h4 i, fun i => Host.reduce_andi_all _ _ _ _ _ h5 i, fun i => Host.reduce_andi_all _ _ _ _ _ h6 i,
    fun i => Host.reduce_andi_all _ _ _ _ _ h7 i, fun i => Host.reduce_andi_all _ _ _ _ _ h8 i⟩

open Cert.KernelIdeal (nD τ sig) in
/-- The joined list of row numbers, of the launch memory's three. -/
theorem ix_eq (m : (ℓ : Loc nD τ sig) → Buf (Elt F) ℓ) (d : Dev nD) :
    Launch.ix m d = concatenate Cert.KernelIdeal.S19200 0
      [⟨Cert.KernelIdeal.S3200, shapeCast Cert.KernelIdeal.S3200 (m ((d.tc : Thread nD τ).loc Cert.KernelIdeal.main_arg9)) Cert.KernelIdeal.Gen.shapeCasts_S200x16_S3200⟩,
       ⟨Cert.KernelIdeal.S12800, shapeCast Cert.KernelIdeal.S12800 (m ((d.tc : Thread nD τ).loc Cert.KernelIdeal.main_arg10)) Cert.KernelIdeal.Gen.shapeCasts_S200x64_S12800⟩,
       ⟨Cert.KernelIdeal.S3200, shapeCast Cert.KernelIdeal.S3200 (m ((d.tc : Thread nD τ).loc Cert.KernelIdeal.main_arg11)) Cert.KernelIdeal.Gen.shapeCasts_S200x16_S3200⟩]
      Cert.KernelIdeal.Gen.concatenates_S3200_S12800_S3200_S19200_d0 := by
  unfold Launch.ix Launch.Vhost
  rw [StableHlo.nary_result]
  rfl

open Cert.KernelIdeal (nD τ sig) in
/-- With row numbers in range the joined list names rows of the table. -/
theorem okIx (m : (ℓ : Loc nD τ sig) → Buf (Elt F) ℓ)
    (h9 : ∀ d : Dev nD, Row (s := S200x16) (m ((d.tc : Thread nD τ).loc Cert.KernelIdeal.main_arg9)))
    (h10 : ∀ d : Dev nD, Row (s := S200x64) (m ((d.tc : Thread nD τ).loc Cert.KernelIdeal.main_arg10)))
    (h11 : ∀ d : Dev nD, Row (s := S200x16) (m ((d.tc : Thread nD τ).loc Cert.KernelIdeal.main_arg11))) :
    Tile.OkIx (Launch.ix m) := by
  intro d j
  rw [ix_eq]
  refine concatenate_forall (P := fun v : BitVec 32 => v.toNat < 100000) _ _ _ _ ?_ j
  intro p hp i
  simp only [List.mem_cons, List.not_mem_nil, or_false] at hp
  rcases hp with rfl | rfl | rfl
  · exact h9 d _
  · exact h10 d _
  · exact h11 d _

end Cert.Proof.Pre

end
-- ==== Proof.Frames.lean ====
/-
  The frames: the kernel's program at the bit patterns and at the extended reals.
-/
module

public import proofs.«01_k».proof.Defs
public import proofs.«01_k».proof.Proof.RunAll
public import proofs.«01_k».proof.Proof.Pre
public import proofs.«01_k».proof.Proof.Gen.Kernel
public import Idealize.ShloMosaic.Init

@[expose] public section

noncomputable section

namespace Cert.Proof.Frames

open Idealize.ShloMosaic Idealize.SL.Sem
open Cert.KernelIdeal (nD τ sig)

variable {F : FTy → Type} [FloatOps F]

/-- The twelve arguments of a device hold in `mem` what they hold in `m`. -/
def Kept (m mem : (ℓ : Loc nD τ sig) → Buf (Elt F) ℓ) (c : Dev nD) : Prop :=
  mem ((c.tc : Thread nD τ).loc Cert.KernelIdeal.main_arg0) = m ((c.tc : Thread nD τ).loc Cert.KernelIdeal.main_arg0)
  ∧ mem ((c.tc : Thread nD τ).loc Cert.KernelIdeal.main_arg1) = m ((c.tc : Thread nD τ).loc Cert.KernelIdeal.main_arg1)
  ∧ mem ((c.tc : Thread nD τ).loc Cert.KernelIdeal.main_arg2) = m ((c.tc : Thread nD τ).loc Cert.KernelIdeal.main_arg2)
  ∧ mem ((c.tc : Thread nD τ).loc Cert.KernelIdeal.main_arg3) = m ((c.tc : Thread nD τ).loc Cert.KernelIdeal.main_arg3)
  ∧ mem ((c.tc : Thread nD τ).loc Cert.KernelIdeal.main_arg4) = m ((c.tc : Thread nD τ).loc Cert.KernelIdeal.main_arg4)
  ∧ mem ((c.tc : Thread nD τ).loc Cert.KernelIdeal.main_arg5) = m ((c.tc : Thread nD τ).loc Cert.KernelIdeal.main_arg5)
  ∧ mem ((c.tc : Thread nD τ).loc Cert.KernelIdeal.main_arg6) = m ((c.tc : Thread nD τ).loc Cert.KernelIdeal.main_arg6)
  ∧ mem ((c.tc : Thread nD τ).loc Cert.KernelIdeal.main_arg7) = m ((c.tc : Thread nD τ).loc Cert.KernelIdeal.main_arg7)
  ∧ mem ((c.tc : Thread nD τ).loc Cert.KernelIdeal.main_arg8) = m ((c.tc : Thread nD τ).loc Cert.KernelIdeal.main_arg8)
  ∧ mem ((c.tc : Thread nD τ).loc Cert.KernelIdeal.main_arg9) = m ((c.tc : Thread nD τ).loc Cert.KernelIdeal.main_arg9)
  ∧ mem ((c.tc : Thread nD τ).loc Cert.KernelIdeal.main_arg10) = m ((c.tc : Thread nD τ).loc Cert.KernelIdeal.main_arg10)
  ∧ mem ((c.tc : Thread nD τ).loc Cert.KernelIdeal.main_arg11) = m ((c.tc : Thread nD τ).loc Cert.KernelIdeal.main_arg11)

/-- A reference that no operation writes is among the buffers kept. -/
theorem kept_one (m mem : (ℓ : Loc nD τ sig) → Buf (Elt F) ℓ) (c : Dev nD)
    (h : ∀ b ∈ Pipeline.ucRefs τ sig, mem (c, b) = Launch.Vend m c b) (r : Ref sig .tc)
    (hr : (Proc.devRef .tc r : DevRef τ sig) ∈ Pipeline.ucRefs τ sig
      ∧ r ≠ Cert.KernelIdeal.main_v0 ∧ r ≠ Cert.KernelIdeal.main_v1 ∧ r ≠ Cert.KernelIdeal.main_v2 ∧ r ≠ Cert.KernelIdeal.main_v3
      ∧ r ≠ Cert.KernelIdeal.main_v4 ∧ r ≠ Cert.KernelIdeal.main_v5 ∧ r ≠ Cert.KernelIdeal.main_v6) :
    mem ((c.tc : Thread nD τ).loc r) = m ((c.tc : Thread nD τ).loc r) := by
  obtain ⟨hm, h0, h1, h2, h3, h4, h5, h6⟩ := hr
  exact (h _ hm).trans (Launch.Vend_ne m c r h0 h1 h2 h3 h4 h5 h6)

/-- All twelve arguments are kept. -/
theorem kept (m mem : (ℓ : Loc nD τ sig) → Buf (Elt F) ℓ) (c : Dev nD)
    (h : ∀ b ∈ Pipeline.ucRefs τ sig, mem (c, b) = Launch.Vend m c b) : Kept m mem c :=
  ⟨kept_one m mem c h _ (by decide), kept_one m mem c h _ (by decide), kept_one m mem c h _ (by decide), kept_one m mem c h _ (by decide),
    kept_one m mem c h _ (by decide), kept_one m mem c h _ (by decide), kept_one m mem c h _ (by decide), kept_one m mem c h _ (by decide),
    kept_one m mem c h _ (by decide), kept_one m mem c h _ (by decide), kept_one m mem c h _ (by decide), kept_one m mem c h _ (by decide)⟩

/-- What the precondition asks of the launch memory, for the programs' run. -/
def Pre (m : (ℓ : Loc nD τ sig) → Buf (Elt F) ℓ) : Prop := ∀ c : Dev nD,
  Cert.Pre_in_range.fn (F := F) (m ((c.tc : Thread nD τ).loc Cert.KernelIdeal.main_arg0)) (m ((c.tc : Thread nD τ).loc Cert.KernelIdeal.main_arg1))
    (m ((c.tc : Thread nD τ).loc Cert.KernelIdeal.main_arg2)) (m ((c.tc : Thread nD τ).loc Cert.KernelIdeal.main_arg3))
    (m ((c.tc : Thread nD τ).loc Cert.KernelIdeal.main_arg4)) (m ((c.tc : Thread nD τ).loc Cert.KernelIdeal.main_arg5))
    (m ((c.tc : Thread nD τ).loc Cert.KernelIdeal.main_arg6)) (m ((c.tc : Thread nD τ).loc Cert.KernelIdeal.main_arg7))
    (m ((c.tc : Thread nD τ).loc Cert.KernelIdeal.main_arg8)) (m ((c.tc : Thread nD τ).loc Cert.KernelIdeal.main_arg9))
    (m ((c.tc : Thread nD τ).loc Cert.KernelIdeal.main_arg10)) (m ((c.tc : Thread nD τ).loc Cert.KernelIdeal.main_arg11)) = fun _ => 1#1

/-- Under the precondition every word of the list names a row of the table. -/
theorem okIx (m : (ℓ : Loc nD τ sig) → Buf (Elt F) ℓ) (h : Pre m) : Tile.OkIx (Launch.ix m) :=
  Pre.okIx m (fun d => (Pre.of_fn _ _ _ _ _ _ _ _ _ _ _ _ (h d)).1.1) (fun d => (Pre.of_fn _ _ _ _ _ _ _ _ _ _ _ _ (h d)).1.2.1)
    (fun d => (Pre.of_fn _ _ _ _ _ _ _ _ _ _ _ _ (h d)).1.2.2)

/-- The kernel's program, for any floats: it runs, its arguments are kept, every semaphore ends at zero. -/
theorem frame_any [∀ e, Nonempty (Elt F e)] (m : (ℓ : Loc nD τ sig) → Buf (Elt F) ℓ) (ρ : Dev nD → PrngReg) (h : Pre m) :
    θ_run (Cert.KernelIdeal.defs (F := F)) (Cert.KernelIdeal.threads (F := F)) ⟨m, fun _ => 0, ρ⟩
      (fun r => (∀ c : Dev nD, Kept m r.2.mem c) ∧ r.2.sem = fun _ => 0) :=
  (θ_run (Cert.KernelIdeal.defs (F := F)) _ _).mono (fun r hr => ⟨fun c => kept m r.2.mem c (hr.1 c), hr.2⟩) (Run.run_main m ρ (okIx m h))

/-- The frame of the kernel's program at the extended reals. -/
theorem frame_ideal : Cert.quiescent_KernelIdeal := fun m ρ h => frame_any (F := Ideal) m ρ h

/-! ## The program at the bit patterns is the same program -/

set_option maxHeartbeats 1000000

/-- The tile body under its label is the same in both programs, -/
theorem body_tile (c s a) : Cert.Kernel.defs₀ (F := F) (.scVector c s) 0 a = Cert.KernelIdeal.defs₀ (F := F) (.scVector c s) 0 a := rfl

/-- and the fused body under its, -/
theorem body_tc (a) : Cert.Kernel.defs₀ (F := F) .tc 1 a = Cert.KernelIdeal.defs₀ (F := F) .tc 1 a := by
  obtain ⟨t, s⟩ := a
  rfl

/-- so the bodies are the same under every label of every processor, -/
theorem bodies_eq : Cert.Kernel.defs₀ (F := F) = Cert.KernelIdeal.defs₀ (F := F) := by
  funext p ℓ a
  cases p
  all_goals (
    revert a
    refine Fin.cases ?_ (Fin.cases ?_ (fun i => i.elim0)) ℓ <;> intro a <;> first | exact body_tile _ _ _ | exact body_tc _ | rfl)

/-- and with them the definitions that the launch extends them to; -/
theorem defs_eq : Cert.Kernel.defs (F := F) = Cert.KernelIdeal.defs (F := F) :=
  congrArg (fun D => Cert.KernelIdeal.sc.defs (Pipeline.defs (Cert.KernelIdeal.pcfgs (F := F)) D)) bodies_eq

/-- the threads are the same as well. -/
theorem threads_eq : Cert.Kernel.threads (F := F) = Cert.KernelIdeal.threads (F := F) := rfl

/-- A run of the one is a run of the other. -/
theorem run_eq (σ) (Q) :
    θ_run (Cert.KernelIdeal.defs (F := F)) (Cert.KernelIdeal.threads (F := F)) σ Q
      → θ_run (Cert.Kernel.defs (F := F)) (Cert.Kernel.threads (F := F)) σ Q := by
  intro h
  rw [← defs_eq, ← threads_eq] at h
  exact h

/-- The frame of the kernel's program at the bit patterns. -/
theorem frame_bits : Cert.quiescent_Kernel := fun m ρ h =>
  run_eq (F := Bits) _ _ (frame_any (F := Bits) m ρ h)

end Cert.Proof.Frames

end
-- ==== Proof.Ref.lean ====
/-
  The frame of the reference: no operation of @main writes an argument.
-/
module

public import proofs.«01_k».proof.Defs
public import proofs.«01_k».proof.Proof.Gen.ReferenceIdeal
public import proofs.«01_k».proof.Proof.Gen.ReferenceIdeal.Run
public import proofs.«01_k».proof.Proof.Gen.Pre_in_range
public import Idealize.ShloMosaic.Init

@[expose] public section

noncomputable section

namespace Cert.Proof.Ref

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-! ## What the operations after the loop write -/

/-- The references stretch 6 of @main writes, in order. -/
abbrev postW6 : List (Ref sig .tc) := [main_cst_5, main_v75, main_v76, main_v77, main_v78, main_cst_6, main_v79, main_v80, main_v81]
/-- Stretch 6 writes nothing else. -/
theorem postW6_writes : (hostOps0_6 : List (HloOp τ sig (Elt F))).Forall fun op => op.writes ⊆ (postW6.map (Proc.devRef (τ := τ) .tc)).toFinset :=
  StableHlo.forall_writes_sub_of_map rfl
/-- The references stretch 7 of @main writes, in order. -/
abbrev postW7 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v82]
/-- Stretch 7 writes nothing else. -/
theorem postW7_writes : (hostOps0_7 : List (HloOp τ sig (Elt F))).Forall fun op => op.writes ⊆ (postW7.map (Proc.devRef (τ := τ) .tc)).toFinset :=
  StableHlo.forall_writes_sub_of_map rfl
/-- The references stretch 8 of @main writes, in order. -/
abbrev postW8 : List (Ref sig .tc) := [main_cst_7, main_v83, main_cst_8, main_v84, main_v85, main_v86, main_v87, main_v88, main_c_9]
/-- Stretch 8 writes nothing else. -/
theorem postW8_writes : (hostOps0_8 : List (HloOp τ sig (Elt F))).Forall fun op => op.writes ⊆ (postW8.map (Proc.devRef (τ := τ) .tc)).toFinset :=
  StableHlo.forall_writes_sub_of_map rfl
/-- The references stretch 9 of @main writes, in order. -/
abbrev postW9 : List (Ref sig .tc) := [main_call9_v0, main_v89]
/-- Stretch 9 writes nothing else. -/
theorem postW9_writes : (hostOps0_9 : List (HloOp τ sig (Elt F))).Forall fun op => op.writes ⊆ (postW9.map (Proc.devRef (τ := τ) .tc)).toFinset :=
  StableHlo.forall_writes_sub_of_map rfl
/-- The references stretch 10 of @main writes, in order. -/
abbrev postW10 : List (Ref sig .tc) := [main_cst_10, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_cst_11, main_v143, main_v144, main_cst_12, main_v145, main_v146, main_v147, main_v148, main_v149, main_v150, main_v151, main_c_13]
/-- Stretch 10 writes nothing else. -/
theorem postW10_writes : (hostOps0_10 : List (HloOp τ sig (Elt F))).Forall fun op => op.writes ⊆ (postW10.map (Proc.devRef (τ := τ) .tc)).toFinset :=
  StableHlo.forall_writes_sub_of_map rfl
/-- The references stretch 11 of @main writes, in order. -/
abbrev postW11 : List (Ref sig .tc) := [main_call10_v0, main_v152]
/-- Stretch 11 writes nothing else. -/
theorem postW11_writes : (hostOps0_11 : List (HloOp τ sig (Elt F))).Forall fun op => op.writes ⊆ (postW11.map (Proc.devRef (τ := τ) .tc)).toFinset :=
  StableHlo.forall_writes_sub_of_map rfl
/-- The references stretch 12 of @main writes, in order. -/
abbrev postW12 : List (Ref sig .tc) := [main_cst_14, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_cst_15, main_v206, main_v207, main_cst_16, main_v208, main_v209, main_cst_17, main_v210, main_cst_18, main_v211, main_v212, main_v213, main_v214]
/-- Stretch 12 writes nothing else. -/
theorem postW12_writes : (hostOps0_12 : List (HloOp τ sig (Elt F))).Forall fun op => op.writes ⊆ (postW12.map (Proc.devRef (τ := τ) .tc)).toFinset :=
  StableHlo.forall_writes_sub_of_map rfl

/-- Every reference @main writes: before its loop, in it, after it. -/
abbrev written : List (Ref sig .tc) :=
  hostOps0_W ++ hostOps0_1_W ++ hostOps0_2_W ++ hostOps0_3_W ++ hostOps0_4_W ++ hostOps0_5_W ++ condOps_W ++ while0Ops0_W ++ while0Ops0_1_W ++ while0Ops0_2_W ++ while0Ops0_3_W ++ while0Ops0_4_W ++ while0Ops0_5_W ++ while0Ops0_6_W ++ while0Ops0_7_W ++ postW6 ++ postW7 ++ postW8 ++ postW9 ++ postW10 ++ postW11 ++ postW12

/-- What is not among all references written is not among some of them. -/
theorem notW {r : Ref sig .tc} {W : List (Ref sig .tc)} (h : r ∉ written) (hs : ∀ x ∈ W, x ∈ written) : r ∉ W := fun hr => h (hs r hr)

/-- A reference @main does not write keeps its contents through the operations before the loop, -/
theorem keep_pre (V : Valuation τ sig (Elt F)) (r : Ref sig .tc) (h : r ∉ written) : afterL (F := F) preI V (Proc.devRef .tc r) = V (Proc.devRef .tc r) := by
  simp only [afterL_cons, afterL_nil]
  rw [after_of_writes_sub hostOps0_5 _ hostOps0_5_writes (notW h (by intro x hx; simp only [written, List.mem_append]; tauto)),
    after_of_writes_sub hostOps0_4 _ hostOps0_4_writes (notW h (by intro x hx; simp only [written, List.mem_append]; tauto)),
    after_of_writes_sub hostOps0_3 _ hostOps0_3_writes (notW h (by intro x hx; simp only [written, List.mem_append]; tauto)),
    after_of_writes_sub hostOps0_2 _ hostOps0_2_writes (notW h (by intro x hx; simp only [written, List.mem_append]; tauto)),
    after_of_writes_sub hostOps0_1 _ hostOps0_1_writes (notW h (by intro x hx; simp only [written, List.mem_append]; tauto)),
    after_of_writes_sub hostOps0 _ hostOps0_writes (notW h (by intro x hx; simp only [written, List.mem_append]; tauto))]

/-- through one trip's, -/
theorem keep_body (V : Valuation τ sig (Elt F)) (r : Ref sig .tc) (h : r ∉ written) : afterL (F := F) bodyI V (Proc.devRef .tc r) = V (Proc.devRef .tc r) := by
  simp only [afterL_cons, afterL_nil]
  rw [after_of_writes_sub while0Ops0_7 _ while0Ops0_7_writes (notW h (by intro x hx; simp only [written, List.mem_append]; tauto)),
    after_of_writes_sub while0Ops0_6 _ while0Ops0_6_writes (notW h (by intro x hx; simp only [written, List.mem_append]; tauto)),
    after_of_writes_sub while0Ops0_5 _ while0Ops0_5_writes (notW h (by intro x hx; simp only [written, List.mem_append]; tauto)),
    after_of_writes_sub while0Ops0_4 _ while0Ops0_4_writes (notW h (by intro x hx; simp only [written, List.mem_append]; tauto)),
    after_of_writes_sub while0Ops0_3 _ while0Ops0_3_writes (notW h (by intro x hx; simp only [written, List.mem_append]; tauto)),
    after_of_writes_sub while0Ops0_2 _ while0Ops0_2_writes (notW h (by intro x hx; simp only [written, List.mem_append]; tauto)),
    after_of_writes_sub while0Ops0_1 _ while0Ops0_1_writes (notW h (by intro x hx; simp only [written, List.mem_append]; tauto)),
    after_of_writes_sub while0Ops0 _ while0Ops0_writes (notW h (by intro x hx; simp only [written, List.mem_append]; tauto))]

/-- through those after it, -/
theorem keep_post (V : Valuation τ sig (Elt F)) (r : Ref sig .tc) (h : r ∉ written) : afterL (F := F) postI V (Proc.devRef .tc r) = V (Proc.devRef .tc r) := by
  simp only [afterL_cons, afterL_nil]
  rw [after_of_writes_sub hostOps0_12 _ postW12_writes (notW h (by intro x hx; simp only [written, List.mem_append]; tauto)),
    after_of_writes_sub hostOps0_11 _ postW11_writes (notW h (by intro x hx; simp only [written, List.mem_append]; tauto)),
    after_of_writes_sub hostOps0_10 _ postW10_writes (notW h (by intro x hx; simp only [written, List.mem_append]; tauto)),
    after_of_writes_sub hostOps0_9 _ postW9_writes (notW h (by intro x hx; simp only [written, List.mem_append]; tauto)),
    after_of_writes_sub hostOps0_8 _ postW8_writes (notW h (by intro x hx; simp only [written, List.mem_append]; tauto)),
    after_of_writes_sub hostOps0_7 _ postW7_writes (notW h (by intro x hx; simp only [written, List.mem_append]; tauto)),
    after_of_writes_sub hostOps0_6 _ postW6_writes (notW h (by intro x hx; simp only [written, List.mem_append]; tauto))]

/-- through every trip, -/
theorem keep_atK (m : (ℓ : Loc nD τ sig) → Buf (Elt F) ℓ) (c : Dev nD) (r : Ref sig .tc) (h : r ∉ written) :
    ∀ k, atK m k c (Proc.devRef .tc r) = m ((c.tc : Thread nD τ).loc r)
  | 0 => (keep_pre (launchContents m c) r h).trans rfl
  | k + 1 => (keep_body (after condOps (atK m k c)) r h).trans
      ((after_of_writes_sub condOps _ condOps_writes (notW h (by intro x hx; simp only [written, List.mem_append]; tauto))).trans (keep_atK m c r h k))

/-- so through the whole. -/
theorem keep (m : (ℓ : Loc nD τ sig) → Buf (Elt F) ℓ) (c : Dev nD) (r : Ref sig .tc) (h : r ∉ written) :
    finalContents condOps preI bodyI postI 199 m c (Proc.devRef .tc r) = m ((c.tc : Thread nD τ).loc r) :=
  (keep_post _ r h).trans ((after_of_writes_sub condOps _ condOps_writes (notW h (by intro x hx; simp only [written, List.mem_append]; tauto))).trans (keep_atK m c r h 199))

/-- The twelve arguments of a device hold in `mem` what they hold in `m`. -/
def Kept (m mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)

/-- The run of the reference leaves its arguments as they are and its result at `finalContents`. -/
theorem run [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v214) = finalContents condOps preI bodyI postI 199 m c (Proc.devRef .tc main_v214) ∧ Kept m r.2.mem c) :=
  (θ_run (defs (F := F)) _ _).mono (fun r h c => ⟨h c main_v214 (by decide),
    (h c main_arg0 (by decide)).trans (keep m c main_arg0 (by decide)),
    (h c main_arg1 (by decide)).trans (keep m c main_arg1 (by decide)),
    (h c main_arg2 (by decide)).trans (keep m c main_arg2 (by decide)),
    (h c main_arg3 (by decide)).trans (keep m c main_arg3 (by decide)),
    (h c main_arg4 (by decide)).trans (keep m c main_arg4 (by decide)),
    (h c main_arg5 (by decide)).trans (keep m c main_arg5 (by decide)),
    (h c main_arg6 (by decide)).trans (keep m c main_arg6 (by decide)),
    (h c main_arg7 (by decide)).trans (keep m c main_arg7 (by decide)),
    (h c main_arg8 (by decide)).trans (keep m c main_arg8 (by decide)),
    (h c main_arg9 (by decide)).trans (keep m c main_arg9 (by decide)),
    (h c main_arg10 (by decide)).trans (keep m c main_arg10 (by decide)),
    (h c main_arg11 (by decide)).trans (keep m c main_arg11 (by decide))⟩) (run_fold (F := F) m ρ)

/-- The frame of the reference. -/
theorem frame : Cert.quiescent_ReferenceIdeal := fun m ρ _ =>
  (θ_run (Cert.ReferenceIdeal.defs (F := Ideal)) _ _).mono (fun r h => ⟨fun c => (h c).2, Idealize.ShloMosaic.sem_eq_zero_of_no_sems (by decide) r.2⟩) (run (F := Ideal) m ρ)

end Cert.Proof.Ref

end
-- ==== Proof.Tree.lean ====
/-
  The tensor core's chain of matrices as a tree of products: the body's names, read as one small definition.
-/
module

public import proofs.«01_k».proof.Proof.Body

@[expose] public section

noncomputable section

namespace Cert.Proof.Tree

open Cert.KernelIdeal Cert.KernelIdeal.Gen Cert.Proof.Body
open Idealize.ShloMosaic

variable {F : FTy → Type} [FloatOps F]

/-- A matrix of the chain. -/
abbrev Mat (F : FTy → Type) : Type := FVec F S64x64 .f32

/-- The product of two. -/
def dot (p q : Mat F) : Mat F := matmul dot_S64x64_S64x64_S64x64_1_0_0_1_n_n none p q (constant S64x64 .f32 0x00000000#32)

/-- The largest entry. -/
def mx (p : Mat F) : FVec F S1x1 .f32 :=
  broadcast S1x1 (extractAt ![0, 0, 0] (shapeCast S1x1x1 (multiReduction .maximumf [1, 2] S1 (shapeCast S1x64x64 p shapeCasts_S64x64_S1x64x64) 0xFF800000#32
    reduces_S1x64x64_S1 (.inl rfl) rfl) shapeCasts_S1_S1x1x1) inpos_S1x1x1_p0_0_0)

/-- A matrix divided by its largest entry. -/
def sc (p : Mat F) : Mat F := mulf p (broadcastTo S64x64 (divf (broadcast S1x1 (Scalar.ofBits .f32 0x3F800000#32)) (mx p)) broadcasts_S1x1_S64x64)
/-- The logarithm of the divisor. -/
def lg (p : Mat F) : FVec F S1x1 .f32 := log (mx p)

/-- One level of the tree over `n` matrices: neighbours multiplied, an odd last one carried. -/
def lev (n : ℕ) (s : ℕ → Mat F) (k : ℕ) : Mat F := if 2 * k + 1 < n then dot (s (2 * k)) (s (2 * k + 1)) else s (2 * k)

/-- The matrices after three levels, before the first rescaling, -/
def up3 (s : ℕ → Mat F) : ℕ → Mat F := lev 50 (lev 100 (lev 199 s))
/-- and after three more, before the second. -/
def up6 (s : ℕ → Mat F) : ℕ → Mat F := lev 7 (lev 13 (lev 25 fun k => sc (up3 s k)))
/-- The product of all, over the divisors. -/
def top (s : ℕ → Mat F) : Mat F := lev 2 (lev 4 fun k => sc (up6 s k)) 0

/-- The logarithms of the divisors, in order, -/
def lgs (s : ℕ → Mat F) (k : ℕ) : FVec F S1x1 .f32 := if k < 25 then lg (up3 s k) else lg (up6 s (k - 25))
/-- summed from the left. -/
def suml (g : ℕ → FVec F S1x1 .f32) : ℕ → FVec F S1x1 .f32
  | 0 => g 0
  | k + 1 => addf (suml g k) (g (k + 1))

/-- The vector of the start times the product. -/
def zz (z0 : FVec F S1x64 .f32) (s : ℕ → Mat F) : FVec F S1x64 .f32 :=
  matmul dot_S1x64_S64x64_S1x64_1_0_0_1_n_n none z0 (top s) (constant S1x64 .f32 0x00000000#32)

/-- The logarithm of the partition function. -/
def lz (z0 : FVec F S1x64 .f32) (s : ℕ → Mat F) : FVec F S1x1 .f32 :=
  addf (suml (lgs s) 28) (log (shapeCast S1x1 (multiReduction .add [1] S1 (zz z0 s) 0x00000000#32 reduces_S1x64_S1 (.inl rfl) rfl) shapeCasts_S1_S1x1))

/-- A matrix of the stack lies in it. -/
theorem inb (t : ℕ) (h : t < 199) : ∀ a, (![t, 0, 0] : Fin 3 → ℕ) a + S1x64x64.size a ≤ S199x64x64.size a := by
  intro a
  match a with
  | 0 => exact (by omega : t + 1 ≤ 199)
  | 1 => exact (by decide : 0 + 64 ≤ 64)
  | 2 => exact (by decide : 0 + 64 ≤ 64)

variable (c : Dev nD) (f0 : Bf (F := F) c (stage1_0 0)) (f1 : Bf (F := F) c (stage1_1 0)) (f2 : Bf (F := F) c (stage1_2 0))
    (f3 : Bf (F := F) c (stage1_3 0)) (f4 : Bf (F := F) c (stage1_4 0)) (f5 : Bf (F := F) c (stage1_5 0)) (f6 : Bf (F := F) c (stage1_6 0))
    (f7 : Bf (F := F) c (stage1_7 0)) (f8 : Bf (F := F) c (stage1_8 0))

/-- Matrix `t` of the chain, as the body reads it back from its scratch. -/
def slc (t : ℕ) : Mat F :=
  if h : t < 199 then shapeCast S64x64 ((Memref.whole cc1_scratch0).view.readCov (bodyRun.sl.Hs_1 c f0 f1 f2 f3 f4 f5 f6 f7 f8)
    (Rect.unit (s := S199x64x64) ![t, 0, 0] S1x64x64.size (inb t h)).toLoadRect) shapeCasts_S1x64x64_S64x64
  else fun _ => Scalar.ofBits .f32 0x00000000#32

set_option maxHeartbeats 4000000 in
/-- The body's logarithm of the partition function is the tree's. -/
theorem lz_eq : bodyRun.sl.r_258 c f0 f1 f2 f3 f4 f5 f6 f7 f8 = lz (bodyRun.sl.r_30 c f0 f1 f2 f6 f7) (slc c f0 f1 f2 f3 f4 f5 f6 f7 f8) := rfl

/-- The body's result, from what goes into it. -/
theorem body_eq : (bodyRun c f0 f1 f2 f3 f4 f5 f6 f7 f8).1 =
    k1_pay1 (bodyRun.sl.r_28 c f3 f6 f8) (lz (bodyRun.sl.r_30 c f0 f1 f2 f6 f7) (slc c f0 f1 f2 f3 f4 f5 f6 f7 f8))
      (bodyRun.sl.r_259 c f0 f1 f2 f6 f7) (bodyRun.sl.r_260 c f3 f4 f5 f6 f8) := rfl

end Cert.Proof.Tree

end
-- ==== Proof.Crf.lean ====
/-
  The mathematics, over the reals: a convolution of width three followed by a projection is a projection with folded weights; the
  log-sum-exp recursion over a chain is a product of positive matrices.
-/
module

public import Mathlib.Analysis.SpecialFunctions.Log.Basic
public import Mathlib.LinearAlgebra.Matrix.Notation
public import Mathlib.Data.Matrix.Mul
public import Mathlib.Algebra.BigOperators.Fin

@[expose] public section

noncomputable section

namespace Cert.Proof.Crf

open scoped BigOperators

/-- The logistic function. -/
def sg (x : ℝ) : ℝ := 1 / (1 + Real.exp (-x))

/-! ## The folded weights -/

/-- The entry one place to the left, zero at the left end. -/
def lft (x : Fin 128 → ℝ) (d : Fin 128) : ℝ := if h : d.val < 1 then 0 else x ⟨d.val - 1, by omega⟩
/-- The entry one place to the right, zero at the right end. -/
def rgt (x : Fin 128 → ℝ) (d : Fin 128) : ℝ := if h : d.val < 127 then x ⟨1 + d.val, by omega⟩ else 0

/-- Shifting one factor of a sum of products to the left is shifting the other to the right. -/
theorem sum_lft (x w : Fin 128 → ℝ) : ∑ d, lft x d * w d = ∑ d, x d * rgt w d := by
  rw [Fin.sum_univ_succ (n := 127), Fin.sum_univ_castSucc (n := 127) (f := fun d => x d * rgt w d)]
  have h0 : lft x 0 = 0 := by simp [lft]
  have h1 : rgt w (Fin.last 127) = 0 := by simp [rgt]
  rw [h0, h1, zero_mul, mul_zero, zero_add, add_zero]
  refine Finset.sum_congr rfl fun i _ => ?_
  have h2 : lft x i.succ = x i.castSucc := by simp [lft]; rfl
  have h3 : rgt w i.castSucc = w i.succ := by
    simp only [rgt, Fin.val_castSucc, i.isLt, dif_pos]
    exact congrArg w (Fin.ext (by simp [Fin.val_succ, Nat.add_comm]))
  rw [h2, h3]

/-- Shifting one factor to the right is shifting the other to the left. -/
theorem sum_rgt (x w : Fin 128 → ℝ) : ∑ d, rgt x d * w d = ∑ d, x d * lft w d := by
  have h := sum_lft w x
  simp only [mul_comm] at h ⊢
  exact h.symm

/-- The projection `w` folded into the three taps `a`. -/
def fw (a : Fin 3 → ℝ) (w : Fin 128 → ℝ) (d : Fin 128) : ℝ := a 0 * rgt w d + a 1 * w d + a 2 * lft w d

/-- What one channel's three taps give at a place. -/
def tap (a : Fin 3 → ℝ) (x : Fin 128 → ℝ) (d : Fin 128) : ℝ := a 0 * lft x d + a 1 * x d + a 2 * rgt x d

/-- A projection of three taps is a projection with folded weights. -/
theorem sum_tap (a : Fin 3 → ℝ) (x w : Fin 128 → ℝ) : ∑ d, tap a x d * w d = ∑ d, x d * fw a w d := by
  have e : ∀ d, tap a x d * w d = a 0 * (lft x d * w d) + a 1 * (x d * w d) + a 2 * (rgt x d * w d) := fun d => by unfold tap; ring
  have e' : ∀ d, x d * fw a w d = a 0 * (x d * rgt w d) + a 1 * (x d * w d) + a 2 * (x d * lft w d) := fun d => by unfold fw; ring
  simp only [e, e', Finset.sum_add_distrib, ← Finset.mul_sum, sum_lft, sum_rgt]

/-- The logit of two channels `x0`, `x1`, by folded weights. -/
def logit (a : Fin 2 → Fin 3 → ℝ) (b : ℝ) (w : Fin 128 → ℝ) (bl : ℝ) (x0 x1 : Fin 128 → ℝ) : ℝ :=
  b * (∑ d, w d) + bl + ∑ d, x0 d * fw (a 0) w d + ∑ d, x1 d * fw (a 1) w d

/-- The convolution of two channels, at a place. -/
def conv (a : Fin 2 → Fin 3 → ℝ) (b : ℝ) (x0 x1 : Fin 128 → ℝ) (d : Fin 128) : ℝ :=
  0 + b + a 0 0 * lft x0 d + a 0 1 * x0 d + a 0 2 * rgt x0 d + a 1 0 * lft x1 d + a 1 1 * x1 d + a 1 2 * rgt x1 d

/-- The convolution followed by the projection is the logit. -/
theorem conv_proj (a : Fin 2 → Fin 3 → ℝ) (b : ℝ) (w : Fin 128 → ℝ) (bl : ℝ) (x0 x1 : Fin 128 → ℝ) :
    (∑ d, conv a b x0 x1 d * w d) + bl = logit a b w bl x0 x1 := by
  have e : ∀ d, conv a b x0 x1 d * w d = b * w d + tap (a 0) x0 d * w d + tap (a 1) x1 d * w d := fun d => by unfold conv tap; ring
  simp only [e, Finset.sum_add_distrib, sum_tap, ← Finset.mul_sum, logit]
  ring

/-! ## The model -/

/-- The weights of one of the two convolutions and its projection. -/
structure Wt where
  a : Fin 2 → Fin 3 → ℝ
  b : ℝ
  w : Fin 128 → ℝ
  bl : ℝ

/-- Everything the score is computed from: the weights, and the gathered rows. -/
structure Data where
  e : Wt
  t : Wt
  obs : Fin 200 → Fin 16 → Fin 128 → ℝ
  cand : Fin 200 → Fin 64 → Fin 128 → ℝ
  hid : Fin 200 → Fin 16 → Fin 128 → ℝ

/-- The mean of the sixteen rows at a place. -/
def mean (x : Fin 200 → Fin 16 → Fin 128 → ℝ) (t : Fin 200) (d : Fin 128) : ℝ := (∑ n, x t n d) / 16

/-- The logit of two channels under these weights. -/
def Wt.lg (W : Wt) (x0 x1 : Fin 128 → ℝ) : ℝ := logit W.a W.b W.w W.bl x0 x1

variable (D : Data)

/-- The emission score of candidate `k` at `t`. -/
def em (t : Fin 200) (k : Fin 64) : ℝ := sg (D.e.lg (mean D.obs t) (D.cand t k))
/-- The transition score from candidate `i` at `t` to candidate `j` at `t + 1`. -/
def tr (t : Fin 199) (i j : Fin 64) : ℝ := sg (D.t.lg (D.cand t.castSucc i) (D.cand t.succ j))

/-- The matrix of the step from `t` to `t + 1`. -/
def M (t : Fin 199) : Matrix (Fin 64) (Fin 64) ℝ := fun i j => Real.exp (tr D t i j + em D t.succ j)
/-- The weights at the start. -/
def Z0 (k : Fin 64) : ℝ := Real.exp (em D 0 k)

/-- Every entry of a step is positive. -/
theorem M_pos (t : Fin 199) (i j : Fin 64) : 0 < M D t i j := Real.exp_pos _
/-- Every weight at the start is positive. -/
theorem Z0_pos (k : Fin 64) : 0 < Z0 D k := Real.exp_pos _

/-- The logarithm of the partition function. -/
def fwd : ℝ := Real.log (∑ j, Matrix.vecMul (Z0 D) (List.ofFn (M D)).prod j)

/-- The score of the given hidden states. -/
def gold : ℝ := (∑ t, sg (D.e.lg (mean D.hid t) (mean D.obs t)))
  + ∑ t : Fin 199, sg (D.t.lg (mean D.hid t.succ) (mean D.hid t.castSucc))

/-- The negative log-likelihood. -/
def score : ℝ := fwd D - gold D

/-! ## The recursion -/

/-- A vector of positive entries times a matrix of positive entries has positive entries. -/
theorem vecMul_pos {v : Fin 64 → ℝ} {A : Matrix (Fin 64) (Fin 64) ℝ} (hv : ∀ i, 0 < v i) (hA : ∀ i j, 0 < A i j) (j : Fin 64) :
    0 < Matrix.vecMul v A j := Finset.sum_pos (fun i _ => mul_pos (hv i) (hA i j)) Finset.univ_nonempty

/-- One step of the log-sum-exp recursion. -/
def stepA (t : Fin 199) (α : Fin 64 → ℝ) (j : Fin 64) : ℝ := Real.log (∑ i, Real.exp (α i + tr D t i j + em D t.succ j))

/-- The logarithms after `k` steps. -/
def alpha : ℕ → Fin 64 → ℝ
  | 0 => em D 0
  | k + 1 => if h : k < 199 then stepA D ⟨k, h⟩ (alpha k) else alpha k

/-- The exponentials of the logarithms after `k` steps are the start times the first `k` matrices. -/
theorem exp_alpha : ∀ k, k ≤ 199 → (fun j => Real.exp (alpha D k j)) = Matrix.vecMul (Z0 D) ((List.ofFn (M D)).take k).prod
  | 0, _ => by simp [alpha, Z0]; rfl
  | k + 1, h => by
      have hk : k < 199 := by omega
      have ih := exp_alpha k (by omega)
      rw [List.prod_take_succ _ _ (by simpa using hk), ← Matrix.vecMul_vecMul, ← ih]
      funext j
      simp only [alpha, dif_pos hk, stepA]
      rw [Real.exp_log (Finset.sum_pos (fun i _ => Real.exp_pos _) Finset.univ_nonempty)]
      simp only [Matrix.vecMul, dotProduct, List.getElem_ofFn, M, ← Real.exp_add, add_assoc]

/-- The partition function from the recursion's last logarithms. -/
theorem log_alpha : Real.log (∑ j, Real.exp (alpha D 199 j)) = fwd D := by
  have h := exp_alpha D 199 le_rfl
  rw [List.take_of_length_le (by simp)] at h
  unfold fwd
  rw [← h]

/-- A maximum subtracted before the exponentials and added after the logarithm changes nothing. -/
theorem log_shift (f : Fin 64 → ℝ) (r : ℝ) : Real.log (∑ i, Real.exp (f i - r)) + r = Real.log (∑ i, Real.exp (f i)) := by
  have e : ∑ i, Real.exp (f i - r) = (∑ i, Real.exp (f i)) * Real.exp (-r) := by
    rw [Finset.sum_mul]; exact Finset.sum_congr rfl fun i _ => by rw [← Real.exp_add, sub_eq_add_neg]
  rw [e, Real.log_mul (Finset.sum_pos (fun i _ => Real.exp_pos _) Finset.univ_nonempty).ne' (Real.exp_pos _).ne', Real.log_exp]
  ring

end Cert.Proof.Crf

end
-- ==== Proof.KTree.lean ====
/-
  The tree of products over the extended reals: of matrices of positive reals it gives the product of all, divided by the divisors
  whose logarithms it adds up.
-/
module

public import proofs.«01_k».proof.Proof.Tree
public import proofs.«01_k».proof.Proof.Crf
public import Idealize.ShloMosaic.Lib.Pointwise

@[expose] public section

noncomputable section

namespace Cert.Proof.Tree

open Cert.KernelIdeal Cert.KernelIdeal.Gen
open Idealize.ShloMosaic
open scoped BigOperators

/-- A finite sum of reals, as extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- The largest of finitely many reals, from below all of them, is one of them, if there is any. -/
theorem fold_max {ι : Type} (s : Finset ι) (hs : s.Nonempty) (f : ι → ℝ) (b : EReal) (hb : b = ⊥) :
    ∃ i ∈ s, s.fold max b (fun k => ((f k : ℝ) : EReal)) = ((f i : ℝ) : EReal) := by
  classical
  subst hb
  induction hs using Finset.Nonempty.cons_induction with
  | singleton a => exact ⟨a, by simp, by simp⟩
  | cons a s h hs ih =>
    obtain ⟨i, hi, e⟩ := ih
    rw [Finset.fold_cons, e]
    rcases le_total (f a) (f i) with hle | hle
    · exact ⟨i, by simp [hi], max_eq_right (by exact_mod_cast hle)⟩
    · exact ⟨a, by simp, max_eq_left (by exact_mod_cast hle)⟩

/-- A matrix of reals. -/
abbrev RMat : Type := Matrix (Fin 64) (Fin 64) ℝ

/-- The entries of `p` are the positive reals `A`. -/
def Rep (p : Mat Ideal) (A : RMat) : Prop := (∀ i j, p (ix2 i j) = ((A i j : ℝ) : EReal)) ∧ ∀ i j, 0 < A i j

/-- The product of two matrices over the extended reals holds that of the reals they hold. -/
theorem dot_rep {p q : Mat Ideal} {A B : RMat} (hp : Rep p A) (hq : Rep q B) : Rep (dot p q) (A * B) := by
  refine ⟨fun i j => ?_, fun i j => Finset.sum_pos (fun k _ => mul_pos (hp.2 i k) (hq.2 k j)) Finset.univ_nonempty⟩
  pointwise [dot]
  simp only [hp.1, hq.1, ← EReal.coe_mul, coe_sum, Matrix.mul_apply]

/-- There is one place. -/
theorem idx11 (i : S1x1.Idx) : i = ix2 0 0 := by
  rw [eq_ix2 i]
  exact congrArg₂ _ (Subsingleton.elim (α := Fin 1) _ _) (Subsingleton.elim (α := Fin 1) _ _)

/-- The largest entry is a positive real. -/
theorem mx_rep {p : Mat Ideal} {A : RMat} (hp : Rep p A) : ∃ r : ℝ, 0 < r ∧ ∀ i, mx p i = ((r : ℝ) : EReal) := by
  have key : ∃ r : ℝ, 0 < r ∧ mx p (ix2 0 0) = ((r : ℝ) : EReal) := by
    pointwise [mx]
    simp only [hp.1]
    have hb : Ideal.ofBits .f32 4286578688#32 = ⊥ := by simp [Ideal.ofBits, Ideal.ieee]
    obtain ⟨i, _, e⟩ := fold_max Finset.univ Finset.univ_nonempty (fun x : Fin 64 × Fin 64 => A x.1 x.2) _ hb
    exact ⟨A i.1 i.2, hp.2 _ _, e⟩
  obtain ⟨r, hr, e⟩ := key
  exact ⟨r, hr, fun i => by rw [idx11 i, e]⟩

/-- A matrix over its largest entry. -/
theorem sc_rep {p : Mat Ideal} {A : RMat} (hp : Rep p A) {r : ℝ} (hr : 0 < r) (e : ∀ i, mx p i = ((r : ℝ) : EReal)) : Rep (sc p) (r⁻¹ • A) := by
  refine ⟨fun i j => ?_, fun i j => by simpa using mul_pos (inv_pos.2 hr) (hp.2 i j)⟩
  have h : sc p (ix2 i j) = p (ix2 i j) * (1 * ((1 / r : ℝ) : EReal)) := by
    generalize hm : mx p = m at e
    have : sc p = mulf p (broadcastTo S64x64 (divf (broadcast S1x1 (Scalar.ofBits .f32 0x3F800000#32)) m) broadcasts_S1x1_S64x64) := by rw [← hm]; rfl
    rw [this]
    pointwise
    rw [e, ← EReal.coe_one, Ideal.div_coe hr.ne', EReal.coe_one, one_mul]
  rw [h, hp.1, one_mul, ← EReal.coe_mul]
  simp [mul_comm]

/-- The logarithm of a positive divisor. -/
theorem lg_rep {p : Mat Ideal} {r : ℝ} (hr : 0 < r) (e : ∀ i, mx p i = ((r : ℝ) : EReal)) : ∀ i, lg p i = ((Real.log r : ℝ) : EReal) := by
  intro i
  have h : lg p i = Ideal.log (mx p i) := by
    unfold lg
    generalize mx p = m
    rfl
  rw [h, e]
  exact if_neg (not_le.2 hr)

/-- One level of the tree, of reals. -/
def levR (n : ℕ) (s : ℕ → RMat) (k : ℕ) : RMat := if 2 * k + 1 < n then s (2 * k) * s (2 * k + 1) else s (2 * k)

/-- A level of the tree holds the level of the reals. -/
theorem lev_rep {n : ℕ} {s : ℕ → Mat Ideal} {A : ℕ → RMat} (h : ∀ k < n, Rep (s k) (A k)) : ∀ k < (n + 1) / 2, Rep (lev n s k) (levR n A k) := by
  intro k hk
  by_cases hc : 2 * k + 1 < n
  · have e1 : lev n s k = dot (s (2 * k)) (s (2 * k + 1)) := if_pos hc
    have e2 : levR n A k = A (2 * k) * A (2 * k + 1) := if_pos hc
    rw [e1, e2]; exact dot_rep (h _ (by omega)) (h _ hc)
  · have e1 : lev n s k = s (2 * k) := if_neg hc
    have e2 : levR n A k = A (2 * k) := if_neg hc
    rw [e1, e2]; exact h _ (by omega)

/-- The product of the first `n`. -/
def prd (A : ℕ → RMat) (n : ℕ) : RMat := ((List.range n).map A).prod

/-- One factor more. -/
theorem prd_succ (A : ℕ → RMat) (n : ℕ) : prd A (n + 1) = prd A n * A n := by simp [prd, List.range_succ]

/-- The product depends on its factors alone. -/
theorem prd_congr {A B : ℕ → RMat} {n : ℕ} (h : ∀ k < n, A k = B k) : prd A n = prd B n := by
  unfold prd
  rw [List.map_congr_left fun k hk => h k (List.mem_range.1 hk)]

/-- Factors multiplied in pairs. -/
theorem prd_pair (A : ℕ → RMat) : ∀ m, prd (fun k => A (2 * k) * A (2 * k + 1)) m = prd A (2 * m)
  | 0 => rfl
  | m + 1 => by rw [prd_succ, prd_pair A m, show 2 * (m + 1) = 2 * m + 1 + 1 by ring, prd_succ, prd_succ, mul_assoc]

/-- A level keeps the product. -/
theorem prd_lev (A : ℕ → RMat) (n : ℕ) : prd (levR n A) ((n + 1) / 2) = prd A n := by
  obtain ⟨m, rfl | rfl⟩ := Nat.even_or_odd' n
  · rw [show (2 * m + 1) / 2 = m by omega, ← prd_pair]
    exact prd_congr fun k hk => if_pos (by omega)
  · rw [show (2 * m + 1 + 1) / 2 = m + 1 by omega, prd_succ, prd_succ, ← prd_pair]
    exact congrArg₂ _ (prd_congr fun k hk => if_pos (by omega)) (if_neg (by omega))

/-- Factors divided by reals. -/
theorem prd_smul (A : ℕ → RMat) (r : ℕ → ℝ) : ∀ n, prd (fun k => (r k)⁻¹ • A k) n = (∏ k ∈ Finset.range n, r k)⁻¹ • prd A n
  | 0 => by simp [prd]
  | n + 1 => by rw [prd_succ, prd_succ, prd_smul A r n, Finset.prod_range_succ, Matrix.smul_mul, Matrix.mul_smul, smul_smul, mul_inv]

/-- A rescaled level: the divisors, and their logarithms. -/
theorem sc_level {n : ℕ} {s : ℕ → Mat Ideal} {A : ℕ → RMat} (h : ∀ k < n, Rep (s k) (A k)) :
    ∃ r : ℕ → ℝ, (∀ k, 0 < r k) ∧ (∀ k < n, Rep (sc (s k)) ((r k)⁻¹ • A k)) ∧ ∀ k < n, ∀ i, lg (s k) i = ((Real.log (r k) : ℝ) : EReal) := by
  have h' : ∀ k, ∃ r : ℝ, 0 < r ∧ (k < n → ∀ i, mx (s k) i = ((r : ℝ) : EReal)) := fun k => by
    by_cases hk : k < n
    · obtain ⟨r, hr, e⟩ := mx_rep (h k hk); exact ⟨r, hr, fun _ => e⟩
    · exact ⟨1, one_pos, fun hk' => absurd hk' hk⟩
  choose r hr e using h'
  exact ⟨r, hr, fun k hk => sc_rep (h k hk) (hr k) (e k hk), fun k hk => lg_rep (hr k) (e k hk)⟩

/-- A sum from the left holds the sum of the reals. -/
theorem suml_rep {g : ℕ → FVec Ideal S1x1 .f32} {l : ℕ → ℝ} : ∀ n, (∀ k ≤ n, ∀ i, g k i = ((l k : ℝ) : EReal)) →
    ∀ i, suml g n i = ((∑ k ∈ Finset.range (n + 1), l k : ℝ) : EReal)
  | 0, h, i => by simpa [suml] using h 0 le_rfl i
  | n + 1, h, i => by
      show suml g n i + g (n + 1) i = _
      rw [suml_rep n (fun k hk => h k (by omega)) i, h (n + 1) le_rfl i, Finset.sum_range_succ _ (n + 1), EReal.coe_add]

/-- The tree's logarithm of the partition function. -/
theorem lz_rep {z0 : FVec Ideal S1x64 .f32} {Z : Fin 64 → ℝ} (hZ : ∀ j, z0 (ix2 0 j) = ((Z j : ℝ) : EReal)) (hZp : ∀ j, 0 < Z j)
    {s : ℕ → Mat Ideal} {A : ℕ → RMat} (h : ∀ k < 199, Rep (s k) (A k)) (i : S1x1.Idx) :
    lz z0 s i = ((Real.log (∑ j, Matrix.vecMul Z (prd A 199) j) : ℝ) : EReal) := by
  have h3 := lev_rep (n := 50) (lev_rep (n := 100) (lev_rep h))
  obtain ⟨r3, p3, s3, l3⟩ := sc_level h3
  have h6 := lev_rep (n := 7) (lev_rep (n := 13) (lev_rep (n := 25) s3))
  obtain ⟨r6, p6, s6, l6⟩ := sc_level h6
  have ht := lev_rep (n := 2) (lev_rep (n := 4) s6) 0 (by omega)
  set c3 : ℝ := ∏ k ∈ Finset.range 25, r3 k with hc3
  set c6 : ℝ := ∏ k ∈ Finset.range 4, r6 k with hc6
  have c3p : 0 < c3 := Finset.prod_pos fun k _ => p3 k
  have c6p : 0 < c6 := Finset.prod_pos fun k _ => p6 k
  have eT : levR 2 (levR 4 fun k => (r6 k)⁻¹ • levR 7 (levR 13 (levR 25 fun k => (r3 k)⁻¹ • levR 50 (levR 100 (levR 199 A)) k)) k) 0
      = (c6⁻¹ * c3⁻¹) • prd A 199 := by
    have e1 : ∀ B : ℕ → RMat, B 0 = prd B 1 := fun B => by simp [prd]
    rw [e1 (levR 2 _), prd_lev _ 2, prd_lev _ 4, prd_smul, prd_lev _ 7, prd_lev _ 13, prd_lev _ 25, prd_smul, prd_lev _ 50, prd_lev _ 100, prd_lev _ 199, smul_smul]
  rw [eT] at ht
  have hl : ∀ k ≤ 28, ∀ i, lgs s k i = ((Real.log (if k < 25 then r3 k else r6 (k - 25)) : ℝ) : EReal) := by
    intro k hk i
    unfold lgs
    by_cases hc : k < 25
    · rw [if_pos hc, if_pos hc]; exact l3 k hc i
    · rw [if_neg hc, if_neg hc]; exact l6 _ (by omega) i
  have hs := suml_rep 28 hl i
  have el : ∑ k ∈ Finset.range 29, Real.log (if k < 25 then r3 k else r6 (k - 25)) = Real.log (c6 * c3) := by
    rw [Real.log_mul c6p.ne' c3p.ne', hc3, hc6, Real.log_prod fun k _ => (p3 k).ne', Real.log_prod fun k _ => (p6 k).ne', add_comm,
      show 29 = 25 + 4 from rfl, Finset.sum_range_add]
    refine congrArg₂ _ (Finset.sum_congr rfl fun k hk => by rw [if_pos (Finset.mem_range.1 hk)]) (Finset.sum_congr rfl fun k hk => ?_)
    rw [if_neg (by omega), Nat.add_sub_cancel_left]
  rw [el] at hs
  have hz : ∀ j, zz z0 s (ix2 0 j) = ((Matrix.vecMul Z ((c6⁻¹ * c3⁻¹) • prd A 199) j : ℝ) : EReal) := by
    intro j
    have ht' := ht.1
    change ∀ i j, top s (ix2 i j) = _ at ht'
    unfold zz
    generalize top s = T at ht' ⊢
    pointwise
    simp only [hZ, ht', ← EReal.coe_mul, coe_sum, Matrix.vecMul, dotProduct]
  have hZP : 0 < ∑ j, Matrix.vecMul Z ((c6⁻¹ * c3⁻¹) • prd A 199) j :=
    Finset.sum_pos (fun j _ => Crf.vecMul_pos hZp (fun i j => ht.2 i j) j) Finset.univ_nonempty
  have hS : ∑ j, Matrix.vecMul Z (prd A 199) j = (c6 * c3) * ∑ j, Matrix.vecMul Z ((c6⁻¹ * c3⁻¹) • prd A 199) j := by
    rw [Finset.mul_sum]
    refine Finset.sum_congr rfl fun j _ => ?_
    rw [Matrix.vecMul_smul, Pi.smul_apply, smul_eq_mul, ← mul_assoc, ← mul_inv, mul_inv_cancel₀ (mul_pos c6p c3p).ne', one_mul]
  rw [hS, Real.log_mul (mul_pos c6p c3p).ne' hZP.ne', EReal.coe_add]
  unfold lz
  generalize zz z0 s = y at hz ⊢
  generalize suml (lgs s) 28 = q at hs ⊢
  rw [idx11 i] at hs ⊢
  pointwise
  rw [hs]
  simp only [hz, coe_sum]
  exact congrArg _ (if_neg (not_le.2 hZP))

end Cert.Proof.Tree

end
-- ==== Proof.KVal.lean ====
/-
  What the tensor core's body computes, over the extended reals and from entries that are reals: the folded weights, the emission and
  transition scores, the matrices of the chain, and from them the negative log-likelihood.
-/
module

public import proofs.«01_k».proof.Proof.KTree

@[expose] public section

noncomputable section

namespace Cert.Proof.KVal

open Cert.KernelIdeal Cert.KernelIdeal.Gen
open Idealize.ShloMosaic
open Cert.Proof.Crf Cert.Proof.Tree
open scoped BigOperators

/-- The logistic function of a real. -/
theorem logistic_coe (x : ℝ) : Ideal.logistic ((x : ℝ) : EReal) = ((sg x : ℝ) : EReal) := by
  have h : (1 : ℝ) + Real.exp (-x) ≠ 0 := (add_pos one_pos (Real.exp_pos _)).ne'
  have e : (1 : EReal) + Ideal.exp (-((x : ℝ) : EReal)) = (((1 : ℝ) + Real.exp (-x) : ℝ) : EReal) := by
    rw [← EReal.coe_neg, EReal.coe_add, EReal.coe_one]; rfl
  show Ideal.div 1 (1 + Ideal.exp (-((x : ℝ) : EReal))) = _
  rw [e, Ideal.div_coe h, one_mul]
  rfl

/-- The exponential of a real. -/
theorem exp_coe (x : ℝ) : Ideal.exp ((x : ℝ) : EReal) = ((Real.exp x : ℝ) : EReal) := rfl

/-- The word of one sixteenth. -/
theorem ofBits_sixteenth : Ideal.ofBits .f32 1031798784#32 = (((1 : ℝ) / 16 : ℝ) : EReal) := by
  simp [Ideal.ofBits, Ideal.ieee, -EReal.coe_mul]; norm_num

/-- A row of a group of sixteen is among the 3200. -/
theorem lt16 (t : Fin 200) (n : Fin 16) : t.val * 16 + n.val < 3200 := by omega
/-- A row of a group of 64 is among the 12800. -/
theorem lt64 (t : Fin 200) (k : Fin 64) : t.val * 64 + k.val < 12800 := by omega

/-- The place after `t`. -/
theorem next (t : Fin 199) : (⟨1 + t.val, by omega⟩ : Fin 200) = t.succ := Fin.ext (by simp [Nat.add_comm])

/-! ## The folded weights -/

section
variable {v2 : Vec Ideal S1x128 .f32} {w : Fin 128 → ℝ} (hw : ∀ d, v2 (ix2 0 d) = ((w d : ℝ) : EReal))
  {a0 a1 a2 : Elt Ideal .f32} {a : Fin 3 → ℝ} (h0 : a0 = ((a 0 : ℝ) : EReal)) (h1 : a1 = ((a 1 : ℝ) : EReal)) (h2 : a2 = ((a 2 : ℝ) : EReal))

/-- The zero that pads a shift. -/
theorem pay2_at (i : S1x1.Idx) : (k1_pay2 : FVec Ideal S1x1 .f32) i = ((0 : ℝ) : EReal) := by
  rw [idx11 i, EReal.coe_zero]
  pointwise [k1_pay2]

include hw h0 h1 h2

/-- A row folded into three taps, entry by entry. -/
theorem fold_at (d : Fin 128) :
    ((a0 * if h : d.val < 127 then v2 (ix2 0 ⟨1 + d.val, by omega⟩) else (k1_pay2 : FVec Ideal S1x1 .f32) (ix2 0 ⟨d.val - 127, by omega⟩)) + a1 * v2 (ix2 0 d) +
      a2 * if h : d.val < 1 then (k1_pay2 : FVec Ideal S1x1 .f32) (ix2 0 ⟨d.val, by omega⟩) else v2 (ix2 0 ⟨d.val - 1, by omega⟩)) =
    ((fw a w d : ℝ) : EReal) := by
  have e1 : (if h : d.val < 127 then v2 (ix2 0 ⟨1 + d.val, by omega⟩) else (k1_pay2 : FVec Ideal S1x1 .f32) (ix2 0 ⟨d.val - 127, by omega⟩)) = ((rgt w d : ℝ) : EReal) := by
    unfold rgt; split_ifs
    · exact hw _
    · exact pay2_at _
  have e2 : (if h : d.val < 1 then (k1_pay2 : FVec Ideal S1x1 .f32) (ix2 0 ⟨d.val, by omega⟩) else v2 (ix2 0 ⟨d.val - 1, by omega⟩)) = ((lft w d : ℝ) : EReal) := by
    unfold lft; split_ifs
    · exact pay2_at _
    · exact hw _
  rw [e1, e2, hw, h0, h1, h2]
  simp only [← EReal.coe_mul, ← EReal.coe_add]
  rfl

/-- Folded weights, first written. -/
theorem pay3_at (d : Fin 128) : k1_pay3 v2 a0 a1 a2 (ix3 0 0 d) = ((fw a w d : ℝ) : EReal) := by
  pointwise [k1_pay3]
  exact fold_at hw h0 h1 h2 d
/-- Folded weights, second written. -/
theorem pay4_at (d : Fin 128) : k1_pay4 v2 a0 a1 a2 (ix3 0 0 d) = ((fw a w d : ℝ) : EReal) := by
  pointwise [k1_pay4]
  exact fold_at hw h0 h1 h2 d
/-- Folded weights, third written. -/
theorem pay6_at (d : Fin 128) : k1_pay6 k1_pay2 v2 (k1_pay5 v2) a0 a1 a2 (ix3 0 0 d) = ((fw a w d : ℝ) : EReal) := by
  pointwise [k1_pay6, k1_pay5]
  exact fold_at hw h0 h1 h2 d
/-- Folded weights, fourth written. -/
theorem pay7_at (d : Fin 128) : k1_pay7 k1_pay2 v2 a0 a1 a2 (ix3 0 0 d) = ((fw a w d : ℝ) : EReal) := by
  pointwise [k1_pay7]
  exact fold_at hw h0 h1 h2 d
end

section
variable {v2 : Vec Ideal S1x128 .f32} {w : Fin 128 → ℝ} (hw : ∀ d, v2 (ix2 0 d) = ((w d : ℝ) : EReal))
  {p q : Elt Ideal .f32} {b bl : ℝ} (hb : p = ((b : ℝ) : EReal)) (hbl : q = ((bl : ℝ) : EReal))
include hw hb hbl

/-- The constant part of a logit. -/
theorem pay8_at : k1_pay8 v2 p q = ((b * (∑ d, w d) + bl : ℝ) : EReal) := by
  subst hb hbl
  pointwise [k1_pay8]
  simp only [hw, coe_sum, ← EReal.coe_mul, ← EReal.coe_add, Fintype.sum_unique]
/-- The constant part of a logit. -/
theorem pay9_at : k1_pay9 v2 p q = ((b * (∑ d, w d) + bl : ℝ) : EReal) := by
  subst hb hbl
  pointwise [k1_pay9]
  simp only [hw, coe_sum, ← EReal.coe_mul, ← EReal.coe_add, Fintype.sum_unique]
end

/-! ## The means, projected -/

section
variable {v50 : FVec Ideal S1x1x128 .f32} {u : Fin 128 → ℝ} (hu : ∀ d, v50 (ix3 0 0 d) = ((u d : ℝ) : EReal))
  {v83 : Vec Ideal S3200x128 .f32} {x : Fin 200 → Fin 16 → Fin 128 → ℝ}
  (hx : ∀ (t : Fin 200) (n : Fin 16) (d : Fin 128), v83 (ix2 ⟨t.val * 16 + n.val, lt16 t n⟩ d) = ((x t n d : ℝ) : EReal))
include hu hx

/-- Sixteen rows summed, divided by sixteen and projected are the projected mean. -/
theorem proj_at (t : Fin 200) : ∑ d : Fin 128, (∑ n : Fin 16, v83 (ix2 ⟨t.val * 16 + n.val, lt16 t n⟩ d)) * Ideal.ofBits FTy.f32 1031798784#32 * v50 (ix3 0 0 d) =
    ((∑ d, mean x t d * u d : ℝ) : EReal) := by
  simp only [hu, hx, ofBits_sixteenth, coe_sum, ← EReal.coe_mul, mean, mul_one_div]

/-- Projected means, by `proj_at`. -/
theorem pay12_at (t : Fin 200) : k1_pay12 v50 v83 (ix2 t 0) = ((∑ d, mean x t d * u d : ℝ) : EReal) := by
  pointwise [k1_pay12, k1_pay10]
  exact proj_at hu hx t
/-- Projected means, by `proj_at`. -/
theorem pay13_at (t : Fin 200) : k1_pay13 v50 v83 (ix2 t 0) = ((∑ d, mean x t d * u d : ℝ) : EReal) := by
  pointwise [k1_pay13, k1_pay10]
  exact proj_at hu hx t
/-- Projected means, by `proj_at`. -/
theorem pay14_at (t : Fin 200) : k1_pay14 v50 v83 (ix2 t 0) = ((∑ d, mean x t d * u d : ℝ) : EReal) := by
  pointwise [k1_pay14, k1_pay11]
  exact proj_at hu hx t
/-- Projected means, by `proj_at`. -/
theorem pay15_at (t : Fin 200) : k1_pay15 v50 v83 (ix2 t 0) = ((∑ d, mean x t d * u d : ℝ) : EReal) := by
  pointwise [k1_pay15, k1_pay11]
  exact proj_at hu hx t
/-- Projected means, by `proj_at`. -/
theorem pay16_at (t : Fin 200) : k1_pay16 v50 v83 (ix2 t 0) = ((∑ d, mean x t d * u d : ℝ) : EReal) := by
  pointwise [k1_pay16, k1_pay11]
  exact proj_at hu hx t
end

/-! ## The candidates -/

section
variable {v18 v34 v66 : FVec Ideal S1x1x128 .f32} {a0 a1 u : Fin 128 → ℝ}
  (h18 : ∀ d, v18 (ix3 0 0 d) = ((a0 d : ℝ) : EReal)) (h34 : ∀ d, v34 (ix3 0 0 d) = ((a1 d : ℝ) : EReal)) (h66 : ∀ d, v66 (ix3 0 0 d) = ((u d : ℝ) : EReal))
  {v74 v82 : Ideal .f32} {ct ce : ℝ} (h74 : v74 = ((ct : ℝ) : EReal)) (h82 : v82 = ((ce : ℝ) : EReal))
  {v99 : FVec Ideal S200x1 .f32} {o : Fin 200 → ℝ} (h99 : ∀ t, v99 (ix2 t 0) = ((o t : ℝ) : EReal))
  {v120 : Vec Ideal S12800x128 .f32} {x : Fin 200 → Fin 64 → Fin 128 → ℝ}
  (hx : ∀ (t : Fin 200) (k : Fin 64) (d : Fin 128), v120 (ix2 ⟨t.val * 64 + k.val, lt64 t k⟩ d) = ((x t k d : ℝ) : EReal))

include h66 h82 h99 hx in
/-- The emission scores. -/
theorem pay18_at (t : Fin 200) (k : Fin 64) : k1_pay18 v66 v82 v99 v120 (ix2 t k) = ((sg (ce + o t + ∑ d, x t k d * u d) : ℝ) : EReal) := by
  pointwise [k1_pay18, k1_pay17]
  simp only [h66, h82, h99, hx, coe_sum, ← EReal.coe_mul, ← EReal.coe_add, logistic_coe]

include h66 h82 h99 hx in
/-- The weights at the start. -/
theorem pay20_at (k : Fin 64) : k1_pay20 v66 v82 v99 v120 (ix2 0 k) = ((Real.exp (sg (ce + o 0 + ∑ d, x 0 k d * u d)) : ℝ) : EReal) := by
  have h := pay18_at h66 h82 h99 hx
  generalize e : k1_pay18 v66 v82 v99 v120 = y at h
  pointwise [k1_pay20]
  rw [e, h, exp_coe]

include h18 h34 h66 h74 h82 h99 hx in
/-- The matrices of the chain. -/
theorem pay19_at (t : Fin 199) (i j : Fin 64) : k1_pay19 v18 v34 v66 v74 v82 v99 v120 (ix3 t i j)
    = ((Real.exp (sg (ct + ∑ d, x t.castSucc i d * a0 d + ∑ d, x t.succ j d * a1 d) + sg (ce + o t.succ + ∑ d, x t.succ j d * u d)) : ℝ) : EReal) := by
  have h := pay18_at h66 h82 h99 hx
  generalize e : k1_pay18 v66 v82 v99 v120 = y at h
  pointwise [k1_pay19, k1_pay17]
  have e1 : ∀ d, v120 (ix2 ⟨(1 + t.val) * 64 + j.val, by omega⟩ d) = ((x t.succ j d : ℝ) : EReal) := fun d => by
    rw [← hx t.succ j d]
    exact congrArg v120 (congrArg (ix2 · d) (Fin.ext (by simp [Nat.add_comm])))
  have e0 : ∀ d, v120 (ix2 ⟨t.val * 64 + i.val, by omega⟩ d) = ((x t.castSucc i d : ℝ) : EReal) := fun d => hx t.castSucc i d
  have e2 : y (ix2 ⟨1 + t.val, by omega⟩ j) = ((sg (ce + o t.succ + ∑ d, x t.succ j d * u d) : ℝ) : EReal) := by
    rw [← h t.succ j, next t]
  rw [e, e2]
  simp only [e1, e0, h18, h34, h74, coe_sum, ← EReal.coe_mul, ← EReal.coe_add, logistic_coe, exp_coe]
end

/-! ## The score -/

section
variable {v82 : Ideal .f32} {ce : ℝ} (h82 : v82 = ((ce : ℝ) : EReal))
  {p q : FVec Ideal S200x1 .f32} {o r : Fin 200 → ℝ} (hp : ∀ t, p (ix2 t 0) = ((o t : ℝ) : EReal)) (hq : ∀ t, q (ix2 t 0) = ((r t : ℝ) : EReal))

include h82 hp hq in
/-- The emission scores of the hidden states. -/
theorem pay494_at (t : Fin 200) : k1_pay494 v82 p q (ix2 t 0) = ((sg (ce + r t + o t) : ℝ) : EReal) := by
  pointwise [k1_pay494]
  simp only [h82, hp, hq, ← EReal.coe_add, logistic_coe]

include h82 hp in
/-- The later hidden state's part of the transition logits. -/
theorem pay495_at (t : Fin 199) : k1_pay495 v82 p (ix2 t 0) = ((ce + o t.succ : ℝ) : EReal) := by
  pointwise [k1_pay495]
  rw [next, hp, h82, ← EReal.coe_add]

variable {y : FVec Ideal S199x1 .f32} {g : Fin 199 → ℝ} (hy : ∀ t, y (ix2 t 0) = ((g t : ℝ) : EReal))
  {z : FVec Ideal S1x1 .f32} {l : ℝ} (hz : ∀ i, z i = ((l : ℝ) : EReal))

include hp hq hy hz in
/-- The result: the partition function's logarithm less the two sums of scores. -/
theorem pay1_at (i : S1x1.Idx) : k1_pay1 p z q y i = ((l - ((∑ t, r t) + ∑ t : Fin 199, sg (g t + o t.castSucc)) : ℝ) : EReal) := by
  rw [idx11 i]
  pointwise [k1_pay1]
  have e0 : ∀ t : Fin 199, p (ix2 ⟨t.val, by omega⟩ 0) = ((o t.castSucc : ℝ) : EReal) := fun t => hp t.castSucc
  simp only [hz, hq, hy, e0, coe_sum, ← EReal.coe_add, ← EReal.coe_sub, logistic_coe]
end

end Cert.Proof.KVal
end
-- ==== Proof.BodyVal.lean ====
/-
  The tensor core's whole body: from staged operands whose entries are reals it leaves the negative log-likelihood.
-/
module

public import proofs.«01_k».proof.Proof.KVal
public import Idealize.ShloMosaic.Lib.VecWindow

@[expose] public section

noncomputable section

namespace Cert.Proof.BodyVal

open Cert.KernelIdeal Cert.KernelIdeal.Gen Cert.Proof.Body
open Idealize.ShloMosaic
open Cert.Proof.Crf Cert.Proof.Tree
open scoped BigOperators

variable (c : Dev nD) (f0 : Bf (F := Ideal) c (stage1_0 0)) (f1 : Bf (F := Ideal) c (stage1_1 0)) (f2 : Bf (F := Ideal) c (stage1_2 0))
    (f3 : Bf (F := Ideal) c (stage1_3 0)) (f4 : Bf (F := Ideal) c (stage1_4 0)) (f5 : Bf (F := Ideal) c (stage1_5 0)) (f6 : Bf (F := Ideal) c (stage1_6 0))
    (f7 : Bf (F := Ideal) c (stage1_7 0)) (f8 : Bf (F := Ideal) c (stage1_8 0))

/-- The observed rows lie at the head of the list. -/
theorem in_obs (t : Fin 200) (n : Fin 16) : t.val * 16 + n.val < 19200 := by omega
/-- The candidates' rows lie after them. -/
theorem in_cand (t : Fin 200) (k : Fin 64) : 3200 + (t.val * 64 + k.val) < 19200 := by omega
/-- The hidden states' rows lie at its end. -/
theorem in_hid (t : Fin 200) (n : Fin 16) : 16000 + (t.val * 16 + n.val) < 19200 := by omega

/-- What the staged operands hold, as reals. -/
structure Holds (D : Data) (f0 : S1x2x3.Idx → EReal) (f1 f2 : S1.Idx → EReal) (f3 : S1x2x3.Idx → EReal) (f4 f5 : S1.Idx → EReal)
    (f6 : S19200x128.Idx → EReal) (f7 f8 : S1x128.Idx → EReal) : Prop where
  ea : ∀ p q, f0 (ix3 0 p q) = ((D.e.a p q : ℝ) : EReal)
  eb : f1 (ix1 0) = ((D.e.b : ℝ) : EReal)
  el : f2 (ix1 0) = ((D.e.bl : ℝ) : EReal)
  ta : ∀ p q, f3 (ix3 0 p q) = ((D.t.a p q : ℝ) : EReal)
  tb : f4 (ix1 0) = ((D.t.b : ℝ) : EReal)
  tl : f5 (ix1 0) = ((D.t.bl : ℝ) : EReal)
  obs : ∀ (t : Fin 200) (n : Fin 16) (d : Fin 128), f6 (ix2 ⟨t.val * 16 + n.val, in_obs t n⟩ d) = ((D.obs t n d : ℝ) : EReal)
  cand : ∀ (t : Fin 200) (k : Fin 64) (d : Fin 128), f6 (ix2 ⟨3200 + (t.val * 64 + k.val), in_cand t k⟩ d) = ((D.cand t k d : ℝ) : EReal)
  hid : ∀ (t : Fin 200) (n : Fin 16) (d : Fin 128), f6 (ix2 ⟨16000 + (t.val * 16 + n.val), in_hid t n⟩ d) = ((D.hid t n d : ℝ) : EReal)
  ew : ∀ d, f7 (ix2 0 d) = ((D.e.w d : ℝ) : EReal)
  tw : ∀ d, f8 (ix2 0 d) = ((D.t.w d : ℝ) : EReal)

variable {c f0 f1 f2 f3 f4 f5 f6 f7 f8} {D : Data} (H : Holds D f0 f1 f2 f3 f4 f5 f6 f7 f8)

/-- A scalar load of the transition's taps reads one of them. -/
theorem tap3 (p : Fin 2) (q : Fin 3) (inb) (h) :
    View.readAt (Elt Ideal) (stage1_3 0).view (Rect.unit (s := S1x2x3) ![0, p.val, q.val] S1x1x1.size inb).toLoadRect f3 (Shape.Idx.first h) = f3 (ix3 0 p q) := by
  refine congrArg f3 (funext fun a => ?_)
  fin_cases a
  · rfl
  · exact Fin.ext rfl
  · exact Fin.ext rfl
/-- A scalar load of the emission's taps reads one of them. -/
theorem tap0 (p : Fin 2) (q : Fin 3) (inb) (h) :
    View.readAt (Elt Ideal) (stage1_0 0).view (Rect.unit (s := S1x2x3) ![0, p.val, q.val] S1x1x1.size inb).toLoadRect f0 (Shape.Idx.first h) = f0 (ix3 0 p q) := by
  refine congrArg f0 (funext fun a => ?_)
  fin_cases a
  · rfl
  · exact Fin.ext rfl
  · exact Fin.ext rfl

/-- A single word, as loaded. -/
theorem one_at {f : S1.Idx → EReal} (j : S1.Idx) : f j = f (ix1 0) := by
  refine congrArg f (funext fun a => ?_)
  fin_cases a
  exact Subsingleton.elim (α := Fin 1) _ _

/-- The transition's projection, as loaded. -/
theorem r_7_at (d : Fin 128) : bodyRun.sl.r_7 c f8 (ix2 0 d) = f8 (ix2 0 d) := by
  unfold bodyRun.sl.r_7
  refine congrArg f8 (funext fun a => ?_)
  fin_cases a
  · rfl
  · exact Fin.ext (by show 0 + 1 * d.val = d.val; omega)
/-- The emission's projection, as loaded. -/
theorem r_6_at (d : Fin 128) : bodyRun.sl.r_6 c f7 (ix2 0 d) = f7 (ix2 0 d) := by
  unfold bodyRun.sl.r_6
  refine congrArg f7 (funext fun a => ?_)
  fin_cases a
  · rfl
  · exact Fin.ext (by show 0 + 1 * d.val = d.val; omega)

/-- A row of a window of the gathered rows. -/
theorem rows_at {n o : ℕ} (inb) (i : Fin n) (d : Fin 128) (h : o + i.val < 19200) :
    View.readAt (Elt Ideal) (stage1_6 0).view (Rect.unit (s := S19200x128) ![o, 0] (⟨2, ![n, 128]⟩ : Shape).size inb).toLoadRect f6 (ix2 i d) = f6 (ix2 ⟨o + i.val, h⟩ d) := by
  refine congrArg f6 (funext fun a => ?_)
  fin_cases a
  · exact Fin.ext (by show o + 1 * i.val = o + i.val; omega)
  · exact Fin.ext (by show 0 + 1 * d.val = d.val; omega)

/-- A leading axis of one dropped. -/
theorem cast_at (z : FVec Ideal S1x64x64 .f32) (i j : Fin 64) : shapeCast S64x64 z shapeCasts_S1x64x64_S64x64 (ix2 i j) = z (ix3 0 i j) := by
  pointwise

/-- A matrix read back from the scratch is the one of the whole stack written there. -/
theorem cov_at (y : S199x64x64.Idx → EReal) (t : Fin 199) (i j : Fin 64) :
    View.readCov (Val := Elt Ideal) (Memref.whole cc1_scratch0).view [⟨Rect.unit (s := S199x64x64) ![0, 0, 0] S199x64x64.size inb_S199x64x64_S199x64x64_0_0_0, y⟩]
      (Rect.unit (s := S199x64x64) ![t.val, 0, 0] S1x64x64.size (inb t.val t.isLt)).toLoadRect (ix3 0 i j) = y (ix3 t i j) := by
  refine (congrFun (View.read_writes_full (Val := Elt Ideal) (Memref.whole cc1_scratch0).view (Memref.whole cc1_scratch0).view.junk inb_S199x64x64_S199x64x64_0_0_0 y [])
    ((Rect.unit (s := S199x64x64) ![t.val, 0, 0] S1x64x64.size (inb t.val t.isLt)).toLoadRect.idx (ix3 0 i j))).trans (congrArg y (funext fun a => ?_))
  fin_cases a
  · exact Fin.ext (by show t.val + 1 * 0 = t.val; omega)
  · exact Fin.ext (by show 0 + 1 * i.val = i.val; omega)
  · exact Fin.ext (by show 0 + 1 * j.val = j.val; omega)

/-- Matrix `t`, read back from the scratch, is the one stored there. -/
theorem slc_at (t : Fin 199) (i j : Fin 64) : slc c f0 f1 f2 f3 f4 f5 f6 f7 f8 t.val (ix2 i j) = k1_pay19 (bodyRun.sl.r_8 c f3 f8) (bodyRun.sl.r_9 c f3 f8)
    (bodyRun.sl.r_20 c f0 f7) (bodyRun.sl.r_21 c f4 f5 f8) (bodyRun.sl.r_24 c f1 f2 f7) (bodyRun.sl.r_25 c f0 f6 f7)
    (View.readAt (Elt Ideal) (stage1_6 0).view (Rect.unit (s := S19200x128) ![3200, 0] S12800x128.size inb_S19200x128_S12800x128_3200_0).toLoadRect f6) (ix3 t i j) := by
  have e : slc c f0 f1 f2 f3 f4 f5 f6 f7 f8 t.val = shapeCast S64x64 ((Memref.whole cc1_scratch0).view.readCov (bodyRun.sl.Hs_1 c f0 f1 f2 f3 f4 f5 f6 f7 f8)
    (Rect.unit (s := S199x64x64) ![t.val, 0, 0] S1x64x64.size (inb t.val t.isLt)).toLoadRect) shapeCasts_S1x64x64_S64x64 := dif_pos t.isLt
  rw [e, cast_at]
  exact cov_at _ t i j

/-! ## The values -/

include H

/-- The transition's projection folded into the first channel's taps. -/
theorem r_8_at (d : Fin 128) : bodyRun.sl.r_8 c f3 f8 (ix3 0 0 d) = ((fw (D.t.a 0) D.t.w d : ℝ) : EReal) :=
  KVal.pay3_at (fun d => (r_7_at d).trans (H.tw d)) ((tap3 0 0 _ _).trans (H.ta 0 0)) ((tap3 0 1 _ _).trans (H.ta 0 1)) ((tap3 0 2 _ _).trans (H.ta 0 2)) d
/-- The transition's projection folded into the second channel's taps. -/
theorem r_9_at (d : Fin 128) : bodyRun.sl.r_9 c f3 f8 (ix3 0 0 d) = ((fw (D.t.a 1) D.t.w d : ℝ) : EReal) :=
  KVal.pay4_at (fun d => (r_7_at d).trans (H.tw d)) ((tap3 1 0 _ _).trans (H.ta 1 0)) ((tap3 1 1 _ _).trans (H.ta 1 1)) ((tap3 1 2 _ _).trans (H.ta 1 2)) d
/-- The emission's projection folded into the first channel's taps. -/
theorem r_19_at (d : Fin 128) : bodyRun.sl.r_19 c f0 f7 (ix3 0 0 d) = ((fw (D.e.a 0) D.e.w d : ℝ) : EReal) :=
  KVal.pay6_at (fun d => (r_6_at d).trans (H.ew d)) ((tap0 0 0 _ _).trans (H.ea 0 0)) ((tap0 0 1 _ _).trans (H.ea 0 1)) ((tap0 0 2 _ _).trans (H.ea 0 2)) d
/-- The emission's projection folded into the second channel's taps. -/
theorem r_20_at (d : Fin 128) : bodyRun.sl.r_20 c f0 f7 (ix3 0 0 d) = ((fw (D.e.a 1) D.e.w d : ℝ) : EReal) :=
  KVal.pay7_at (fun d => (r_6_at d).trans (H.ew d)) ((tap0 1 0 _ _).trans (H.ea 1 0)) ((tap0 1 1 _ _).trans (H.ea 1 1)) ((tap0 1 2 _ _).trans (H.ea 1 2)) d
/-- The constant part of every transition logit. -/
theorem r_21_at : bodyRun.sl.r_21 c f4 f5 f8 = ((D.t.b * (∑ d, D.t.w d) + D.t.bl : ℝ) : EReal) :=
  KVal.pay8_at (fun d => (r_7_at d).trans (H.tw d)) ((one_at (f := f4) _).trans H.tb) ((one_at (f := f5) _).trans H.tl)
/-- The constant part of every emission logit. -/
theorem r_24_at : bodyRun.sl.r_24 c f1 f2 f7 = ((D.e.b * (∑ d, D.e.w d) + D.e.bl : ℝ) : EReal) :=
  KVal.pay9_at (fun d => (r_6_at d).trans (H.ew d)) ((one_at (f := f1) _).trans H.eb) ((one_at (f := f2) _).trans H.el)

/-- The rows loaded first are the observed ones. -/
theorem obs_at (t : Fin 200) (n : Fin 16) (d : Fin 128) :
    View.readAt (Elt Ideal) (stage1_6 0).view (Rect.unit (s := S19200x128) ![0, 0] S3200x128.size inb_S19200x128_S3200x128_0_0).toLoadRect f6 (ix2 ⟨t.val * 16 + n.val, KVal.lt16 t n⟩ d)
      = ((D.obs t n d : ℝ) : EReal) := by
  rw [← H.obs t n d]
  refine (rows_at (n := 3200) (o := 0) _ _ d (by simp; omega)).trans (congrArg f6 (congrArg (ix2 · d) (Fin.ext (by simp))))
/-- The rows loaded next are the candidates'. -/
theorem cand_at (t : Fin 200) (n : Fin 64) (d : Fin 128) :
    View.readAt (Elt Ideal) (stage1_6 0).view (Rect.unit (s := S19200x128) ![3200, 0] S12800x128.size inb_S19200x128_S12800x128_3200_0).toLoadRect f6 (ix2 ⟨t.val * 64 + n.val, KVal.lt64 t n⟩ d)
      = ((D.cand t n d : ℝ) : EReal) := by
  rw [← H.cand t n d]
  exact rows_at (n := 12800) (o := 3200) _ _ d (by simp; omega)
/-- The rows loaded last are the hidden states'. -/
theorem hid_at (t : Fin 200) (n : Fin 16) (d : Fin 128) :
    View.readAt (Elt Ideal) (stage1_6 0).view (Rect.unit (s := S19200x128) ![16000, 0] S3200x128.size inb_S19200x128_S3200x128_16000_0).toLoadRect f6 (ix2 ⟨t.val * 16 + n.val, KVal.lt16 t n⟩ d)
      = ((D.hid t n d : ℝ) : EReal) := by
  rw [← H.hid t n d]
  exact rows_at (n := 3200) (o := 16000) _ _ d (by simp; omega)

/-- The observed means projected for the emission's first channel. -/
theorem r_25_at (t : Fin 200) : bodyRun.sl.r_25 c f0 f6 f7 (ix2 t 0) = ((∑ d, mean D.obs t d * fw (D.e.a 0) D.e.w d : ℝ) : EReal) :=
  KVal.pay12_at (r_19_at H) (obs_at H) t
/-- The observed means projected for the emission's second channel. -/
theorem r_26_at (t : Fin 200) : bodyRun.sl.r_26 c f0 f6 f7 (ix2 t 0) = ((∑ d, mean D.obs t d * fw (D.e.a 1) D.e.w d : ℝ) : EReal) :=
  KVal.pay13_at (r_20_at H) (obs_at H) t
/-- The hidden means projected for the transition's first channel. -/
theorem r_27_at (t : Fin 200) : bodyRun.sl.r_27 c f3 f6 f8 (ix2 t 0) = ((∑ d, mean D.hid t d * fw (D.t.a 0) D.t.w d : ℝ) : EReal) :=
  KVal.pay14_at (r_8_at H) (hid_at H) t
/-- The hidden means projected for the transition's second channel. -/
theorem r_28_at (t : Fin 200) : bodyRun.sl.r_28 c f3 f6 f8 (ix2 t 0) = ((∑ d, mean D.hid t d * fw (D.t.a 1) D.t.w d : ℝ) : EReal) :=
  KVal.pay15_at (r_9_at H) (hid_at H) t
/-- The hidden means projected for the emission's first channel. -/
theorem r_29_at (t : Fin 200) : bodyRun.sl.r_29 c f0 f6 f7 (ix2 t 0) = ((∑ d, mean D.hid t d * fw (D.e.a 0) D.e.w d : ℝ) : EReal) :=
  KVal.pay16_at (r_19_at H) (hid_at H) t

/-- The row the chain starts from holds the weights at the start. -/
theorem r_30_at (k : Fin 64) : bodyRun.sl.r_30 c f0 f1 f2 f6 f7 (ix2 0 k) = ((Z0 D k : ℝ) : EReal) :=
  KVal.pay20_at (r_20_at H) (r_24_at H) (r_25_at H) (cand_at H) k
/-- Matrix `t` of the chain holds the step from `t` to `t + 1`. -/
theorem slc_rep (t : Fin 199) : Rep (slc c f0 f1 f2 f3 f4 f5 f6 f7 f8 t.val) (M D t) :=
  ⟨fun i j => (slc_at t i j).trans (KVal.pay19_at (r_8_at H) (r_9_at H) (r_20_at H) (r_21_at H) (r_24_at H) (r_25_at H) (cand_at H) t i j), M_pos D t⟩

/-- The emission scores of the hidden states. -/
theorem r_259_at (t : Fin 200) : bodyRun.sl.r_259 c f0 f1 f2 f6 f7 (ix2 t 0) = ((sg (D.e.lg (mean D.hid t) (mean D.obs t)) : ℝ) : EReal) :=
  KVal.pay494_at (r_24_at H) (r_26_at H) (r_29_at H) t
/-- The part of the transition logits that the later hidden state gives. -/
theorem r_260_at (t : Fin 199) : bodyRun.sl.r_260 c f3 f4 f5 f6 f8 (ix2 t 0)
    = ((D.t.b * (∑ d, D.t.w d) + D.t.bl + ∑ d, mean D.hid t.succ d * fw (D.t.a 0) D.t.w d : ℝ) : EReal) :=
  KVal.pay495_at (r_21_at H) (r_27_at H) t

/-- The body's result. -/
theorem out_at (i : S1x1.Idx) : (bodyRun c f0 f1 f2 f3 f4 f5 f6 f7 f8).1 i = ((score D : ℝ) : EReal) := by
  rw [body_eq]
  have hr : ∀ k < 199, Rep (slc c f0 f1 f2 f3 f4 f5 f6 f7 f8 k) (if h : k < 199 then M D ⟨k, h⟩ else 1) := fun k hk => by
    rw [dif_pos hk]; exact slc_rep H ⟨k, hk⟩
  have hz := lz_rep (r_30_at H) (Z0_pos D) hr
  have hp : prd (fun k => if h : k < 199 then M D ⟨k, h⟩ else 1) 199 = (List.ofFn (M D)).prod := by
    unfold prd
    refine congrArg List.prod (List.ext_getElem (by rw [List.length_map, List.length_range, List.length_ofFn]) fun k h1 h2 => ?_)
    have hk : k < 199 := by rw [List.length_map, List.length_range] at h1; exact h1
    rw [List.getElem_map, List.getElem_ofFn, List.getElem_range]
    exact dif_pos hk
  rw [hp] at hz
  exact KVal.pay1_at (r_28_at H) (r_259_at H) (r_260_at H) hz i

end Cert.Proof.BodyVal

end
-- ==== Proof.Args.lean ====
/-
  The numbers the score is computed from, read off the twelve arguments.
-/
module

public import proofs.«01_k».proof.Proof.Crf
public import proofs.«01_k».proof.Proof.Pre

@[expose] public section

noncomputable section

namespace Cert.Proof.Args

open Idealize.ShloMosaic
open Cert.Proof.Crf

/-- An entry whose absolute value is below infinity is a real. -/
theorem real_fin {s : Shape} {x : FVec Ideal s .f32} (h : Pre.Fin' x) (i : s.Idx) : x i = (((x i : EReal).toReal : ℝ) : EReal) := by
  have hb : Ideal.ofBits .f32 0x7F800000#32 = ⊤ := by simp [Ideal.ofBits, Ideal.ieee]
  have h1 : Ideal.cmp .olt (FloatOps.hostAbsf (x i)) (Ideal.ofBits .f32 0x7F800000#32) = 1#1 := h i
  rw [hb] at h1
  generalize x i = y at h1 ⊢
  change EReal at y
  induction y with
  | bot => simp [Ideal.cmp, FloatOps.hostAbsf] at h1
  | top => simp [Ideal.cmp, FloatOps.hostAbsf] at h1
  | coe r => rfl

/-- The row a word of an index array names. -/
def row (v : BitVec 32) : Fin 100000 := ⟨v.toNat % 100000, Nat.mod_lt _ (by decide)⟩

/-- The weights of a convolution and its projection. -/
def wt (a : (⟨3, ![1, 2, 3]⟩ : Shape).Idx → EReal) (b : (⟨1, ![1]⟩ : Shape).Idx → EReal) (w : (⟨2, ![1, 128]⟩ : Shape).Idx → EReal)
    (bl : (⟨1, ![1]⟩ : Shape).Idx → EReal) : Wt where
  a p q := (a (ix3 0 p q)).toReal
  b := (b (ix1 0)).toReal
  w d := (w (ix2 0 d)).toReal
  bl := (bl (ix1 0)).toReal

/-- All of them. -/
def data (a0 : (⟨2, ![100000, 128]⟩ : Shape).Idx → EReal)
    (a1 : (⟨3, ![1, 2, 3]⟩ : Shape).Idx → EReal) (a2 : (⟨1, ![1]⟩ : Shape).Idx → EReal) (a3 : (⟨2, ![1, 128]⟩ : Shape).Idx → EReal) (a4 : (⟨1, ![1]⟩ : Shape).Idx → EReal)
    (a5 : (⟨3, ![1, 2, 3]⟩ : Shape).Idx → EReal) (a6 : (⟨1, ![1]⟩ : Shape).Idx → EReal) (a7 : (⟨2, ![1, 128]⟩ : Shape).Idx → EReal) (a8 : (⟨1, ![1]⟩ : Shape).Idx → EReal)
    (a9 : (⟨2, ![200, 16]⟩ : Shape).Idx → BitVec 32) (a10 : (⟨2, ![200, 64]⟩ : Shape).Idx → BitVec 32) (a11 : (⟨2, ![200, 16]⟩ : Shape).Idx → BitVec 32) : Data where
  e := wt a1 a2 a3 a4
  t := wt a5 a6 a7 a8
  obs t n d := (a0 (ix2 (row (a9 (ix2 t n))) d)).toReal
  cand t k d := (a0 (ix2 (row (a10 (ix2 t k))) d)).toReal
  hid t n d := (a0 (ix2 (row (a11 (ix2 t n))) d)).toReal

end Cert.Proof.Args

end
-- ==== Proof.KOut.lean ====
/-
  The result the kernel program leaves, as a function of the launch memory: the body at the arguments and the gathered rows, and from
  there the negative log-likelihood of the launch memory's numbers.
-/
module

public import proofs.«01_k».proof.Proof.BodyVal
public import proofs.«01_k».proof.Proof.Args
public import proofs.«01_k».proof.Proof.Frames
public import Idealize.ShloMosaic.Lib.Pipeline.ValueKit

@[expose] public section

noncomputable section

namespace Cert.Proof.KOut

open Cert.KernelIdeal Cert.KernelIdeal.Gen Cert.Proof.Body Cert.Proof.Region Cert.Proof.Launch
open Idealize.ShloMosaic Idealize.ShloMosaic.TcCoe Idealize.ShloMosaic.ValueKit

variable (m : (ℓ : Loc nD τ sig) → Buf (Elt Ideal) ℓ) (c : Dev nD)

/-- The array that the region leaves is the body's result. -/
theorem outArr_eq (V : Vals (F := Ideal)) : outArr V c = outv V c := by
  unfold outArr
  refine (dat V c).arrAt_eq_of_after_last 9 t1_0 (by decide +kernel) (outv V c) fun j => ?_
  rfl

/-! ## The staged operands -/

/-- Operand 0 of the region is the emission's taps. -/
theorem stg0_eq (V : Vals (F := Ideal)) (y : S1x2x3.Idx) : stg0 V c y = V c main_arg1 y := by
  have e : ∀ t : Fin cfg1.N, win1_0.index t = ![0, 0, 0] := (by decide +kernel : ∀ t : Fin grid1.N, _)
  unfold stg0; blk_simp; refine congrArg (V c main_arg1) ?_; blk_ext [e]
/-- Operand 1 of the region is the emission's bias. -/
theorem stg1_eq (V : Vals (F := Ideal)) (y : S1.Idx) : stg1 V c y = V c main_arg2 y := by
  have e : ∀ t : Fin cfg1.N, win1_1.index t = ![0] := (by decide +kernel : ∀ t : Fin grid1.N, _)
  unfold stg1; blk_simp; refine congrArg (V c main_arg2) ?_; blk_ext [e]
/-- Operand 2 of the region is the emission's projection bias. -/
theorem stg2_eq (V : Vals (F := Ideal)) (y : S1.Idx) : stg2 V c y = V c main_arg4 y := by
  have e : ∀ t : Fin cfg1.N, win1_2.index t = ![0] := (by decide +kernel : ∀ t : Fin grid1.N, _)
  unfold stg2; blk_simp; refine congrArg (V c main_arg4) ?_; blk_ext [e]
/-- Operand 3 of the region is the transition's taps. -/
theorem stg3_eq (V : Vals (F := Ideal)) (y : S1x2x3.Idx) : stg3 V c y = V c main_arg5 y := by
  have e : ∀ t : Fin cfg1.N, win1_3.index t = ![0, 0, 0] := (by decide +kernel : ∀ t : Fin grid1.N, _)
  unfold stg3; blk_simp; refine congrArg (V c main_arg5) ?_; blk_ext [e]
/-- Operand 4 of the region is the transition's bias. -/
theorem stg4_eq (V : Vals (F := Ideal)) (y : S1.Idx) : stg4 V c y = V c main_arg6 y := by
  have e : ∀ t : Fin cfg1.N, win1_4.index t = ![0] := (by decide +kernel : ∀ t : Fin grid1.N, _)
  unfold stg4; blk_simp; refine congrArg (V c main_arg6) ?_; blk_ext [e]
/-- Operand 5 of the region is the transition's projection bias. -/
theorem stg5_eq (V : Vals (F := Ideal)) (y : S1.Idx) : stg5 V c y = V c main_arg8 y := by
  have e : ∀ t : Fin cfg1.N, win1_5.index t = ![0] := (by decide +kernel : ∀ t : Fin grid1.N, _)
  unfold stg5; blk_simp; refine congrArg (V c main_arg8) ?_; blk_ext [e]
/-- Operand 6 of the region is the gathered rows. -/
theorem stg6_eq (V : Vals (F := Ideal)) (y : S19200x128.Idx) : stg6 V c y = V c main_v4 y := by
  have e : ∀ t : Fin cfg1.N, win1_6.index t = ![0, 0] := (by decide +kernel : ∀ t : Fin grid1.N, _)
  unfold stg6; blk_simp; refine congrArg (V c main_v4) ?_; blk_ext [e]
/-- Operand 7 of the region is the emission's projection. -/
theorem stg7_eq (V : Vals (F := Ideal)) (y : S1x128.Idx) : stg7 V c y = V c main_arg3 y := by
  have e : ∀ t : Fin cfg1.N, win1_7.index t = ![0, 0] := (by decide +kernel : ∀ t : Fin grid1.N, _)
  unfold stg7; blk_simp; refine congrArg (V c main_arg3) ?_; blk_ext [e]
/-- Operand 8 of the region is the transition's projection. -/
theorem stg8_eq (V : Vals (F := Ideal)) (y : S1x128.Idx) : stg8 V c y = V c main_arg7 y := by
  have e : ∀ t : Fin cfg1.N, win1_8.index t = ![0, 0] := (by decide +kernel : ∀ t : Fin grid1.N, _)
  unfold stg8; blk_simp; refine congrArg (V c main_arg7) ?_; blk_ext [e]

/-! ## The result -/

/-- The program's result is the region's, reshaped. -/
theorem Vend_out : Vend m c main_v6 = shapeCast S1 (outv (Vin m) c) shapeCasts_S1x1_S1 := by
  have e : Vtc m c main_v5 = outArr (Vin m) c := Function.update_self _ _ _
  rw [← outArr_eq, ← e]
  unfold Vend
  exact StableHlo.reshape_result _ _ _ _ _ _ _

/-! ## The gathered rows -/

/-- The joined list of row numbers, at the three arguments' entries. -/
theorem join_at {a9 : IVec S200x16 32} {a10 : IVec S200x64 32} {a11 : IVec S200x16 32} :
    let j := concatenate S19200 0 [⟨S3200, shapeCast S3200 a9 shapeCasts_S200x16_S3200⟩, ⟨S12800, shapeCast S12800 a10 shapeCasts_S200x64_S12800⟩,
       ⟨S3200, shapeCast S3200 a11 shapeCasts_S200x16_S3200⟩] concatenates_S3200_S12800_S3200_S19200_d0
    (∀ (t : Fin 200) (n : Fin 16), j (ix1 ⟨t.val * 16 + n.val, BodyVal.in_obs t n⟩) = a9 (ix2 t n))
    ∧ (∀ (t : Fin 200) (n : Fin 64), j (ix1 ⟨3200 + (t.val * 64 + n.val), BodyVal.in_cand t n⟩) = a10 (ix2 t n))
    ∧ (∀ (t : Fin 200) (n : Fin 16), j (ix1 ⟨16000 + (t.val * 16 + n.val), BodyVal.in_hid t n⟩) = a11 (ix2 t n)) := by
  intro j
  refine ⟨fun t n => ?_, fun t n => ?_, fun t n => ?_⟩
  all_goals
    unfold j
    pointwise
  · exact dif_pos (KVal.lt16 t n)
  · exact dif_pos (KVal.lt64 t n)
  · rw [dif_neg (by omega), dif_neg (by omega)]
    refine congrArg a11 (congrArg₂ ix2 (Fin.ext ?_) (Fin.ext ?_))
    · show (16000 + (t.val * 16 + n.val) - 3200 - 12800) / 16 = t.val
      omega
    · show (16000 + (t.val * 16 + n.val) - 3200 - 12800) % 16 = n.val
      omega

/-- A place of the list, by its coordinate. -/
theorem lIx_eq (i : Fin 19200) : Tile.lIx i = ix1 i := by
  funext a; fin_cases a; rfl
/-- A place of the table, by its coordinates. -/
theorem tIx_eq (i : Fin 100000) (j : Fin 128) : Tile.tIx i j = ix2 i j := by
  funext a; fin_cases a <;> rfl

/-- A gathered row. -/
theorem gath_at (t : S100000x128.Idx → EReal) (l : S19200.Idx → BitVec 32) (r : Fin 19200) (d : Fin 128) :
    Tile.gath (F := Ideal) t l (ix2 r d) = t (ix2 (Args.row (l (ix1 r))) d) := by
  rw [← lIx_eq, ← tIx_eq]; rfl

/-- The numbers of the launch memory. -/
def dat : Crf.Data := Args.data (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- An argument at the region's entry holds what it held at the launch. -/
theorem Vin_arg (r : Ref sig .tc) (h4 : r ≠ main_v4) (h : r ≠ main_v0 ∧ r ≠ main_v1 ∧ r ≠ main_v2 ∧ r ≠ main_v3) :
    Vin m c r = m ((c.tc : Thread nD τ).loc r) := by
  unfold Vin Vgath
  rw [Function.update_of_ne (StableHlo.devRef_ne_of_ne h4), Vhost_ne m c r h.1 h.2.1 h.2.2.1 h.2.2.2]

/-- The rows at the region's entry are those gathered. -/
theorem Vin_rows : Vin m c main_v4 = Tile.gath (F := Ideal) (m ((c.tc : Thread nD τ).loc main_arg0)) (ix m c) := by
  unfold Vin Vgath
  rw [Function.update_self]
  exact congrArg (fun t => Tile.gath (F := Ideal) t (ix m c)) (tb_eq m c)

variable {m} (h : Frames.Pre (F := Ideal) m)
include h

/-- The staged operands hold them. -/
theorem holds : BodyVal.Holds (dat m c) (stg0 (Vin m) c) (stg1 (Vin m) c) (stg2 (Vin m) c) (stg3 (Vin m) c) (stg4 (Vin m) c) (stg5 (Vin m) c)
    (stg6 (Vin m) c) (stg7 (Vin m) c) (stg8 (Vin m) c) := by
  obtain ⟨-, h0, h1, h2, h3, h4, h5, h6, h7, h8⟩ := Pre.of_fn _ _ _ _ _ _ _ _ _ _ _ _ (h c)
  obtain ⟨j9, j10, j11⟩ := join_at (a9 := (m ((c.tc : Thread nD τ).loc main_arg9))) (a10 := (m ((c.tc : Thread nD τ).loc main_arg10))) (a11 := (m ((c.tc : Thread nD τ).loc main_arg11)))
  rw [← Pre.ix_eq m c] at j9 j10 j11
  have v := Vin_arg m c
  have row : ∀ (r : Fin 19200) (d : Fin 128), stg6 (Vin m) c (ix2 r d) = (show S100000x128.Idx → EReal from (m ((c.tc : Thread nD τ).loc main_arg0))) (ix2 (Args.row (ix m c (ix1 r))) d) := fun r d => by
    rw [stg6_eq, Vin_rows]; exact gath_at _ _ r d
  refine ⟨fun p q => ?_, ?_, ?_, fun p q => ?_, ?_, ?_, fun t n d => ?_, fun t n d => ?_, fun t n d => ?_, fun d => ?_, fun d => ?_⟩
  · rw [stg0_eq, v main_arg1 (by decide) (by decide)]; exact Args.real_fin h1 _
  · rw [stg1_eq, v main_arg2 (by decide) (by decide)]; exact Args.real_fin h2 _
  · rw [stg2_eq, v main_arg4 (by decide) (by decide)]; exact Args.real_fin h4 _
  · rw [stg3_eq, v main_arg5 (by decide) (by decide)]; exact Args.real_fin h5 _
  · rw [stg4_eq, v main_arg6 (by decide) (by decide)]; exact Args.real_fin h6 _
  · rw [stg5_eq, v main_arg8 (by decide) (by decide)]; exact Args.real_fin h8 _
  · rw [row, j9]; exact Args.real_fin h0 _
  · rw [row, j10]; exact Args.real_fin h0 _
  · rw [row, j11]; exact Args.real_fin h0 _
  · rw [stg7_eq, v main_arg3 (by decide) (by decide)]; exact Args.real_fin h3 _
  · rw [stg8_eq, v main_arg7 (by decide) (by decide)]; exact Args.real_fin h7 _

/-- The kernel program's result is the negative log-likelihood. -/
theorem out : Vend m c main_v6 = fun _ => ((Crf.score (dat m c) : ℝ) : EReal) := by
  rw [Vend_out]
  funext i
  exact BodyVal.out_at (holds c h) _

end Cert.Proof.KOut

end
-- ==== Proof.Heads.lean ====
/-
  The scores of the reference: pairs of rows stacked, padded, convolved, projected, and put through the logistic function, for each
  number of pairs the reference has.
-/
module

public import proofs.«01_k».proof.Proof.Ref
public import proofs.«01_k».proof.Proof.KTree

@[expose] public section

noncomputable section

namespace Cert.Proof.Heads

open Idealize.ShloMosaic Idealize.ShloMosaic.TcCoe
open Cert.ReferenceIdeal Cert.ReferenceIdeal.Gen
open Cert.Proof.Crf
open scoped BigOperators

/-! ## Over the reals -/

/-- A row with a zero before it and a zero after it. -/
def padR (x : Fin 128 → ℝ) (e : Fin 130) : ℝ := if h : 1 ≤ e.val ∧ e.val - 1 < 128 then x ⟨e.val - 1, h.2⟩ else 0

/-- A padded row read from its first place is the row shifted one to the left, -/
theorem padR_0 (x : Fin 128 → ℝ) (d : Fin 128) (h : d.val < 130) : padR x ⟨d.val, h⟩ = lft x d := by
  have := d.isLt
  unfold padR lft
  by_cases h1 : d.val < 1
  · rw [dif_neg (by show ¬ (1 ≤ d.val ∧ _); omega), dif_pos h1]
  · rw [dif_pos (show 1 ≤ d.val ∧ d.val - 1 < 128 by omega), dif_neg h1]
/-- from its second, the row, -/
theorem padR_1 (x : Fin 128 → ℝ) (d : Fin 128) (h : 1 + d.val < 130) : padR x ⟨1 + d.val, h⟩ = x d := by
  have := d.isLt
  unfold padR
  rw [dif_pos (show 1 ≤ 1 + d.val ∧ 1 + d.val - 1 < 128 by omega)]
  exact congrArg x (Fin.ext (Nat.add_sub_cancel_left ..))
/-- from its third, the row shifted one to the right. -/
theorem padR_2 (x : Fin 128 → ℝ) (d : Fin 128) (h : 2 + d.val < 130) : padR x ⟨2 + d.val, h⟩ = rgt x d := by
  have := d.isLt
  unfold padR rgt
  by_cases h1 : d.val < 127
  · rw [dif_pos (show 1 ≤ 2 + d.val ∧ 2 + d.val - 1 < 128 by omega), dif_pos h1]
    exact congrArg x (Fin.ext (show 2 + d.val - 1 = 1 + d.val by omega))
  · rw [dif_neg (show ¬ (1 ≤ 2 + d.val ∧ 2 + d.val - 1 < 128) by omega), dif_neg h1]

/-- The logistic function as the reference writes it. -/
theorem div_exp (x : ℝ) : Ideal.div 1 (1 + Ideal.exp (-((x : ℝ) : EReal))) = ((sg x : ℝ) : EReal) := by
  have h : (1 : ℝ) + Real.exp (-x) ≠ 0 := (add_pos one_pos (Real.exp_pos _)).ne'
  have e : (1 : EReal) + Ideal.exp (-((x : ℝ) : EReal)) = (((1 : ℝ) + Real.exp (-x) : ℝ) : EReal) := by
    rw [← EReal.coe_neg, EReal.coe_add, EReal.coe_one]; rfl
  rw [e, Ideal.div_coe h, one_mul]
  rfl

/-- The integer zero as a float is zero. -/
theorem sitofp_zero : (FloatOps.sitofp FTy.f32 0#32 : Ideal .f32) = (((0 : ℝ) : ℝ) : EReal) := by
  show ((((0#32 : BitVec 32).toInt : ℝ)) : EReal) = _
  norm_num

/-- A padded real row, entry by entry. -/
theorem pad_coe (x : Fin 128 → ℝ) (e : Fin 130) :
    (if h : 1 ≤ e.val ∧ e.val - 1 < 128 then ((x ⟨e.val - 1, h.2⟩ : ℝ) : EReal) else (FloatOps.sitofp FTy.f32 0#32 : Ideal .f32)) = ((padR x e : ℝ) : EReal) := by
  unfold padR
  split_ifs
  · rfl
  · exact sitofp_zero

/-- A pair's first candidate. -/
theorem div64 (p : Fin 4096) : p.val / 64 < 64 := by omega
/-- A pair's second candidate. -/
theorem mod64 (p : Fin 4096) : p.val % 64 < 64 := by omega

/-- The four arrays of a convolution and its projection hold the weights `W`. -/
structure IsWt (W : Wt) (a : FVec Ideal S1x2x3 .f32) (b : FVec Ideal S1 .f32) (w : FVec Ideal S1x128 .f32) (bl : FVec Ideal S1 .f32) : Prop where
  a : ∀ p q, a (ix3 0 p q) = ((W.a p q : ℝ) : EReal)
  b : b (ix1 0) = ((W.b : ℝ) : EReal)
  w : ∀ d, w (ix2 0 d) = ((W.w d : ℝ) : EReal)
  bl : bl (ix1 0) = ((W.bl : ℝ) : EReal)

variable {F : FTy → Type} [FloatOps F]

/-! ## 64 pairs of rows -/

/-- The convolution. -/
def cv64 (xp : FVec F S64x2x130 .f32) (a : FVec F S1x2x3 .f32) (b : FVec F S1 .f32) : FVec F S64x128 .f32 :=
  addf (addf (addf (addf (addf (addf (addf (broadcastInDim S64x128 ![] bcast_S_S64x128 (constant S_ .f32 0x00000000#32)) (broadcastInDim S64x128 ![] bcast_S_S64x128 (shapeCast S_ b shapeCasts_S1_S_)))
    (mulf (broadcastInDim S64x128 ![] bcast_S_S64x128 (shapeCast S_ (extractStridedSlice S1x1x1 ![0, 0, 0] a slices_S1x2x3_S1x1x1_0_0_0) shapeCasts_S1x1x1_S_))
      (shapeCast S64x128 (extractStridedSlice S64x1x128 ![0, 0, 0] xp slices_S64x2x130_S64x1x128_0_0_0) shapeCasts_S64x1x128_S64x128)))
    (mulf (broadcastInDim S64x128 ![] bcast_S_S64x128 (shapeCast S_ (extractStridedSlice S1x1x1 ![0, 0, 1] a slices_S1x2x3_S1x1x1_0_0_1) shapeCasts_S1x1x1_S_))
      (shapeCast S64x128 (extractStridedSlice S64x1x128 ![0, 0, 1] xp slices_S64x2x130_S64x1x128_0_0_1) shapeCasts_S64x1x128_S64x128)))
    (mulf (broadcastInDim S64x128 ![] bcast_S_S64x128 (shapeCast S_ (extractStridedSlice S1x1x1 ![0, 0, 2] a slices_S1x2x3_S1x1x1_0_0_2) shapeCasts_S1x1x1_S_))
      (shapeCast S64x128 (extractStridedSlice S64x1x128 ![0, 0, 2] xp slices_S64x2x130_S64x1x128_0_0_2) shapeCasts_S64x1x128_S64x128)))
    (mulf (broadcastInDim S64x128 ![] bcast_S_S64x128 (shapeCast S_ (extractStridedSlice S1x1x1 ![0, 1, 0] a slices_S1x2x3_S1x1x1_0_1_0) shapeCasts_S1x1x1_S_))
      (shapeCast S64x128 (extractStridedSlice S64x1x128 ![0, 1, 0] xp slices_S64x2x130_S64x1x128_0_1_0) shapeCasts_S64x1x128_S64x128)))
    (mulf (broadcastInDim S64x128 ![] bcast_S_S64x128 (shapeCast S_ (extractStridedSlice S1x1x1 ![0, 1, 1] a slices_S1x2x3_S1x1x1_0_1_1) shapeCasts_S1x1x1_S_))
      (shapeCast S64x128 (extractStridedSlice S64x1x128 ![0, 1, 1] xp slices_S64x2x130_S64x1x128_0_1_1) shapeCasts_S64x1x128_S64x128)))
    (mulf (broadcastInDim S64x128 ![] bcast_S_S64x128 (shapeCast S_ (extractStridedSlice S1x1x1 ![0, 1, 2] a slices_S1x2x3_S1x1x1_0_1_2) shapeCasts_S1x1x1_S_))
      (shapeCast S64x128 (extractStridedSlice S64x1x128 ![0, 1, 2] xp slices_S64x2x130_S64x1x128_0_1_2) shapeCasts_S64x1x128_S64x128))

/-- The projection and the logistic function. -/
def hd64 (y : FVec F S64x128 .f32) (w : FVec F S1x128 .f32) (bl : FVec F S1 .f32) : FVec F S64 .f32 :=
  Host.divf (broadcastInDim S64 ![] bcast_S_S64 (constant S_ .f32 0x3F800000#32)) (addf (broadcastInDim S64 ![] bcast_S_S64 (constant S_ .f32 0x3F800000#32))
    (Host.exp (Host.negf (addf (Host.dotGeneral dot_S64x128_S128_S64_1_0_0_n_n_n none y (shapeCast S128 w shapeCasts_S1x128_S128)) (broadcastInDim S64 ![] bcast_S_S64 (shapeCast S_ bl shapeCasts_S1_S_))))))

/-- The scores of the pairs padded in `xp`. -/
theorem sc64_at {W : Wt} {xp : FVec Ideal S64x2x130 .f32} {x : Fin 64 → Fin 2 → Fin 128 → ℝ} (hx : ∀ i c e, xp (ix3 i c e) = ((padR (x i c) e : ℝ) : EReal))
    {a : FVec Ideal S1x2x3 .f32} {b : FVec Ideal S1 .f32} {w : FVec Ideal S1x128 .f32} {bl : FVec Ideal S1 .f32} (h : IsWt W a b w bl) (i : Fin 64) :
    hd64 (cv64 xp a b) w bl (ix1 i) = ((sg (W.lg (x i 0) (x i 1)) : ℝ) : EReal) := by
  have e : ∀ d, cv64 xp a b (ix2 i d) = ((conv W.a W.b (x i 0) (x i 1) d : ℝ) : EReal) := fun d => by
    pointwise [cv64]
    simp only [hx, h.a, h.b, padR_0, padR_1, padR_2, ← EReal.coe_mul, ← EReal.coe_add, conv, zero_add]
  pointwise [hd64]
  simp only [e, h.w, h.bl, Tree.coe_sum, ← EReal.coe_mul, ← EReal.coe_add, conv_proj, div_exp]
  rfl

/-- Two rows stacked and padded. -/
def pd64 (y0 y1 : FVec F S64x1x128 .f32) : FVec F S64x2x130 .f32 :=
  pad S64x2x130 ![0, 0, 1] ![0, 0, 1] ![0, 0, 0] (concatenate S64x2x128 1 [⟨S64x1x128, y0⟩, ⟨S64x1x128, y1⟩] concatenates_S64x1x128_S64x1x128_S64x2x128_d1) (sitofp (F := F) .f32 (constantI S_ 32 0#32)) pads_S64x2x128_S64x2x130_000_000_110 h_S_

/-- 64 pairs of rows stacked and padded. -/
theorem pd64_at {y0 y1 : FVec Ideal S64x1x128 .f32} {x : Fin 64 → Fin 2 → Fin 128 → ℝ} (h0 : ∀ i d, y0 (ix3 i 0 d) = ((x i 0 d : ℝ) : EReal))
    (h1 : ∀ i d, y1 (ix3 i 0 d) = ((x i 1 d : ℝ) : EReal)) (i : Fin 64) (c : Fin 2) (e : Fin 130) : pd64 y0 y1 (ix3 i c e) = ((padR (x i c) e : ℝ) : EReal) := by
  fin_cases c
  · pointwise [pd64]
    simp only [h0]
    exact pad_coe _ _
  · pointwise [pd64]
    simp only [h1]
    exact pad_coe _ _

/-! ## 4096 pairs of rows -/

/-- The convolution. -/
def cv4096 (xp : FVec F S4096x2x130 .f32) (a : FVec F S1x2x3 .f32) (b : FVec F S1 .f32) : FVec F S4096x128 .f32 :=
  addf (addf (addf (addf (addf (addf (addf (broadcastInDim S4096x128 ![] bcast_S_S4096x128 (constant S_ .f32 0x00000000#32)) (broadcastInDim S4096x128 ![] bcast_S_S4096x128 (shapeCast S_ b shapeCasts_S1_S_)))
    (mulf (broadcastInDim S4096x128 ![] bcast_S_S4096x128 (shapeCast S_ (extractStridedSlice S1x1x1 ![0, 0, 0] a slices_S1x2x3_S1x1x1_0_0_0) shapeCasts_S1x1x1_S_))
      (shapeCast S4096x128 (extractStridedSlice S4096x1x128 ![0, 0, 0] xp slices_S4096x2x130_S4096x1x128_0_0_0) shapeCasts_S4096x1x128_S4096x128)))
    (mulf (broadcastInDim S4096x128 ![] bcast_S_S4096x128 (shapeCast S_ (extractStridedSlice S1x1x1 ![0, 0, 1] a slices_S1x2x3_S1x1x1_0_0_1) shapeCasts_S1x1x1_S_))
      (shapeCast S4096x128 (extractStridedSlice S4096x1x128 ![0, 0, 1] xp slices_S4096x2x130_S4096x1x128_0_0_1) shapeCasts_S4096x1x128_S4096x128)))
    (mulf (broadcastInDim S4096x128 ![] bcast_S_S4096x128 (shapeCast S_ (extractStridedSlice S1x1x1 ![0, 0, 2] a slices_S1x2x3_S1x1x1_0_0_2) shapeCasts_S1x1x1_S_))
      (shapeCast S4096x128 (extractStridedSlice S4096x1x128 ![0, 0, 2] xp slices_S4096x2x130_S4096x1x128_0_0_2) shapeCasts_S4096x1x128_S4096x128)))
    (mulf (broadcastInDim S4096x128 ![] bcast_S_S4096x128 (shapeCast S_ (extractStridedSlice S1x1x1 ![0, 1, 0] a slices_S1x2x3_S1x1x1_0_1_0) shapeCasts_S1x1x1_S_))
      (shapeCast S4096x128 (extractStridedSlice S4096x1x128 ![0, 1, 0] xp slices_S4096x2x130_S4096x1x128_0_1_0) shapeCasts_S4096x1x128_S4096x128)))
    (mulf (broadcastInDim S4096x128 ![] bcast_S_S4096x128 (shapeCast S_ (extractStridedSlice S1x1x1 ![0, 1, 1] a slices_S1x2x3_S1x1x1_0_1_1) shapeCasts_S1x1x1_S_))
      (shapeCast S4096x128 (extractStridedSlice S4096x1x128 ![0, 1, 1] xp slices_S4096x2x130_S4096x1x128_0_1_1) shapeCasts_S4096x1x128_S4096x128)))
    (mulf (broadcastInDim S4096x128 ![] bcast_S_S4096x128 (shapeCast S_ (extractStridedSlice S1x1x1 ![0, 1, 2] a slices_S1x2x3_S1x1x1_0_1_2) shapeCasts_S1x1x1_S_))
      (shapeCast S4096x128 (extractStridedSlice S4096x1x128 ![0, 1, 2] xp slices_S4096x2x130_S4096x1x128_0_1_2) shapeCasts_S4096x1x128_S4096x128))

/-- The projection and the logistic function. -/
def hd4096 (y : FVec F S4096x128 .f32) (w : FVec F S1x128 .f32) (bl : FVec F S1 .f32) : FVec F S4096 .f32 :=
  Host.divf (broadcastInDim S4096 ![] bcast_S_S4096 (constant S_ .f32 0x3F800000#32)) (addf (broadcastInDim S4096 ![] bcast_S_S4096 (constant S_ .f32 0x3F800000#32))
    (Host.exp (Host.negf (addf (Host.dotGeneral dot_S4096x128_S128_S4096_1_0_0_n_n_n none y (shapeCast S128 w shapeCasts_S1x128_S128)) (broadcastInDim S4096 ![] bcast_S_S4096 (shapeCast S_ bl shapeCasts_S1_S_))))))

/-- The scores of the pairs padded in `xp`. -/
theorem sc4096_at {W : Wt} {xp : FVec Ideal S4096x2x130 .f32} {x : Fin 4096 → Fin 2 → Fin 128 → ℝ} (hx : ∀ i c e, xp (ix3 i c e) = ((padR (x i c) e : ℝ) : EReal))
    {a : FVec Ideal S1x2x3 .f32} {b : FVec Ideal S1 .f32} {w : FVec Ideal S1x128 .f32} {bl : FVec Ideal S1 .f32} (h : IsWt W a b w bl) (i : Fin 4096) :
    hd4096 (cv4096 xp a b) w bl (ix1 i) = ((sg (W.lg (x i 0) (x i 1)) : ℝ) : EReal) := by
  have e : ∀ d, cv4096 xp a b (ix2 i d) = ((conv W.a W.b (x i 0) (x i 1) d : ℝ) : EReal) := fun d => by
    pointwise [cv4096]
    simp only [hx, h.a, h.b, padR_0, padR_1, padR_2, ← EReal.coe_mul, ← EReal.coe_add, conv, zero_add]
  pointwise [hd4096]
  simp only [e, h.w, h.bl, Tree.coe_sum, ← EReal.coe_mul, ← EReal.coe_add, conv_proj, div_exp]
  rfl

/-- The rows of two matrices paired each with each, and padded. -/
def pd4096 (y0 y1 : FVec F S64x64x1x128 .f32) : FVec F S4096x2x130 .f32 :=
  pad S4096x2x130 ![0, 0, 1] ![0, 0, 1] ![0, 0, 0] (shapeCast S4096x2x128 (concatenate S64x64x2x128 2 [⟨S64x64x1x128, y0⟩, ⟨S64x64x1x128, y1⟩] concatenates_S64x64x1x128_S64x64x1x128_S64x64x2x128_d2) shapeCasts_S64x64x2x128_S4096x2x128)
    (sitofp (F := F) .f32 (constantI S_ 32 0#32)) pads_S4096x2x128_S4096x2x130_000_000_110 h_S_

/-- 4096 pairs of rows stacked and padded. -/
theorem pd4096_at {y0 y1 : FVec Ideal S64x64x1x128 .f32} {x : Fin 64 → Fin 64 → Fin 2 → Fin 128 → ℝ} (h0 : ∀ i j d, y0 (ix4 i j 0 d) = ((x i j 0 d : ℝ) : EReal))
    (h1 : ∀ i j d, y1 (ix4 i j 0 d) = ((x i j 1 d : ℝ) : EReal)) (p : Fin 4096) (c : Fin 2) (e : Fin 130) :
    pd4096 y0 y1 (ix3 p c e) = ((padR (x ⟨p.val / 64, div64 p⟩ ⟨p.val % 64, mod64 p⟩ c) e : ℝ) : EReal) := by
  fin_cases c
  · pointwise [pd4096]
    simp only [h0]
    exact pad_coe (x ⟨p.val / 64, div64 p⟩ ⟨p.val % 64, mod64 p⟩ 0) e
  · pointwise [pd4096]
    simp only [h1]
    exact pad_coe (x ⟨p.val / 64, div64 p⟩ ⟨p.val % 64, mod64 p⟩ 1) e

/-! ## 200 pairs of rows -/

/-- The convolution. -/
def cv200 (xp : FVec F S200x2x130 .f32) (a : FVec F S1x2x3 .f32) (b : FVec F S1 .f32) : FVec F S200x128 .f32 :=
  addf (addf (addf (addf (addf (addf (addf (broadcastInDim S200x128 ![] bcast_S_S200x128 (constant S_ .f32 0x00000000#32)) (broadcastInDim S200x128 ![] bcast_S_S200x128 (shapeCast S_ b shapeCasts_S1_S_)))
    (mulf (broadcastInDim S200x128 ![] bcast_S_S200x128 (shapeCast S_ (extractStridedSlice S1x1x1 ![0, 0, 0] a slices_S1x2x3_S1x1x1_0_0_0) shapeCasts_S1x1x1_S_))
      (shapeCast S200x128 (extractStridedSlice S200x1x128 ![0, 0, 0] xp slices_S200x2x130_S200x1x128_0_0_0) shapeCasts_S200x1x128_S200x128)))
    (mulf (broadcastInDim S200x128 ![] bcast_S_S200x128 (shapeCast S_ (extractStridedSlice S1x1x1 ![0, 0, 1] a slices_S1x2x3_S1x1x1_0_0_1) shapeCasts_S1x1x1_S_))
      (shapeCast S200x128 (extractStridedSlice S200x1x128 ![0, 0, 1] xp slices_S200x2x130_S200x1x128_0_0_1) shapeCasts_S200x1x128_S200x128)))
    (mulf (broadcastInDim S200x128 ![] bcast_S_S200x128 (shapeCast S_ (extractStridedSlice S1x1x1 ![0, 0, 2] a slices_S1x2x3_S1x1x1_0_0_2) shapeCasts_S1x1x1_S_))
      (shapeCast S200x128 (extractStridedSlice S200x1x128 ![0, 0, 2] xp slices_S200x2x130_S200x1x128_0_0_2) shapeCasts_S200x1x128_S200x128)))
    (mulf (broadcastInDim S200x128 ![] bcast_S_S200x128 (shapeCast S_ (extractStridedSlice S1x1x1 ![0, 1, 0] a slices_S1x2x3_S1x1x1_0_1_0) shapeCasts_S1x1x1_S_))
      (shapeCast S200x128 (extractStridedSlice S200x1x128 ![0, 1, 0] xp slices_S200x2x130_S200x1x128_0_1_0) shapeCasts_S200x1x128_S200x128)))
    (mulf (broadcastInDim S200x128 ![] bcast_S_S200x128 (shapeCast S_ (extractStridedSlice S1x1x1 ![0, 1, 1] a slices_S1x2x3_S1x1x1_0_1_1) shapeCasts_S1x1x1_S_))
      (shapeCast S200x128 (extractStridedSlice S200x1x128 ![0, 1, 1] xp slices_S200x2x130_S200x1x128_0_1_1) shapeCasts_S200x1x128_S200x128)))
    (mulf (broadcastInDim S200x128 ![] bcast_S_S200x128 (shapeCast S_ (extractStridedSlice S1x1x1 ![0, 1, 2] a slices_S1x2x3_S1x1x1_0_1_2) shapeCasts_S1x1x1_S_))
      (shapeCast S200x128 (extractStridedSlice S200x1x128 ![0, 1, 2] xp slices_S200x2x130_S200x1x128_0_1_2) shapeCasts_S200x1x128_S200x128))

/-- The projection and the logistic function. -/
def hd200 (y : FVec F S200x128 .f32) (w : FVec F S1x128 .f32) (bl : FVec F S1 .f32) : FVec F S200 .f32 :=
  Host.divf (broadcastInDim S200 ![] bcast_S_S200 (constant S_ .f32 0x3F800000#32)) (addf (broadcastInDim S200 ![] bcast_S_S200 (constant S_ .f32 0x3F800000#32))
    (Host.exp (Host.negf (addf (Host.dotGeneral dot_S200x128_S128_S200_1_0_0_n_n_n none y (shapeCast S128 w shapeCasts_S1x128_S128)) (broadcastInDim S200 ![] bcast_S_S200 (shapeCast S_ bl shapeCasts_S1_S_))))))

/-- The scores of the pairs padded in `xp`. -/
theorem sc200_at {W : Wt} {xp : FVec Ideal S200x2x130 .f32} {x : Fin 200 → Fin 2 → Fin 128 → ℝ} (hx : ∀ i c e, xp (ix3 i c e) = ((padR (x i c) e : ℝ) : EReal))
    {a : FVec Ideal S1x2x3 .f32} {b : FVec Ideal S1 .f32} {w : FVec Ideal S1x128 .f32} {bl : FVec Ideal S1 .f32} (h : IsWt W a b w bl) (i : Fin 200) :
    hd200 (cv200 xp a b) w bl (ix1 i) = ((sg (W.lg (x i 0) (x i 1)) : ℝ) : EReal) := by
  have e : ∀ d, cv200 xp a b (ix2 i d) = ((conv W.a W.b (x i 0) (x i 1) d : ℝ) : EReal) := fun d => by
    pointwise [cv200]
    simp only [hx, h.a, h.b, padR_0, padR_1, padR_2, ← EReal.coe_mul, ← EReal.coe_add, conv, zero_add]
  pointwise [hd200]
  simp only [e, h.w, h.bl, Tree.coe_sum, ← EReal.coe_mul, ← EReal.coe_add, conv_proj, div_exp]
  rfl

/-- Two rows stacked and padded. -/
def pd200 (y0 y1 : FVec F S200x1x128 .f32) : FVec F S200x2x130 .f32 :=
  pad S200x2x130 ![0, 0, 1] ![0, 0, 1] ![0, 0, 0] (concatenate S200x2x128 1 [⟨S200x1x128, y0⟩, ⟨S200x1x128, y1⟩] concatenates_S200x1x128_S200x1x128_S200x2x128_d1) (sitofp (F := F) .f32 (constantI S_ 32 0#32)) pads_S200x2x128_S200x2x130_000_000_110 h_S_

/-- 200 pairs of rows stacked and padded. -/
theorem pd200_at {y0 y1 : FVec Ideal S200x1x128 .f32} {x : Fin 200 → Fin 2 → Fin 128 → ℝ} (h0 : ∀ i d, y0 (ix3 i 0 d) = ((x i 0 d : ℝ) : EReal))
    (h1 : ∀ i d, y1 (ix3 i 0 d) = ((x i 1 d : ℝ) : EReal)) (i : Fin 200) (c : Fin 2) (e : Fin 130) : pd200 y0 y1 (ix3 i c e) = ((padR (x i c) e : ℝ) : EReal) := by
  fin_cases c
  · pointwise [pd200]
    simp only [h0]
    exact pad_coe _ _
  · pointwise [pd200]
    simp only [h1]
    exact pad_coe _ _

/-! ## 199 pairs of rows -/

/-- The convolution. -/
def cv199 (xp : FVec F S199x2x130 .f32) (a : FVec F S1x2x3 .f32) (b : FVec F S1 .f32) : FVec F S199x128 .f32 :=
  addf (addf (addf (addf (addf (addf (addf (broadcastInDim S199x128 ![] bcast_S_S199x128 (constant S_ .f32 0x00000000#32)) (broadcastInDim S199x128 ![] bcast_S_S199x128 (shapeCast S_ b shapeCasts_S1_S_)))
    (mulf (broadcastInDim S199x128 ![] bcast_S_S199x128 (shapeCast S_ (extractStridedSlice S1x1x1 ![0, 0, 0] a slices_S1x2x3_S1x1x1_0_0_0) shapeCasts_S1x1x1_S_))
      (shapeCast S199x128 (extractStridedSlice S199x1x128 ![0, 0, 0] xp slices_S199x2x130_S199x1x128_0_0_0) shapeCasts_S199x1x128_S199x128)))
    (mulf (broadcastInDim S199x128 ![] bcast_S_S199x128 (shapeCast S_ (extractStridedSlice S1x1x1 ![0, 0, 1] a slices_S1x2x3_S1x1x1_0_0_1) shapeCasts_S1x1x1_S_))
      (shapeCast S199x128 (extractStridedSlice S199x1x128 ![0, 0, 1] xp slices_S199x2x130_S199x1x128_0_0_1) shapeCasts_S199x1x128_S199x128)))
    (mulf (broadcastInDim S199x128 ![] bcast_S_S199x128 (shapeCast S_ (extractStridedSlice S1x1x1 ![0, 0, 2] a slices_S1x2x3_S1x1x1_0_0_2) shapeCasts_S1x1x1_S_))
      (shapeCast S199x128 (extractStridedSlice S199x1x128 ![0, 0, 2] xp slices_S199x2x130_S199x1x128_0_0_2) shapeCasts_S199x1x128_S199x128)))
    (mulf (broadcastInDim S199x128 ![] bcast_S_S199x128 (shapeCast S_ (extractStridedSlice S1x1x1 ![0, 1, 0] a slices_S1x2x3_S1x1x1_0_1_0) shapeCasts_S1x1x1_S_))
      (shapeCast S199x128 (extractStridedSlice S199x1x128 ![0, 1, 0] xp slices_S199x2x130_S199x1x128_0_1_0) shapeCasts_S199x1x128_S199x128)))
    (mulf (broadcastInDim S199x128 ![] bcast_S_S199x128 (shapeCast S_ (extractStridedSlice S1x1x1 ![0, 1, 1] a slices_S1x2x3_S1x1x1_0_1_1) shapeCasts_S1x1x1_S_))
      (shapeCast S199x128 (extractStridedSlice S199x1x128 ![0, 1, 1] xp slices_S199x2x130_S199x1x128_0_1_1) shapeCasts_S199x1x128_S199x128)))
    (mulf (broadcastInDim S199x128 ![] bcast_S_S199x128 (shapeCast S_ (extractStridedSlice S1x1x1 ![0, 1, 2] a slices_S1x2x3_S1x1x1_0_1_2) shapeCasts_S1x1x1_S_))
      (shapeCast S199x128 (extractStridedSlice S199x1x128 ![0, 1, 2] xp slices_S199x2x130_S199x1x128_0_1_2) shapeCasts_S199x1x128_S199x128))

/-- The projection and the logistic function. -/
def hd199 (y : FVec F S199x128 .f32) (w : FVec F S1x128 .f32) (bl : FVec F S1 .f32) : FVec F S199 .f32 :=
  Host.divf (broadcastInDim S199 ![] bcast_S_S199 (constant S_ .f32 0x3F800000#32)) (addf (broadcastInDim S199 ![] bcast_S_S199 (constant S_ .f32 0x3F800000#32))
    (Host.exp (Host.negf (addf (Host.dotGeneral dot_S199x128_S128_S199_1_0_0_n_n_n none y (shapeCast S128 w shapeCasts_S1x128_S128)) (broadcastInDim S199 ![] bcast_S_S199 (shapeCast S_ bl shapeCasts_S1_S_))))))

/-- The scores of the pairs padded in `xp`. -/
theorem sc199_at {W : Wt} {xp : FVec Ideal S199x2x130 .f32} {x : Fin 199 → Fin 2 → Fin 128 → ℝ} (hx : ∀ i c e, xp (ix3 i c e) = ((padR (x i c) e : ℝ) : EReal))
    {a : FVec Ideal S1x2x3 .f32} {b : FVec Ideal S1 .f32} {w : FVec Ideal S1x128 .f32} {bl : FVec Ideal S1 .f32} (h : IsWt W a b w bl) (i : Fin 199) :
    hd199 (cv199 xp a b) w bl (ix1 i) = ((sg (W.lg (x i 0) (x i 1)) : ℝ) : EReal) := by
  have e : ∀ d, cv199 xp a b (ix2 i d) = ((conv W.a W.b (x i 0) (x i 1) d : ℝ) : EReal) := fun d => by
    pointwise [cv199]
    simp only [hx, h.a, h.b, padR_0, padR_1, padR_2, ← EReal.coe_mul, ← EReal.coe_add, conv, zero_add]
  pointwise [hd199]
  simp only [e, h.w, h.bl, Tree.coe_sum, ← EReal.coe_mul, ← EReal.coe_add, conv_proj, div_exp]
  rfl

/-- Two rows stacked and padded. -/
def pd199 (y0 y1 : FVec F S199x1x128 .f32) : FVec F S199x2x130 .f32 :=
  pad S199x2x130 ![0, 0, 1] ![0, 0, 1] ![0, 0, 0] (concatenate S199x2x128 1 [⟨S199x1x128, y0⟩, ⟨S199x1x128, y1⟩] concatenates_S199x1x128_S199x1x128_S199x2x128_d1) (sitofp (F := F) .f32 (constantI S_ 32 0#32)) pads_S199x2x128_S199x2x130_000_000_110 h_S_

/-- 199 pairs of rows stacked and padded. -/
theorem pd199_at {y0 y1 : FVec Ideal S199x1x128 .f32} {x : Fin 199 → Fin 2 → Fin 128 → ℝ} (h0 : ∀ i d, y0 (ix3 i 0 d) = ((x i 0 d : ℝ) : EReal))
    (h1 : ∀ i d, y1 (ix3 i 0 d) = ((x i 1 d : ℝ) : EReal)) (i : Fin 199) (c : Fin 2) (e : Fin 130) : pd199 y0 y1 (ix3 i c e) = ((padR (x i c) e : ℝ) : EReal) := by
  fin_cases c
  · pointwise [pd199]
    simp only [h0]
    exact pad_coe _ _
  · pointwise [pd199]
    simp only [h1]
    exact pad_coe _ _

end Cert.Proof.Heads

end
-- ==== Proof.RTake.lean ====
/-
  The rows the reference takes: the indices in range, wrapping and clamping change nothing.
-/
module

public import proofs.«01_k».proof.Proof.Heads
public import proofs.«01_k».proof.Proof.Args

@[expose] public section

noncomputable section

namespace Cert.Proof.RTake

open Idealize.ShloMosaic Idealize.ShloMosaic.TcCoe
open Cert.ReferenceIdeal Cert.ReferenceIdeal.Gen Cert.ReferenceIdeal.Value

variable {F : FTy → Type} [FloatOps F]

/-! ## Words -/

/-- A clamped row number names a row. -/
theorem clamp_lt (n : ℕ) : min n 99999 < 100000 := by omega

/-- A row number read signed is itself. -/
theorem row_toInt {v : BitVec 32} (h : v.toNat < 100000) : v.toInt = v.toNat := by
  rw [BitVec.toInt_eq_toNat_cond]
  split <;> omega

/-- Clamping changes no row number. -/
theorem clamp_row {v : BitVec 32} (h : v.toNat < 100000) : min v.toInt.toNat 99999 = v.toNat % 100000 := by
  rw [row_toInt h]
  omega

/-- A row number is not negative, so it is not wrapped. -/
theorem wrap_row {v w : BitVec 32} (h : v.toNat < 100000) : Scalar.select (IntOp.cmpi .slt v 0#32) w v = v := by
  have e : v.slt 0#32 = false := by
    rw [BitVec.slt_eq_decide, row_toInt h]
    simp
  show Scalar.select (BitVec.ofBool (v.slt 0#32)) w v = v
  rw [e]
  rfl

/-- A row number passes the range test. -/
theorem row_ok {v : BitVec 32} (h : v.toNat < 100000) : IntOp.andi (IntOp.cmpi .sge v 0#32) (IntOp.cmpi .sle v 99999#32) = 1#1 := by
  have e : (0#32).sle v = true := by
    rw [BitVec.sle_eq_decide, row_toInt h]
    simp
  have e' : v.sle 99999#32 = true := by
    rw [BitVec.sle_eq_decide, row_toInt h]
    simp only [decide_eq_true_eq]
    show (v.toNat : ℤ) ≤ 99999
    omega
  show IntOp.andi (BitVec.ofBool ((0#32).sle v)) (BitVec.ofBool (v.sle 99999#32)) = 1#1
  rw [e, e']
  rfl

/-- A conjunction of one bit. -/
theorem fold_one (f : Fin 1 → BitVec 1) (h : f 0 = 1#1) : Finset.fold IntOp.andi 1#1 f Finset.univ = 1#1 := by
  rw [Finset.univ_unique, Finset.fold_singleton]
  show IntOp.andi (f 0) 1#1 = 1#1
  rw [h]
  rfl

/-! ## Rows -/

/-- The dimension numbers of taking whole rows at an array of words. -/
abbrev rowDims (R K : ℕ) (wf : GatherDims.WF ⟨2, ![100000, 128]⟩ ⟨3, ![R, K, 1]⟩ ⟨3, ![R, K, 128]⟩ [2] [0] [] [0] [] 2 ![1, 128]) :
    GatherDims ⟨2, ![100000, 128]⟩ ⟨3, ![R, K, 1]⟩ ⟨3, ![R, K, 128]⟩ where
  offsetDims := [2]
  collapsedSliceDims := [0]
  operandBatchingDims := []
  startIndicesBatchingDims := []
  startIndexMap := [0]
  indexVectorDim := 2
  sliceSizes := ![1, 128]
  wf := wf

/-- A row taken, entry by entry: its word's row, the word clamped. -/
theorem gather_at {α : Type} {R K : ℕ} (wf : GatherDims.WF ⟨2, ![100000, 128]⟩ ⟨3, ![R, K, 1]⟩ ⟨3, ![R, K, 128]⟩ [2] [0] [] [0] [] 2 ![1, 128])
    (x : (⟨2, ![100000, 128]⟩ : Shape).Idx → α) (j : IVec ⟨3, ![R, K, 1]⟩ 32) (t : Fin R) (n : Fin K) (d : Fin 128) :
    Host.gather (rowDims R K wf) x j (ix3 t n d) = x (ix2 ⟨min (j (ix3 t n 0)).toInt.toNat 99999, clamp_lt _⟩ d) := by
  refine congrArg x (funext fun a => Fin.ext ?_)
  show (rowDims R K wf).start (ix3 t n d) j a + (rowDims R K wf).batchCoord (ix3 t n d) a + (rowDims R K wf).offCoord (ix3 t n d) a = _
  rw [GatherDims.batchCoord_eq_zero _ _ _ List.not_mem_nil, Nat.add_zero]
  obtain rfl | rfl : a = 0 ∨ a = 1 := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl)), Nat.add_zero, GatherDims.start,
      dif_pos (List.mem_singleton.mpr rfl)]
    have hs : (rowDims R K wf).siIdx (ix3 t n d) ⟨List.idxOf (0 : Fin 2) (rowDims R K wf).startIndexMap, List.idxOf_lt_length_iff.2 (List.mem_singleton.mpr rfl)⟩ = ix3 t n 0 :=
      funext fun b => Fin.ext (match b with
        | ⟨0, _⟩ => rfl
        | ⟨1, _⟩ => rfl
        | ⟨2, _⟩ => rfl)
    rw [hs]
    rfl
  · have hk : (1 : Fin 2) ∈ (rowDims R K wf).sKept := (GatherDims.mem_sKept _ _).mpr ⟨(by decide : (1 : Fin 2) ∉ ([0] : List (Fin 2))), List.not_mem_nil⟩
    rw [GatherDims.start, dif_neg (by decide : (1 : Fin 2) ∉ ([0] : List (Fin 2))), Nat.zero_add, GatherDims.offCoord, dif_pos hk]
    rfl

/-! ## 16 words a place -/

/-- The index words, wrapped, with a last axis of one. -/
def ix16 (i : IVec S200x16 32) : IVec S200x16x1 32 :=
  broadcastInDim S200x16x1 ![0, 1] bcast_S200x16_S200x16x1_0_1 (select (cmpi .slt i (broadcastInDim S200x16 ![] bcast_S_S200x16 (constantI S_ 32 0#32)))
    (addi i (broadcastInDim S200x16 ![] bcast_S_S200x16 (constantI S_ 32 100000#32))) i)
/-- Whether the words are row numbers. -/
def ok16 (j : IVec S200x16x1 32) : IVec S200x16 1 :=
  Host.reduce IntOp.andi (andi (cmpi .sge j (broadcastInDim S200x16x1 ![] bcast_S_S200x16x1 (constantI S_ 32 0#32)))
    (cmpi .sle j (broadcastInDim S200x16x1 ![0, 1, 2] bcast_S1x1x1_S200x16x1_0_1_2 (broadcastInDim S1x1x1 ![2] bcast_S1_S1x1x1_2 (constantI S1 32 99999#32))))) (constantI S_ 1 1#1) reducesTo_S200x16x1_S200x16_d2 h_S_
/-- The rows that the words name. -/
def take16 (x : FVec F S100000x128 .f32) (i : IVec S200x16 32) : FVec F S200x16x128 .f32 :=
  select (broadcastInDim S200x16x128 ![0, 1] bcast_S200x16_S200x16x128_0_1 (ok16 (ix16 i)))
    (Host.gather gather_S100000x128_S200x16x1_S200x16x128_2_0_n_n_0_2_1128 x (ix16 i)) (broadcastInDim S200x16x128 ![] bcast_S_S200x16x128 (constant S_ .f32 0x7FC00000#32))

/-- The words being row numbers, each place gets its words' rows. -/
theorem take16_at (x : FVec F S100000x128 .f32) {i : IVec S200x16 32} (h : Pre.Row i) (t : Fin 200) (n : Fin 16) (d : Fin 128) :
    take16 x i (ix3 t n d) = x (ix2 (Args.row (i (ix2 t n))) d) := by
  have h1 : ix16 i (ix3 t n 0) = i (ix2 t n) := by
    pointwise [ix16]
    exact wrap_row (h _)
  have h2 : ok16 (ix16 i) (ix2 t n) = 1#1 := by
    pointwise [ok16]
    refine fold_one _ ?_
    rw [h1]
    exact row_ok (h _)
  have h3 : Host.gather gather_S100000x128_S200x16x1_S200x16x128_2_0_n_n_0_2_1128 x (ix16 i) (ix3 t n d) = x (ix2 (Args.row (i (ix2 t n))) d) := by
    refine (gather_at gather_S100000x128_S200x16x1_S200x16x128_2_0_n_n_0_2_1128_wf x _ t n d).trans ?_
    rw [h1]
    exact congrArg (fun r => x (ix2 r d)) (Fin.ext (clamp_row (h _)))
  unfold take16
  generalize Host.gather gather_S100000x128_S200x16x1_S200x16x128_2_0_n_n_0_2_1128 x (ix16 i) = g at h3 ⊢
  generalize ok16 (ix16 i) = o at h2 ⊢
  pointwise []
  rw [h2, h3]
  rfl

/-! ## 64 words a place -/

/-- The index words, wrapped, with a last axis of one. -/
def ix64 (i : IVec S200x64 32) : IVec S200x64x1 32 :=
  broadcastInDim S200x64x1 ![0, 1] bcast_S200x64_S200x64x1_0_1 (select (cmpi .slt i (broadcastInDim S200x64 ![] bcast_S_S200x64 (constantI S_ 32 0#32)))
    (addi i (broadcastInDim S200x64 ![] bcast_S_S200x64 (constantI S_ 32 100000#32))) i)
/-- Whether the words are row numbers. -/
def ok64 (j : IVec S200x64x1 32) : IVec S200x64 1 :=
  Host.reduce IntOp.andi (andi (cmpi .sge j (broadcastInDim S200x64x1 ![] bcast_S_S200x64x1 (constantI S_ 32 0#32)))
    (cmpi .sle j (broadcastInDim S200x64x1 ![0, 1, 2] bcast_S1x1x1_S200x64x1_0_1_2 (broadcastInDim S1x1x1 ![2] bcast_S1_S1x1x1_2 (constantI S1 32 99999#32))))) (constantI S_ 1 1#1) reducesTo_S200x64x1_S200x64_d2 h_S_
/-- The rows that the words name. -/
def take64 (x : FVec F S100000x128 .f32) (i : IVec S200x64 32) : FVec F S200x64x128 .f32 :=
  select (broadcastInDim S200x64x128 ![0, 1] bcast_S200x64_S200x64x128_0_1 (ok64 (ix64 i)))
    (Host.gather gather_S100000x128_S200x64x1_S200x64x128_2_0_n_n_0_2_1128 x (ix64 i)) (broadcastInDim S200x64x128 ![] bcast_S_S200x64x128 (constant S_ .f32 0x7FC00000#32))

/-- The words being row numbers, each place gets its words' rows. -/
theorem take64_at (x : FVec F S100000x128 .f32) {i : IVec S200x64 32} (h : Pre.Row i) (t : Fin 200) (n : Fin 64) (d : Fin 128) :
    take64 x i (ix3 t n d) = x (ix2 (Args.row (i (ix2 t n))) d) := by
  have h1 : ix64 i (ix3 t n 0) = i (ix2 t n) := by
    pointwise [ix64]
    exact wrap_row (h _)
  have h2 : ok64 (ix64 i) (ix2 t n) = 1#1 := by
    pointwise [ok64]
    refine fold_one _ ?_
    rw [h1]
    exact row_ok (h _)
  have h3 : Host.gather gather_S100000x128_S200x64x1_S200x64x128_2_0_n_n_0_2_1128 x (ix64 i) (ix3 t n d) = x (ix2 (Args.row (i (ix2 t n))) d) := by
    refine (gather_at gather_S100000x128_S200x64x1_S200x64x128_2_0_n_n_0_2_1128_wf x _ t n d).trans ?_
    rw [h1]
    exact congrArg (fun r => x (ix2 r d)) (Fin.ext (clamp_row (h _)))
  unfold take64
  generalize Host.gather gather_S100000x128_S200x64x1_S200x64x128_2_0_n_n_0_2_1128 x (ix64 i) = g at h3 ⊢
  generalize ok64 (ix64 i) = o at h2 ⊢
  pointwise []
  rw [h2, h3]
  rfl

end Cert.Proof.RTake

end
-- ==== Proof.RRead.lean ====
/-
  What the reference's stretches before and after its loop leave, of what their buffers held.
-/
module

public import proofs.«01_k».proof.Proof.RTake

@[expose] public section

set_option maxRecDepth 8192
set_option maxHeartbeats 4000000

noncomputable section

namespace Cert.Proof.RRead

open Idealize.ShloMosaic Idealize.ShloMosaic.TcCoe Idealize.ShloMosaic.StableHlo
open Cert.ReferenceIdeal Cert.ReferenceIdeal.Gen Cert.ReferenceIdeal.Value
open Cert.Proof.Heads Cert.Proof.RTake

variable {F : FTy → Type} [FloatOps F]

/-! ## Parts of the terms -/

/-- The mean of sixteen rows at each place. -/
def avg (x : FVec F S200x16x128 .f32) : FVec F S200x128 .f32 :=
  Host.divf (Host.reduceAdd x (constant S_ .f32 0x00000000#32) reducesTo_S200x16x128_S200x128_d1 h_S_) (broadcastInDim S200x128 ![] bcast_S_S200x128 (constant S_ .f32 0x41800000#32))

/-- The first mean paired with each of the first candidates. -/
def first (x : FVec F S200x128 .f32) (y : FVec F S200x64x128 .f32) : FVec F S64x2x130 .f32 :=
  pd64 (broadcastInDim S64x1x128 ![0, 2] bcast_S64x128_S64x1x128_0_2 (broadcastInDim S64x128 ![1] bcast_S128_S64x128_1 (shapeCast S128 (extractStridedSlice S1x128 ![0, 0] x slices_S200x128_S1x128_0_0) shapeCasts_S1x128_S128)))
    (broadcastInDim S64x1x128 ![0, 2] bcast_S64x128_S64x1x128_0_2 (shapeCast S64x128 (extractStridedSlice S1x64x128 ![0, 0, 0] y slices_S200x64x128_S1x64x128_0_0_0) shapeCasts_S1x64x128_S64x128))

/-- The means of the hidden states paired with those of the observed. -/
def both (x y : FVec F S200x128 .f32) : FVec F S200x2x130 .f32 :=
  pd200 (broadcastInDim S200x1x128 ![0, 2] bcast_S200x128_S200x1x128_0_2 x) (broadcastInDim S200x1x128 ![0, 2] bcast_S200x128_S200x1x128_0_2 y)

/-- Each mean but the first paired with the one before it. -/
def succs (x : FVec F S200x128 .f32) : FVec F S199x2x130 .f32 :=
  pd199 (broadcastInDim S199x1x128 ![0, 2] bcast_S199x128_S199x1x128_0_2 (extractStridedSlice S199x128 ![1, 0] x slices_S200x128_S199x128_1_0))
    (broadcastInDim S199x1x128 ![0, 2] bcast_S199x128_S199x1x128_0_2 (extractStridedSlice S199x128 ![0, 0] x slices_S200x128_S199x128_0_0))

/-- The logarithm of the sum of the exponentials. -/
def total (α : FVec F S64 .f32) : FVec F S_ .f32 :=
  addf (Host.log (Host.reduceAdd (Host.exp (subf α (broadcastInDim S64 ![] bcast_S_S64 (Host.reduce FloatOps.maximumf α (constant S_ .f32 0xFF800000#32) reducesTo_S64_S_d0 h_S_)))) (constant S_ .f32 0x00000000#32) reducesTo_S64_S_d0 h_S_))
    (Host.reduce FloatOps.maximumf α (constant S_ .f32 0xFF800000#32) reducesTo_S64_S_d0 h_S_)

/-- The result: the forward score less the two sums of scores. -/
def result (f : FVec F S_ .f32) (e : FVec F S200 .f32) (t : FVec F S199 .f32) : FVec F S1 .f32 :=
  shapeCast S1 (subf f (addf (Host.reduceAdd e (constant S_ .f32 0x00000000#32) reducesTo_S200_S_d0 h_S_) (Host.reduceAdd t (constant S_ .f32 0x00000000#32) reducesTo_S199_S_d0 h_S_))) shapeCasts_S_S1

/-! ## Before the loop -/

variable (V : Valuation τ sig (Elt F))

/-- The observed rows. -/
theorem s0_v0 : after hostOps0 V (Proc.devRef .tc main_v0) = take16 (V (Proc.devRef .tc main_arg0)) (V (Proc.devRef .tc main_arg9)) := by
  after_results_entrywise [cast_eq]
/-- Their means. -/
theorem s1_v3 : after hostOps0_1 V (Proc.devRef .tc main_v3) = avg (V (Proc.devRef .tc main_v0)) := by
  after_results_entrywise [cast_eq]
/-- The candidates' rows. -/
theorem s2_v4 : after hostOps0_2 V (Proc.devRef .tc main_v4) = take64 (V (Proc.devRef .tc main_arg0)) (V (Proc.devRef .tc main_arg10)) := by
  after_results_entrywise [cast_eq]
/-- The first mean paired with the first candidates. -/
theorem s34_v13 : after hostOps0_4 (after hostOps0_3 V) (Proc.devRef .tc main_v13) = first (V (Proc.devRef .tc main_v3)) (V (Proc.devRef .tc main_v4)) := by
  after_results_entrywise [cast_eq]
/-- The candidates but the last. -/
theorem s5_0 : after hostOps0_5 V (Proc.devRef .tc main_v74_0) = extractStridedSlice S199x64x128 ![0, 0, 0] (V (Proc.devRef .tc main_v4)) slices_S200x64x128_S199x64x128_0_0_0 := by
  after_results_entrywise [cast_eq]
/-- The candidates but the first. -/
theorem s5_1 : after hostOps0_5 V (Proc.devRef .tc main_v74_1) = extractStridedSlice S199x64x128 ![1, 0, 0] (V (Proc.devRef .tc main_v4)) slices_S200x64x128_S199x64x128_1_0_0 := by
  after_results_entrywise [cast_eq]
/-- The means but the first. -/
theorem s5_2 : after hostOps0_5 V (Proc.devRef .tc main_v74_2) = extractStridedSlice S199x128 ![1, 0] (V (Proc.devRef .tc main_v3)) slices_S200x128_S199x128_1_0 := by
  after_results_entrywise [cast_eq]
/-- Operand 3 of the loop is an argument. -/
theorem s5_3 : after hostOps0_5 V (Proc.devRef .tc main_v74_3) = (V (Proc.devRef .tc main_arg6)) := by
  after_results_entrywise [cast_eq]
/-- Operand 4 of the loop is an argument. -/
theorem s5_4 : after hostOps0_5 V (Proc.devRef .tc main_v74_4) = (V (Proc.devRef .tc main_arg5)) := by
  after_results_entrywise [cast_eq]
/-- Operand 5 of the loop is an argument. -/
theorem s5_5 : after hostOps0_5 V (Proc.devRef .tc main_v74_5) = (V (Proc.devRef .tc main_arg7)) := by
  after_results_entrywise [cast_eq]
/-- Operand 6 of the loop is an argument. -/
theorem s5_6 : after hostOps0_5 V (Proc.devRef .tc main_v74_6) = (V (Proc.devRef .tc main_arg8)) := by
  after_results_entrywise [cast_eq]
/-- Operand 7 of the loop is an argument. -/
theorem s5_7 : after hostOps0_5 V (Proc.devRef .tc main_v74_7) = (V (Proc.devRef .tc main_arg2)) := by
  after_results_entrywise [cast_eq]
/-- Operand 8 of the loop is an argument. -/
theorem s5_8 : after hostOps0_5 V (Proc.devRef .tc main_v74_8) = (V (Proc.devRef .tc main_arg1)) := by
  after_results_entrywise [cast_eq]
/-- Operand 9 of the loop is an argument. -/
theorem s5_9 : after hostOps0_5 V (Proc.devRef .tc main_v74_9) = (V (Proc.devRef .tc main_arg3)) := by
  after_results_entrywise [cast_eq]
/-- Operand 10 of the loop is an argument. -/
theorem s5_10 : after hostOps0_5 V (Proc.devRef .tc main_v74_10) = (V (Proc.devRef .tc main_arg4)) := by
  after_results_entrywise [cast_eq]
/-- The loop's counter starts at zero. -/
theorem s5_11 : after hostOps0_5 V (Proc.devRef .tc main_v74_11) = constantI S_ 32 0#32 := by
  after_results_entrywise [cast_eq]
/-- The first emission scores. -/
theorem s5_12 : after hostOps0_5 V (Proc.devRef .tc main_v74_12) = hd64 (cv64 (V (Proc.devRef .tc main_v13)) (V (Proc.devRef .tc main_arg1)) (V (Proc.devRef .tc main_arg2))) (V (Proc.devRef .tc main_arg3)) (V (Proc.devRef .tc main_arg4)) := by
  after_results_entrywise [cast_eq]

/-! ## After the loop -/

/-- The forward score. -/
theorem s6_v81 : after hostOps0_6 V (Proc.devRef .tc main_v81) = total (V (Proc.devRef .tc main_v74_12)) := by
  after_results_entrywise [cast_eq]
/-- The hidden states' rows. -/
theorem s7_v82 : after hostOps0_7 V (Proc.devRef .tc main_v82) = take16 (V (Proc.devRef .tc main_arg0)) (V (Proc.devRef .tc main_arg11)) := by
  after_results_entrywise [cast_eq]
/-- Their means. -/
theorem s8_v85 : after hostOps0_8 V (Proc.devRef .tc main_v85) = avg (V (Proc.devRef .tc main_v82)) := by
  after_results_entrywise [cast_eq]
/-- The hidden means paired with the observed. -/
theorem s89_v89 : after hostOps0_9 (after hostOps0_8 V) (Proc.devRef .tc main_v89) = both (avg (V (Proc.devRef .tc main_v82))) (V (Proc.devRef .tc main_v3)) := by
  after_results_entrywise [cast_eq]
/-- The emission scores of the hidden states. -/
theorem s10_v146 : after hostOps0_10 V (Proc.devRef .tc main_v146) = hd200 (cv200 (V (Proc.devRef .tc main_v89)) (V (Proc.devRef .tc main_arg1)) (V (Proc.devRef .tc main_arg2))) (V (Proc.devRef .tc main_arg3)) (V (Proc.devRef .tc main_arg4)) := by
  after_results_entrywise [cast_eq]
/-- Each hidden mean but the first paired with the one before it. -/
theorem s1011_v152 : after hostOps0_11 (after hostOps0_10 V) (Proc.devRef .tc main_v152) = succs (V (Proc.devRef .tc main_v85)) := by
  after_results_entrywise [cast_eq]
/-- The result of the three. -/
theorem s12_v214 : after hostOps0_12 V (Proc.devRef .tc main_v214) = result (V (Proc.devRef .tc main_v81)) (V (Proc.devRef .tc main_v146)) (hd199 (cv199 (V (Proc.devRef .tc main_v152)) (V (Proc.devRef .tc main_arg5)) (V (Proc.devRef .tc main_arg6))) (V (Proc.devRef .tc main_arg7)) (V (Proc.devRef .tc main_arg8))) := by
  after_results_entrywise [cast_eq]

/-! ## What a stretch does not write it keeps -/

/-- Stretch 0 keeps what it does not write. -/
theorem k0 (r : Ref sig .tc) (h : r ∉ hostOps0_W) : after hostOps0 V (Proc.devRef .tc r) = V (Proc.devRef .tc r) := after_of_writes_sub hostOps0 V hostOps0_writes h
/-- Stretch 1 keeps what it does not write. -/
theorem k1 (r : Ref sig .tc) (h : r ∉ hostOps0_1_W) : after hostOps0_1 V (Proc.devRef .tc r) = V (Proc.devRef .tc r) := after_of_writes_sub hostOps0_1 V hostOps0_1_writes h
/-- Stretch 2 keeps what it does not write. -/
theorem k2 (r : Ref sig .tc) (h : r ∉ hostOps0_2_W) : after hostOps0_2 V (Proc.devRef .tc r) = V (Proc.devRef .tc r) := after_of_writes_sub hostOps0_2 V hostOps0_2_writes h
/-- Stretch 3 keeps what it does not write. -/
theorem k3 (r : Ref sig .tc) (h : r ∉ hostOps0_3_W) : after hostOps0_3 V (Proc.devRef .tc r) = V (Proc.devRef .tc r) := after_of_writes_sub hostOps0_3 V hostOps0_3_writes h
/-- Stretch 4 keeps what it does not write. -/
theorem k4 (r : Ref sig .tc) (h : r ∉ hostOps0_4_W) : after hostOps0_4 V (Proc.devRef .tc r) = V (Proc.devRef .tc r) := after_of_writes_sub hostOps0_4 V hostOps0_4_writes h
/-- Stretch 5 keeps what it does not write. -/
theorem k5 (r : Ref sig .tc) (h : r ∉ hostOps0_5_W) : after hostOps0_5 V (Proc.devRef .tc r) = V (Proc.devRef .tc r) := after_of_writes_sub hostOps0_5 V hostOps0_5_writes h
/-- Stretch 6 keeps what it does not write. -/
theorem k6 (r : Ref sig .tc) (h : r ∉ Ref.postW6) : after hostOps0_6 V (Proc.devRef .tc r) = V (Proc.devRef .tc r) := after_of_writes_sub hostOps0_6 V Ref.postW6_writes h
/-- Stretch 7 keeps what it does not write. -/
theorem k7 (r : Ref sig .tc) (h : r ∉ Ref.postW7) : after hostOps0_7 V (Proc.devRef .tc r) = V (Proc.devRef .tc r) := after_of_writes_sub hostOps0_7 V Ref.postW7_writes h
/-- Stretch 8 keeps what it does not write. -/
theorem k8 (r : Ref sig .tc) (h : r ∉ Ref.postW8) : after hostOps0_8 V (Proc.devRef .tc r) = V (Proc.devRef .tc r) := after_of_writes_sub hostOps0_8 V Ref.postW8_writes h
/-- Stretch 9 keeps what it does not write. -/
theorem k9 (r : Ref sig .tc) (h : r ∉ Ref.postW9) : after hostOps0_9 V (Proc.devRef .tc r) = V (Proc.devRef .tc r) := after_of_writes_sub hostOps0_9 V Ref.postW9_writes h
/-- Stretch 10 keeps what it does not write. -/
theorem k10 (r : Ref sig .tc) (h : r ∉ Ref.postW10) : after hostOps0_10 V (Proc.devRef .tc r) = V (Proc.devRef .tc r) := after_of_writes_sub hostOps0_10 V Ref.postW10_writes h
/-- Stretch 11 keeps what it does not write. -/
theorem k11 (r : Ref sig .tc) (h : r ∉ Ref.postW11) : after hostOps0_11 V (Proc.devRef .tc r) = V (Proc.devRef .tc r) := after_of_writes_sub hostOps0_11 V Ref.postW11_writes h
/-- Stretch 12 keeps what it does not write. -/
theorem k12 (r : Ref sig .tc) (h : r ∉ Ref.postW12) : after hostOps0_12 V (Proc.devRef .tc r) = V (Proc.devRef .tc r) := after_of_writes_sub hostOps0_12 V Ref.postW12_writes h

/-! ## All before the loop -/

/-- The observed rows' means. -/
theorem entry_v3 : afterL preI V (Proc.devRef .tc main_v3) = avg (take16 (V (Proc.devRef .tc main_arg0)) (V (Proc.devRef .tc main_arg9))) := by
  simp only [afterL_cons, afterL_nil]
  rw [k5 _ main_v3 (by decide), k4 _ main_v3 (by decide), k3 _ main_v3 (by decide), k2 _ main_v3 (by decide), s1_v3, s0_v0]
/-- The observed means after the takes. -/
theorem pre_v3 : after hostOps0_2 (after hostOps0_1 (after hostOps0 V)) (Proc.devRef .tc main_v3) = avg (take16 (V (Proc.devRef .tc main_arg0)) (V (Proc.devRef .tc main_arg9))) := by
  rw [k2 _ main_v3 (by decide), s1_v3, s0_v0]
/-- The candidates' rows after the takes. -/
theorem pre_v4 : after hostOps0_2 (after hostOps0_1 (after hostOps0 V)) (Proc.devRef .tc main_v4) = take64 (V (Proc.devRef .tc main_arg0)) (V (Proc.devRef .tc main_arg10)) := by
  rw [s2_v4, k1 _ main_arg0 (by decide), k0 _ main_arg0 (by decide), k1 _ main_arg10 (by decide), k0 _ main_arg10 (by decide)]
/-- The loop enters with the candidates but the last, -/
theorem entry_0 : afterL preI V (Proc.devRef .tc main_v74_0) = extractStridedSlice S199x64x128 ![0, 0, 0] (take64 (V (Proc.devRef .tc main_arg0)) (V (Proc.devRef .tc main_arg10))) slices_S200x64x128_S199x64x128_0_0_0 := by
  simp only [afterL_cons, afterL_nil]
  rw [s5_0, k4 _ main_v4 (by decide), k3 _ main_v4 (by decide), pre_v4]
/-- the candidates but the first, -/
theorem entry_1 : afterL preI V (Proc.devRef .tc main_v74_1) = extractStridedSlice S199x64x128 ![1, 0, 0] (take64 (V (Proc.devRef .tc main_arg0)) (V (Proc.devRef .tc main_arg10))) slices_S200x64x128_S199x64x128_1_0_0 := by
  simp only [afterL_cons, afterL_nil]
  rw [s5_1, k4 _ main_v4 (by decide), k3 _ main_v4 (by decide), pre_v4]
/-- the observed means but the first, -/
theorem entry_2 : afterL preI V (Proc.devRef .tc main_v74_2) = extractStridedSlice S199x128 ![1, 0] (avg (take16 (V (Proc.devRef .tc main_arg0)) (V (Proc.devRef .tc main_arg9)))) slices_S200x128_S199x128_1_0 := by
  simp only [afterL_cons, afterL_nil]
  rw [s5_2, k4 _ main_v3 (by decide), k3 _ main_v3 (by decide), pre_v3]
/-- one of the weights' arguments, -/
theorem entry_3 : afterL preI V (Proc.devRef .tc main_v74_3) = (V (Proc.devRef .tc main_arg6)) := by
  simp only [afterL_cons, afterL_nil]
  rw [s5_3, k4 _ main_arg6 (by decide), k3 _ main_arg6 (by decide), k2 _ main_arg6 (by decide), k1 _ main_arg6 (by decide), k0 _ main_arg6 (by decide)]
/-- one of the weights' arguments, -/
theorem entry_4 : afterL preI V (Proc.devRef .tc main_v74_4) = (V (Proc.devRef .tc main_arg5)) := by
  simp only [afterL_cons, afterL_nil]
  rw [s5_4, k4 _ main_arg5 (by decide), k3 _ main_arg5 (by decide), k2 _ main_arg5 (by decide), k1 _ main_arg5 (by decide), k0 _ main_arg5 (by decide)]
/-- one of the weights' arguments, -/
theorem entry_5 : afterL preI V (Proc.devRef .tc main_v74_5) = (V (Proc.devRef .tc main_arg7)) := by
  simp only [afterL_cons, afterL_nil]
  rw [s5_5, k4 _ main_arg7 (by decide), k3 _ main_arg7 (by decide), k2 _ main_arg7 (by decide), k1 _ main_arg7 (by decide), k0 _ main_arg7 (by decide)]
/-- one of the weights' arguments, -/
theorem entry_6 : afterL preI V (Proc.devRef .tc main_v74_6) = (V (Proc.devRef .tc main_arg8)) := by
  simp only [afterL_cons, afterL_nil]
  rw [s5_6, k4 _ main_arg8 (by decide), k3 _ main_arg8 (by decide), k2 _ main_arg8 (by decide), k1 _ main_arg8 (by decide), k0 _ main_arg8 (by decide)]
/-- one of the weights' arguments, -/
theorem entry_7 : afterL preI V (Proc.devRef .tc main_v74_7) = (V (Proc.devRef .tc main_arg2)) := by
  simp only [afterL_cons, afterL_nil]
  rw [s5_7, k4 _ main_arg2 (by decide), k3 _ main_arg2 (by decide), k2 _ main_arg2 (by decide), k1 _ main_arg2 (by decide), k0 _ main_arg2 (by decide)]
/-- one of the weights' arguments, -/
theorem entry_8 : afterL preI V (Proc.devRef .tc main_v74_8) = (V (Proc.devRef .tc main_arg1)) := by
  simp only [afterL_cons, afterL_nil]
  rw [s5_8, k4 _ main_arg1 (by decide), k3 _ main_arg1 (by decide), k2 _ main_arg1 (by decide), k1 _ main_arg1 (by decide), k0 _ main_arg1 (by decide)]
/-- one of the weights' arguments, -/
theorem entry_9 : afterL preI V (Proc.devRef .tc main_v74_9) = (V (Proc.devRef .tc main_arg3)) := by
  simp only [afterL_cons, afterL_nil]
  rw [s5_9, k4 _ main_arg3 (by decide), k3 _ main_arg3 (by decide), k2 _ main_arg3 (by decide), k1 _ main_arg3 (by decide), k0 _ main_arg3 (by decide)]
/-- one of the weights' arguments, -/
theorem entry_10 : afterL preI V (Proc.devRef .tc main_v74_10) = (V (Proc.devRef .tc main_arg4)) := by
  simp only [afterL_cons, afterL_nil]
  rw [s5_10, k4 _ main_arg4 (by decide), k3 _ main_arg4 (by decide), k2 _ main_arg4 (by decide), k1 _ main_arg4 (by decide), k0 _ main_arg4 (by decide)]
/-- the counter at zero, -/
theorem entry_11 : afterL preI V (Proc.devRef .tc main_v74_11) = constantI S_ 32 0#32 := by
  simp only [afterL_cons, afterL_nil]
  rw [s5_11]
/-- and the first emission scores. -/
theorem entry_12 : afterL preI V (Proc.devRef .tc main_v74_12) = hd64 (cv64 (first (avg (take16 (V (Proc.devRef .tc main_arg0)) (V (Proc.devRef .tc main_arg9)))) (take64 (V (Proc.devRef .tc main_arg0)) (V (Proc.devRef .tc main_arg10)))) (V (Proc.devRef .tc main_arg1)) (V (Proc.devRef .tc main_arg2))) (V (Proc.devRef .tc main_arg3)) (V (Proc.devRef .tc main_arg4)) := by
  simp only [afterL_cons, afterL_nil]
  rw [s5_12, s34_v13, pre_v3, pre_v4, k4 _ main_arg1 (by decide), k3 _ main_arg1 (by decide), k2 _ main_arg1 (by decide), k1 _ main_arg1 (by decide), k0 _ main_arg1 (by decide), k4 _ main_arg2 (by decide), k3 _ main_arg2 (by decide), k2 _ main_arg2 (by decide), k1 _ main_arg2 (by decide), k0 _ main_arg2 (by decide), k4 _ main_arg3 (by decide), k3 _ main_arg3 (by decide), k2 _ main_arg3 (by decide), k1 _ main_arg3 (by decide), k0 _ main_arg3 (by decide), k4 _ main_arg4 (by decide), k3 _ main_arg4 (by decide), k2 _ main_arg4 (by decide), k1 _ main_arg4 (by decide), k0 _ main_arg4 (by decide)]

/-! ## All after the loop -/

/-- The result, of the last logarithms, the observed means and the arguments. -/
theorem exit_v214 : afterL postI V (Proc.devRef .tc main_v214) = result (total (V (Proc.devRef .tc main_v74_12)))
    (hd200 (cv200 (both (avg (take16 (V (Proc.devRef .tc main_arg0)) (V (Proc.devRef .tc main_arg11)))) (V (Proc.devRef .tc main_v3))) (V (Proc.devRef .tc main_arg1)) (V (Proc.devRef .tc main_arg2))) (V (Proc.devRef .tc main_arg3)) (V (Proc.devRef .tc main_arg4)))
    (hd199 (cv199 (succs (avg (take16 (V (Proc.devRef .tc main_arg0)) (V (Proc.devRef .tc main_arg11))))) (V (Proc.devRef .tc main_arg5)) (V (Proc.devRef .tc main_arg6))) (V (Proc.devRef .tc main_arg7)) (V (Proc.devRef .tc main_arg8))) := by
  simp only [afterL_cons, afterL_nil]
  rw [s12_v214, k11 _ main_v81 (by decide), k10 _ main_v81 (by decide), k9 _ main_v81 (by decide), k8 _ main_v81 (by decide), k7 _ main_v81 (by decide), s6_v81, k11 _ main_v146 (by decide), s10_v146, s89_v89, s1011_v152, k9 _ main_v85 (by decide), s8_v85, s7_v82,
    k7 _ main_v3 (by decide), k6 _ main_v3 (by decide), k6 _ main_arg0 (by decide), k6 _ main_arg11 (by decide),
    k9 _ main_arg1 (by decide), k8 _ main_arg1 (by decide), k7 _ main_arg1 (by decide), k6 _ main_arg1 (by decide), k9 _ main_arg2 (by decide), k8 _ main_arg2 (by decide), k7 _ main_arg2 (by decide), k6 _ main_arg2 (by decide), k9 _ main_arg3 (by decide), k8 _ main_arg3 (by decide), k7 _ main_arg3 (by decide), k6 _ main_arg3 (by decide), k9 _ main_arg4 (by decide), k8 _ main_arg4 (by decide), k7 _ main_arg4 (by decide), k6 _ main_arg4 (by decide),
    k11 _ main_arg5 (by decide), k10 _ main_arg5 (by decide), k9 _ main_arg5 (by decide), k8 _ main_arg5 (by decide), k7 _ main_arg5 (by decide), k6 _ main_arg5 (by decide), k11 _ main_arg6 (by decide), k10 _ main_arg6 (by decide), k9 _ main_arg6 (by decide), k8 _ main_arg6 (by decide), k7 _ main_arg6 (by decide), k6 _ main_arg6 (by decide), k11 _ main_arg7 (by decide), k10 _ main_arg7 (by decide), k9 _ main_arg7 (by decide), k8 _ main_arg7 (by decide), k7 _ main_arg7 (by decide), k6 _ main_arg7 (by decide), k11 _ main_arg8 (by decide), k10 _ main_arg8 (by decide), k9 _ main_arg8 (by decide), k8 _ main_arg8 (by decide), k7 _ main_arg8 (by decide), k6 _ main_arg8 (by decide)]

end Cert.Proof.RRead

end
-- ==== Proof.RStep.lean ====
/-
  One trip of the reference's loop: the log-sum-exp step.
-/
module

public import proofs.«01_k».proof.Proof.Heads
public import Idealize.ShloMosaic.Lib.DynamicIndex

@[expose] public section

noncomputable section

namespace Cert.Proof.RStep

open Idealize.ShloMosaic Idealize.ShloMosaic.TcCoe
open Cert.ReferenceIdeal Cert.ReferenceIdeal.Gen Cert.ReferenceIdeal.Value
open Cert.Proof.Crf Cert.Proof.Heads
open scoped BigOperators

/-! ## The page a counter names -/

/-- The matrix of a stack that a counter names. -/
def page (x : FVec Ideal S199x64x128 .f32) (q : IVec S_ 32) : FVec Ideal S64x128 .f32 :=
  shapeCast S64x128 (Host.dynamicSlice S1x64x128 x (fun k => (((![q, constantI S_ 32 0#32, constantI S_ 32 0#32] : Fin 3 → (⟨S_, .i32⟩ : BufTy).Contents (Elt Ideal))) k (Shape.Idx.first h_S_)).toInt) sliceFits_S199x64x128_S1x64x128) shapeCasts_S1x64x128_S64x128

/-- The row of a matrix that a counter names. -/
def line (x : FVec Ideal S199x128 .f32) (q : IVec S_ 32) : FVec Ideal S128 .f32 :=
  shapeCast S128 (Host.dynamicSlice S1x128 x (fun k => (((![q, constantI S_ 32 0#32] : Fin 2 → (⟨S_, .i32⟩ : BufTy).Contents (Elt Ideal))) k (Shape.Idx.first h_S_)).toInt) sliceFits_S199x128_S1x128) shapeCasts_S1x128_S128

/-- The matrix a counter names, entry by entry. -/
theorem page_at (x : FVec Ideal S199x64x128 .f32) {q : IVec S_ 32} (k : Fin 199) (hq : ∀ i, q i = BitVec.ofNat 32 k.val) (i : Fin 64) (d : Fin 128) :
    page x q (ix2 i d) = x (ix3 k i d) := by
  have hk := k.isLt
  have hoff : S199x64x128.Slices ![k.val, 0, 0] S1x64x128 := ⟨rfl, fun a => by fin_cases a <;> simp <;> omega⟩
  rw [page, Host.dynamicSlice_eq_extractStridedSlice S1x64x128 x _ ![k.val, 0, 0] _ hoff (fun a => by
    fin_cases a
    · show (q _).toInt = _; rw [hq]; exact toInt_ofNat_of_lt (by omega)
    · rfl
    · rfl)]
  pointwise []

/-- The row a counter names, entry by entry. -/
theorem line_at (x : FVec Ideal S199x128 .f32) {q : IVec S_ 32} (k : Fin 199) (hq : ∀ i, q i = BitVec.ofNat 32 k.val) (d : Fin 128) :
    line x q (ix1 d) = x (ix2 k d) := by
  have hk := k.isLt
  have hoff : S199x128.Slices ![k.val, 0] S1x128 := ⟨rfl, fun a => by fin_cases a <;> simp <;> omega⟩
  rw [line, Host.dynamicSlice_eq_extractStridedSlice S1x128 x _ ![k.val, 0] _ hoff (fun a => by
    fin_cases a
    · show (q _).toInt = _; rw [hq]; exact toInt_ofNat_of_lt (by omega)
    · rfl)]
  pointwise []

/-! ## The step's parts -/

/-- The rows of two matrices, each paired with each. -/
def pairs (x y : FVec Ideal S64x128 .f32) : FVec Ideal S4096x2x130 .f32 :=
  pd4096 (broadcastInDim S64x64x1x128 ![0, 1, 3] bcast_S64x64x128_S64x64x1x128_0_1_3 (broadcastInDim S64x64x128 ![0, 1, 2] bcast_S64x1x128_S64x64x128_0_1_2 (broadcastInDim S64x1x128 ![0, 2] bcast_S64x128_S64x1x128_0_2 x)))
    (broadcastInDim S64x64x1x128 ![0, 1, 3] bcast_S64x64x128_S64x64x1x128_0_1_3 (broadcastInDim S64x64x128 ![0, 1, 2] bcast_S1x64x128_S64x64x128_0_1_2 (broadcastInDim S1x64x128 ![1, 2] bcast_S64x128_S1x64x128_1_2 y)))

/-- All pairs of two matrices' rows, padded. -/
theorem pairs_at {x y : FVec Ideal S64x128 .f32} {u v : Fin 64 → Fin 128 → ℝ} (hx : ∀ i d, x (ix2 i d) = ((u i d : ℝ) : EReal))
    (hy : ∀ i d, y (ix2 i d) = ((v i d : ℝ) : EReal)) (p : Fin 4096) (c : Fin 2) (e : Fin 130) :
    pairs x y (ix3 p c e) = ((padR ((![u ⟨p.val / 64, div64 p⟩, v ⟨p.val % 64, mod64 p⟩] : Fin 2 → Fin 128 → ℝ) c) e : ℝ) : EReal) := by
  refine pd4096_at (x := fun i j => ![u i, v j]) (fun i j d => ?_) (fun i j d => ?_) p c e
  · pointwise []
    exact hx i d
  · pointwise []
    exact hy j d

/-- One row paired with each row of a matrix. -/
def spread (x : FVec Ideal S128 .f32) (y : FVec Ideal S64x128 .f32) : FVec Ideal S64x2x130 .f32 :=
  pd64 (broadcastInDim S64x1x128 ![0, 2] bcast_S64x128_S64x1x128_0_2 (broadcastInDim S64x128 ![1] bcast_S128_S64x128_1 x)) (broadcastInDim S64x1x128 ![0, 2] bcast_S64x128_S64x1x128_0_2 y)

/-- One row paired with each row of a matrix, padded. -/
theorem spread_at {x : FVec Ideal S128 .f32} {y : FVec Ideal S64x128 .f32} {u : Fin 128 → ℝ} {v : Fin 64 → Fin 128 → ℝ} (hx : ∀ d, x (ix1 d) = ((u d : ℝ) : EReal))
    (hy : ∀ i d, y (ix2 i d) = ((v i d : ℝ) : EReal)) (i : Fin 64) (c : Fin 2) (e : Fin 130) :
    spread x y (ix3 i c e) = ((padR ((![u, v i] : Fin 2 → Fin 128 → ℝ) c) e : ℝ) : EReal) := by
  refine pd64_at (x := fun i => ![u, v i]) (fun i d => ?_) (fun i d => ?_) i c e
  · pointwise []
    exact hx d
  · pointwise []
    exact hy i d

/-- The scores of all paths one step longer. -/
def smat (α : FVec Ideal S64 .f32) (t : FVec Ideal S4096 .f32) (e : FVec Ideal S64 .f32) : FVec Ideal S64x64 .f32 :=
  addf (addf (broadcastInDim S64x64 ![0, 1] bcast_S64x1_S64x64_0_1 (broadcastInDim S64x1 ![0] bcast_S64_S64x1_0 α)) (shapeCast S64x64 t shapeCasts_S4096_S64x64))
    (broadcastInDim S64x64 ![0, 1] bcast_S1x64_S64x64_0_1 (broadcastInDim S1x64 ![1] bcast_S64_S1x64_1 e))

/-- A pair of candidates among the 4096. -/
theorem pair_lt (i j : Fin 64) : i.val * 64 + j.val < 4096 := by omega

/-- The path scores are sums of three. -/
theorem smat_at {α : FVec Ideal S64 .f32} {t : FVec Ideal S4096 .f32} {e : FVec Ideal S64 .f32} {a f : Fin 64 → ℝ} {g : Fin 64 → Fin 64 → ℝ}
    (hα : ∀ i, α (ix1 i) = ((a i : ℝ) : EReal)) (ht : ∀ p : Fin 4096, t (ix1 p) = ((g ⟨p.val / 64, div64 p⟩ ⟨p.val % 64, mod64 p⟩ : ℝ) : EReal)) (he : ∀ i, e (ix1 i) = ((f i : ℝ) : EReal))
    (i j : Fin 64) : smat α t e (ix2 i j) = ((a i + g i j + f j : ℝ) : EReal) := by
  have h := ht ⟨i.val * 64 + j.val, pair_lt i j⟩
  have e1 : (⟨(i.val * 64 + j.val) / 64, div64 ⟨_, pair_lt i j⟩⟩ : Fin 64) = i := Fin.ext (by show (i.val * 64 + j.val) / 64 = i.val; omega)
  have e2 : (⟨(i.val * 64 + j.val) % 64, mod64 ⟨_, pair_lt i j⟩⟩ : Fin 64) = j := Fin.ext (by show (i.val * 64 + j.val) % 64 = j.val; omega)
  simp only [e1, e2] at h
  pointwise [smat]
  rw [h, hα, he]
  simp only [← EReal.coe_add]

/-- The largest entry of each column. -/
def top (y : FVec Ideal S64x64 .f32) : FVec Ideal S1x64 .f32 :=
  broadcastInDim S1x64 ![1] bcast_S64_S1x64_1 (Host.reduce FloatOps.maximumf y (constant S_ .f32 0xFF800000#32) reducesTo_S64x64_S64_d0 h_S_)

/-- The logarithm of the sum of the exponentials of each column, its largest entry `z` subtracted before and added after. -/
def lse (y : FVec Ideal S64x64 .f32) (z : FVec Ideal S1x64 .f32) : FVec Ideal S64 .f32 :=
  shapeCast S64 (addf (Host.log (broadcastInDim S1x64 ![1] bcast_S64_S1x64_1 (Host.reduceAdd (Host.exp (subf y (broadcastInDim S64x64 ![0, 1] bcast_S1x64_S64x64_0_1 z))) (constant S_ .f32 0x00000000#32) reducesTo_S64x64_S64_d0 h_S_))) z) shapeCasts_S1x64_S64

/-- The word of minus infinity. -/
theorem bot_bits : Ideal.ofBits .f32 4286578688#32 = ⊥ := by simp [Ideal.ofBits, Ideal.ieee]

/-- The logarithm of a positive real. -/
theorem log_coe {x : ℝ} (h : 0 < x) : Ideal.log ((x : ℝ) : EReal) = ((Real.log x : ℝ) : EReal) := if_neg (not_le.2 h)

/-- A maximum subtracted and added again, over the extended reals. -/
theorem lse_coe (f : Fin 64 → ℝ) (r : ℝ) : Ideal.log (∑ i, Ideal.exp (((f i : ℝ) : EReal) - ((r : ℝ) : EReal))) + ((r : ℝ) : EReal) = ((Real.log (∑ i, Real.exp (f i)) : ℝ) : EReal) := by
  have e : ∀ i, Ideal.exp (((f i : ℝ) : EReal) - ((r : ℝ) : EReal)) = ((Real.exp (f i - r) : ℝ) : EReal) := fun i => by rw [← EReal.coe_sub]; rfl
  simp only [e, Tree.coe_sum]
  rw [log_coe (Finset.sum_pos (fun i _ => Real.exp_pos _) Finset.univ_nonempty), ← EReal.coe_add, log_shift]

/-- Each column's log-sum-exp is the real one. -/
theorem lse_at {y : FVec Ideal S64x64 .f32} {f : Fin 64 → Fin 64 → ℝ} (hy : ∀ i j, y (ix2 i j) = ((f i j : ℝ) : EReal)) (j : Fin 64) :
    lse y (top y) (ix1 j) = ((Real.log (∑ i, Real.exp (f i j)) : ℝ) : EReal) := by
  have ht : ∃ r : ℝ, top y (ix2 0 j) = ((r : ℝ) : EReal) := by
    pointwise [top]
    simp only [hy]
    obtain ⟨i, _, e⟩ := Tree.fold_max Finset.univ Finset.univ_nonempty (fun k : Fin 64 => f k j) _ bot_bits
    exact ⟨_, e⟩
  obtain ⟨r, hr⟩ := ht
  generalize top y = z at hr ⊢
  pointwise [lse]
  simp only [hy, hr]
  exact lse_coe (fun i => f i j) r

/-! ## The step -/

variable (V0 : Valuation τ sig (Elt Ideal))

/-- A trip pairs all candidates of two neighbouring places, -/
theorem v226_eq : res_main_while0b_v226 V0 = pairs (page (V0 (Proc.devRef .tc main_v74_0)) (V0 (Proc.devRef .tc main_v74_11))) (page (V0 (Proc.devRef .tc main_v74_1)) (V0 (Proc.devRef .tc main_v74_11))) := rfl
/-- pairs the mean with the later ones, -/
theorem v289_eq : res_main_while0b_v289 V0 = spread (line (V0 (Proc.devRef .tc main_v74_2)) (V0 (Proc.devRef .tc main_v74_11))) (page (V0 (Proc.devRef .tc main_v74_1)) (V0 (Proc.devRef .tc main_v74_11))) := rfl
/-- scores the paths, -/
theorem v352_eq : res_main_while0b_v352 V0 = smat (V0 (Proc.devRef .tc main_v74_12))
    (hd4096 (cv4096 (res_main_while0b_v226 V0) (V0 (Proc.devRef .tc main_v74_4)) (V0 (Proc.devRef .tc main_v74_3))) (V0 (Proc.devRef .tc main_v74_5)) (V0 (Proc.devRef .tc main_v74_6)))
    (hd64 (cv64 (res_main_while0b_v289 V0) (V0 (Proc.devRef .tc main_v74_8)) (V0 (Proc.devRef .tc main_v74_7))) (V0 (Proc.devRef .tc main_v74_9)) (V0 (Proc.devRef .tc main_v74_10))) := rfl
/-- and sums them up. -/
theorem step_eq : step_main_v74_12 V0 = lse (res_main_while0b_v352 V0) (top (res_main_while0b_v352 V0)) := rfl

/-- What the loop carries before its trip `k`, of the numbers `D`. -/
structure Carry (D : Data) (k : ℕ) : Prop where
  prev : ∀ (t : Fin 199) i d, (V0 (Proc.devRef .tc main_v74_0) : FVec Ideal S199x64x128 .f32) (ix3 t i d) = ((D.cand t.castSucc i d : ℝ) : EReal)
  cur : ∀ (t : Fin 199) i d, (V0 (Proc.devRef .tc main_v74_1) : FVec Ideal S199x64x128 .f32) (ix3 t i d) = ((D.cand t.succ i d : ℝ) : EReal)
  feat : ∀ (t : Fin 199) d, (V0 (Proc.devRef .tc main_v74_2) : FVec Ideal S199x128 .f32) (ix2 t d) = ((mean D.obs t.succ d : ℝ) : EReal)
  t : IsWt D.t (V0 (Proc.devRef .tc main_v74_4)) (V0 (Proc.devRef .tc main_v74_3)) (V0 (Proc.devRef .tc main_v74_5)) (V0 (Proc.devRef .tc main_v74_6))
  e : IsWt D.e (V0 (Proc.devRef .tc main_v74_8)) (V0 (Proc.devRef .tc main_v74_7)) (V0 (Proc.devRef .tc main_v74_9)) (V0 (Proc.devRef .tc main_v74_10))
  ctr : ∀ i, (V0 (Proc.devRef .tc main_v74_11) : IVec S_ 32) i = BitVec.ofNat 32 k
  alpha : ∀ j, (V0 (Proc.devRef .tc main_v74_12) : FVec Ideal S64 .f32) (ix1 j) = ((alpha D k j : ℝ) : EReal)

variable {V0}

/-- A trip takes the logarithms a step further. -/
theorem step_at {D : Data} (k : Fin 199) (h : Carry V0 D k.val) (j : Fin 64) :
    (step_main_v74_12 V0 : FVec Ideal S64 .f32) (ix1 j) = ((Crf.alpha D (k.val + 1) j : ℝ) : EReal) := by
  have hp : ∀ i d, page (V0 (Proc.devRef .tc main_v74_0)) (V0 (Proc.devRef .tc main_v74_11)) (ix2 i d) = ((D.cand k.castSucc i d : ℝ) : EReal) :=
    fun i d => (page_at _ k h.ctr i d).trans (h.prev k i d)
  have hc : ∀ i d, page (V0 (Proc.devRef .tc main_v74_1)) (V0 (Proc.devRef .tc main_v74_11)) (ix2 i d) = ((D.cand k.succ i d : ℝ) : EReal) :=
    fun i d => (page_at _ k h.ctr i d).trans (h.cur k i d)
  have hf : ∀ d, line (V0 (Proc.devRef .tc main_v74_2)) (V0 (Proc.devRef .tc main_v74_11)) (ix1 d) = ((mean D.obs k.succ d : ℝ) : EReal) :=
    fun d => (line_at _ k h.ctr d).trans (h.feat k d)
  have hs : ∀ i j, res_main_while0b_v352 V0 (ix2 i j) = ((Crf.alpha D k.val i + tr D k i j + em D k.succ j : ℝ) : EReal) := fun i j => by
    rw [v352_eq]
    exact smat_at h.alpha (g := tr D k) (f := em D k.succ)
      (fun p => sc4096_at (x := fun p => ![D.cand k.castSucc ⟨p.val / 64, div64 p⟩, D.cand k.succ ⟨p.val % 64, mod64 p⟩])
        (fun p c e => by rw [v226_eq]; exact pairs_at hp hc p c e) h.t p)
      (fun j => sc64_at (x := fun j => ![mean D.obs k.succ, D.cand k.succ j]) (fun j c e => by rw [v289_eq]; exact spread_at hf hc j c e) h.e j) i j
  rw [step_eq]
  refine (lse_at hs j).trans ?_
  rw [Crf.alpha, dif_pos k.isLt]
  rfl

/-- What the loop carries before the next trip. -/
theorem carry_step {D : Data} (k : Fin 199) (h : Carry V0 D k.val) : Carry (STEP V0) D (k.val + 1) where
  prev := by rw [STEP_main_v74_0]; exact h.prev
  cur := by rw [STEP_main_v74_1]; exact h.cur
  feat := by rw [STEP_main_v74_2]; exact h.feat
  t := by rw [STEP_main_v74_3, STEP_main_v74_4, STEP_main_v74_5, STEP_main_v74_6]; exact h.t
  e := by rw [STEP_main_v74_7, STEP_main_v74_8, STEP_main_v74_9, STEP_main_v74_10]; exact h.e
  ctr i := by
    rw [STEP_main_v74_11]
    exact (congrArg (fun w : BitVec 32 => w + 1#32) (h.ctr i)).trans (BitVec.ofNat_add ..).symm
  alpha := by rw [STEP_main_v74_12]; exact step_at k h

/-- What it carries after any number of trips. -/
theorem carry_iter {D : Data} (h : Carry V0 D 0) : ∀ k, k ≤ 199 → Carry (STEP^[k] V0) D k
  | 0, _ => h
  | k + 1, hk => by
      rw [Function.iterate_succ_apply']
      exact carry_step ⟨k, hk⟩ (carry_iter h k (Nat.le_of_succ_le hk))

end Cert.Proof.RStep

end
-- ==== Proof.RVal.lean ====
/-
  The value of the reference: what it leaves is the score of the numbers its arguments hold.
-/
module

public import proofs.«01_k».proof.Proof.RRead
public import proofs.«01_k».proof.Proof.RStep

@[expose] public section

set_option maxRecDepth 8192
set_option maxHeartbeats 4000000

noncomputable section

namespace Cert.Proof.RVal

open Idealize.ShloMosaic Idealize.ShloMosaic.TcCoe Idealize.ShloMosaic.StableHlo
open Cert.ReferenceIdeal Cert.ReferenceIdeal.Gen Cert.ReferenceIdeal.Value
open Cert.Proof.Crf Cert.Proof.Heads Cert.Proof.RTake Cert.Proof.RRead Cert.Proof.RStep
open scoped BigOperators

/-! ## The parts of the terms, entry by entry -/

/-- The word of sixteen. -/
theorem sixteen_bits : Ideal.ofBits .f32 1098907648#32 = ((16 : ℝ) : EReal) := by
  simp [Ideal.ofBits, Ideal.ieee, -EReal.coe_mul]
  norm_num

/-- The mean of sixteen real rows. -/
theorem avg_at {x : FVec Ideal S200x16x128 .f32} {y : Fin 200 → Fin 16 → Fin 128 → ℝ} (h : ∀ t n d, x (ix3 t n d) = ((y t n d : ℝ) : EReal)) (t : Fin 200) (d : Fin 128) :
    avg x (ix2 t d) = ((mean y t d : ℝ) : EReal) := by
  pointwise [avg]
  simp only [h, Tree.coe_sum, sixteen_bits]
  rw [Ideal.div_coe (by norm_num), ← EReal.coe_mul, mean]
  exact congrArg _ (by ring)

/-- The first mean paired with the first candidates, padded. -/
theorem first_at {x : FVec Ideal S200x128 .f32} {y : FVec Ideal S200x64x128 .f32} {u : Fin 200 → Fin 128 → ℝ} {v : Fin 200 → Fin 64 → Fin 128 → ℝ}
    (hx : ∀ t d, x (ix2 t d) = ((u t d : ℝ) : EReal)) (hy : ∀ t i d, y (ix3 t i d) = ((v t i d : ℝ) : EReal)) (i : Fin 64) (c : Fin 2) (e : Fin 130) :
    first x y (ix3 i c e) = ((padR ((![u 0, v 0 i] : Fin 2 → Fin 128 → ℝ) c) e : ℝ) : EReal) := by
  refine pd64_at (x := fun i => ![u 0, v 0 i]) (fun i d => ?_) (fun i d => ?_) i c e
  · pointwise []
    exact hx 0 d
  · pointwise []
    exact hy 0 i d

/-- The two means paired, padded. -/
theorem both_at {x y : FVec Ideal S200x128 .f32} {u v : Fin 200 → Fin 128 → ℝ}
    (hx : ∀ t d, x (ix2 t d) = ((u t d : ℝ) : EReal)) (hy : ∀ t d, y (ix2 t d) = ((v t d : ℝ) : EReal)) (t : Fin 200) (c : Fin 2) (e : Fin 130) :
    both x y (ix3 t c e) = ((padR ((![u t, v t] : Fin 2 → Fin 128 → ℝ) c) e : ℝ) : EReal) := by
  refine pd200_at (x := fun t => ![u t, v t]) (fun t d => ?_) (fun t d => ?_) t c e
  · pointwise []
    exact hx t d
  · pointwise []
    exact hy t d

/-- Neighbouring means paired, padded. -/
theorem succs_at {x : FVec Ideal S200x128 .f32} {u : Fin 200 → Fin 128 → ℝ} (hx : ∀ t d, x (ix2 t d) = ((u t d : ℝ) : EReal)) (t : Fin 199) (c : Fin 2) (e : Fin 130) :
    succs x (ix3 t c e) = ((padR ((![u t.succ, u t.castSucc] : Fin 2 → Fin 128 → ℝ) c) e : ℝ) : EReal) := by
  refine pd199_at (x := fun t => ![u t.succ, u t.castSucc]) (fun t d => ?_) (fun t d => ?_) t c e
  · pointwise []
    refine Eq.trans (congrArg (fun q => x (ix2 q d)) (Fin.ext ?_)) (hx t.succ d)
    simp [Fin.val_succ, Nat.add_comm]
  · pointwise []
    exact hx t.castSucc d

/-- The log-sum-exp of real logarithms. -/
theorem total_at {α : FVec Ideal S64 .f32} {f : Fin 64 → ℝ} (h : ∀ j, α (ix1 j) = ((f j : ℝ) : EReal)) (i : S_.Idx) :
    total α i = ((Real.log (∑ j, Real.exp (f j)) : ℝ) : EReal) := by
  obtain ⟨j, _, e⟩ := Tree.fold_max Finset.univ Finset.univ_nonempty f _ bot_bits
  pointwise [total]
  simp only [h, e]
  exact lse_coe f _

/-- The result of real scores. -/
theorem result_at {f : FVec Ideal S_ .f32} {e : FVec Ideal S200 .f32} {t : FVec Ideal S199 .f32} {a : ℝ} {p : Fin 200 → ℝ} {q : Fin 199 → ℝ}
    (hf : ∀ i, f i = ((a : ℝ) : EReal)) (he : ∀ k, e (ix1 k) = ((p k : ℝ) : EReal)) (ht : ∀ k, t (ix1 k) = ((q k : ℝ) : EReal)) :
    result f e t = fun _ => ((a - ((∑ k, p k) + ∑ k, q k) : ℝ) : EReal) := by
  funext i
  pointwise [result]
  simp only [hf, he, ht, Tree.coe_sum, ← EReal.coe_add, ← EReal.coe_sub]

/-! ## The row means kept through the loop -/

variable {F : FTy → Type} [FloatOps F]

/-- A trip keeps the observed rows' means. -/
theorem body_v3 (V : Valuation τ sig (Elt F)) : afterL (F := F) bodyI V (Proc.devRef .tc main_v3) = V (Proc.devRef .tc main_v3) := by
  simp only [afterL_cons, afterL_nil]
  rw [after_of_writes_sub while0Ops0_7 _ while0Ops0_7_writes (by decide), after_of_writes_sub while0Ops0_6 _ while0Ops0_6_writes (by decide),
    after_of_writes_sub while0Ops0_5 _ while0Ops0_5_writes (by decide), after_of_writes_sub while0Ops0_4 _ while0Ops0_4_writes (by decide),
    after_of_writes_sub while0Ops0_3 _ while0Ops0_3_writes (by decide), after_of_writes_sub while0Ops0_2 _ while0Ops0_2_writes (by decide),
    after_of_writes_sub while0Ops0_1 _ while0Ops0_1_writes (by decide), after_of_writes_sub while0Ops0 _ while0Ops0_writes (by decide)]

/-- The loop's test keeps them as well. -/
theorem cond_v3 (V : Valuation τ sig (Elt F)) : after (condOps (F := F)) V (Proc.devRef .tc main_v3) = V (Proc.devRef .tc main_v3) :=
  after_of_writes_sub condOps V condOps_writes (by decide)

/-- So does any number of trips. -/
theorem atK_v3 (m : (ℓ : Loc nD τ sig) → Buf (Elt F) ℓ) (c : Dev nD) : ∀ k, atK m k c (Proc.devRef .tc main_v3) = entryContents preI m c (Proc.devRef .tc main_v3)
  | 0 => rfl
  | k + 1 => (body_v3 (after condOps (atK m k c))).trans ((cond_v3 _).trans (atK_v3 m c k))

/-! ## The value -/

/-- What is asked of the twelve arguments: the weights and the table are reals, the indices in range. -/
structure Good (D : Data) (V : Valuation τ sig (Elt Ideal)) : Prop where
  e : IsWt D.e (V (Proc.devRef .tc main_arg1)) (V (Proc.devRef .tc main_arg2)) (V (Proc.devRef .tc main_arg3)) (V (Proc.devRef .tc main_arg4))
  t : IsWt D.t (V (Proc.devRef .tc main_arg5)) (V (Proc.devRef .tc main_arg6)) (V (Proc.devRef .tc main_arg7)) (V (Proc.devRef .tc main_arg8))
  obs : ∀ t n d, take16 (F := Ideal) (V (Proc.devRef .tc main_arg0)) (V (Proc.devRef .tc main_arg9)) (ix3 t n d) = ((D.obs t n d : ℝ) : EReal)
  cand : ∀ t k d, take64 (F := Ideal) (V (Proc.devRef .tc main_arg0)) (V (Proc.devRef .tc main_arg10)) (ix3 t k d) = ((D.cand t k d : ℝ) : EReal)
  hid : ∀ t n d, take16 (F := Ideal) (V (Proc.devRef .tc main_arg0)) (V (Proc.devRef .tc main_arg11)) (ix3 t n d) = ((D.hid t n d : ℝ) : EReal)

/-- All matrices of a stack but the last. -/
theorem slice_lo (y : FVec Ideal S200x64x128 .f32) (t : Fin 199) (i : Fin 64) (d : Fin 128) :
    extractStridedSlice S199x64x128 ![0, 0, 0] y slices_S200x64x128_S199x64x128_0_0_0 (ix3 t i d) = y (ix3 t.castSucc i d) := by
  pointwise []
  rfl

/-- All matrices of a stack but the first. -/
theorem slice_hi (y : FVec Ideal S200x64x128 .f32) (t : Fin 199) (i : Fin 64) (d : Fin 128) :
    extractStridedSlice S199x64x128 ![1, 0, 0] y slices_S200x64x128_S199x64x128_1_0_0 (ix3 t i d) = y (ix3 t.succ i d) := by
  pointwise []
  exact congrArg (fun q => y (ix3 q i d)) (Fin.ext (by simp [Fin.val_succ, Nat.add_comm]))

/-- All rows but the first. -/
theorem slice_row (x : FVec Ideal S200x128 .f32) (t : Fin 199) (d : Fin 128) :
    extractStridedSlice S199x128 ![1, 0] x slices_S200x128_S199x128_1_0 (ix2 t d) = x (ix2 t.succ d) := by
  pointwise []
  exact congrArg (fun q => x (ix2 q d)) (Fin.ext (by simp [Fin.val_succ, Nat.add_comm]))

variable {D : Data} {V : Valuation τ sig (Elt Ideal)}

/-- What the loop carries at its entry. -/
theorem carry_entry (h : Good D V) : Carry (afterL preI V) D 0 where
  prev t i d := by rw [entry_0]; exact (slice_lo _ t i d).trans (h.cand t.castSucc i d)
  cur t i d := by rw [entry_1]; exact (slice_hi _ t i d).trans (h.cand t.succ i d)
  feat t d := by rw [entry_2]; exact (slice_row _ t d).trans (avg_at h.obs t.succ d)
  t := by rw [entry_3, entry_4, entry_5, entry_6]; exact h.t
  e := by rw [entry_7, entry_8, entry_9, entry_10]; exact h.e
  ctr i := by rw [entry_11]; rfl
  alpha j := by
    rw [entry_12]
    exact sc64_at (x := fun j => ![mean D.obs 0, D.cand 0 j]) (fun j c e => first_at (avg_at h.obs) h.cand j c e) h.e j

/-- What the stretches after the loop leave, of the last logarithms, the row means and the arguments. -/
theorem exit_at (h : Good D V) (ha : ∀ j, (V (Proc.devRef .tc main_v74_12) : FVec Ideal S64 .f32) (ix1 j) = ((Crf.alpha D 199 j : ℝ) : EReal))
    (hv : ∀ t d, (V (Proc.devRef .tc main_v3) : FVec Ideal S200x128 .f32) (ix2 t d) = ((mean D.obs t d : ℝ) : EReal)) :
    afterL postI V (Proc.devRef .tc main_v214) = fun _ => ((score D : ℝ) : EReal) := by
  rw [exit_v214]
  have h1 := total_at ha
  have h2 := sc200_at (x := fun t => ![mean D.hid t, mean D.obs t]) (both_at (avg_at h.hid) hv) h.e
  have h3 := sc199_at (x := fun t => ![mean D.hid t.succ, mean D.hid t.castSucc]) (succs_at (avg_at h.hid)) h.t
  refine (result_at h1 h2 h3).trans ?_
  rw [log_alpha]
  rfl

variable (m : (ℓ : Loc nD τ sig) → Buf (Elt Ideal) ℓ) (c : Dev nD)

/-- The numbers a device's arguments hold. -/
abbrev dat : Data := Args.data (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10)) (m ((c.tc : Thread nD τ).loc main_arg11))

/-- The arguments are as asked whenever the buffers hold what they held at the launch. -/
theorem good_of (h : Good (dat m c) (launchContents m c)) (hk : ∀ r : Ref sig .tc, r ∉ Ref.written → V (Proc.devRef .tc r) = m ((c.tc : Thread nD τ).loc r)) : Good (dat m c) V where
  e := by rw [hk main_arg1 (by decide), hk main_arg2 (by decide), hk main_arg3 (by decide), hk main_arg4 (by decide)]; exact h.e
  t := by rw [hk main_arg5 (by decide), hk main_arg6 (by decide), hk main_arg7 (by decide), hk main_arg8 (by decide)]; exact h.t
  obs := by rw [hk main_arg0 (by decide), hk main_arg9 (by decide)]; exact h.obs
  cand := by rw [hk main_arg0 (by decide), hk main_arg10 (by decide)]; exact h.cand
  hid := by rw [hk main_arg0 (by decide), hk main_arg11 (by decide)]; exact h.hid

/-- After `k` trips the logarithms are those of `k` steps, -/
theorem alpha_after (h : Good (dat m c) (launchContents m c)) (k : ℕ) (hk : k ≤ 199) (j : Fin 64) :
    (after condOps (atK m k c) (Proc.devRef .tc main_v74_12) : FVec Ideal S64 .f32) (ix1 j) = ((Crf.alpha (dat m c) k j : ℝ) : EReal) := by
  rw [(cond_keeps (atK m k c) main_v74_12 (by decide)).trans (atK_agree m c k main_v74_12 (by decide))]
  exact (carry_iter (carry_entry h) k hk).alpha j

/-- the row means are the observed rows', -/
theorem means_after (h : Good (dat m c) (launchContents m c)) (k : ℕ) (t : Fin 200) (d : Fin 128) :
    (after condOps (atK m k c) (Proc.devRef .tc main_v3) : FVec Ideal S200x128 .f32) (ix2 t d) = ((mean (dat m c).obs t d : ℝ) : EReal) := by
  rw [cond_v3, atK_v3, entryContents, entry_v3]
  exact avg_at h.obs t d

/-- and the arguments are what they were. -/
theorem args_after (k : ℕ) (r : Ref sig .tc) (hr : r ∉ Ref.written) : after condOps (atK m k c) (Proc.devRef .tc r) = m ((c.tc : Thread nD τ).loc r) :=
  (after_of_writes_sub condOps _ condOps_writes (Ref.notW hr (by intro x hx; simp only [Ref.written, List.mem_append]; tauto))).trans (Ref.keep_atK m c r hr k)

/-- The reference's result is the score. -/
theorem out (h : Good (dat m c) (launchContents m c)) :
    finalContents condOps preI bodyI postI 199 m c (Proc.devRef .tc main_v214) = fun _ => ((score (dat m c) : ℝ) : EReal) :=
  exit_at (V := after condOps (atK m 199 c)) (good_of m c h (args_after m c 199)) (alpha_after m c h 199 le_rfl) (means_after m c h 199)

end Cert.Proof.RVal

end
-- ==== Proof.Value.lean ====
/-
  The kernel's program and the reference leave the same result.
-/
module

public import proofs.«01_k».proof.Proof.KOut
public import proofs.«01_k».proof.Proof.RVal

@[expose] public section

noncomputable section

namespace Cert.Proof.Value

open Idealize.ShloMosaic Idealize.ShloMosaic.TcCoe Idealize.ShloMosaic.StableHlo Idealize.SL.Sem
open Cert.Proof.Heads

/-- The weights read off finite arrays are what the arrays hold. -/
theorem isWt {a : FVec Ideal Cert.ReferenceIdeal.S1x2x3 .f32} {b : FVec Ideal Cert.ReferenceIdeal.S1 .f32} {w : FVec Ideal Cert.ReferenceIdeal.S1x128 .f32}
    {bl : FVec Ideal Cert.ReferenceIdeal.S1 .f32} (ha : Pre.Fin' a) (hb : Pre.Fin' b) (hw : Pre.Fin' w) (hl : Pre.Fin' bl) : IsWt (Args.wt a b w bl) a b w bl :=
  ⟨fun _ _ => Args.real_fin ha _, Args.real_fin hb _, fun _ => Args.real_fin hw _, Args.real_fin hl _⟩

section
open Cert.ReferenceIdeal

/-- What the precondition asks of the reference's launch memory makes its arguments as its value asks. -/
theorem good (m : (ℓ : Loc nD τ sig) → Buf (Elt Ideal) ℓ) (c : Dev nD)
    (h : Cert.Pre_in_range.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) = fun _ => 1#1) : RVal.Good (RVal.dat m c) (launchContents m c) := by
  obtain ⟨⟨r9, r10, r11⟩, h0, h1, h2, h3, h4, h5, h6, h7, h8⟩ := Pre.of_fn _ _ _ _ _ _ _ _ _ _ _ _ h
  exact ⟨isWt h1 h2 h3 h4, isWt h5 h6 h7 h8,
    fun t n d => (RTake.take16_at _ r9 t n d).trans (Args.real_fin h0 _),
    fun t n d => (RTake.take64_at _ r10 t n d).trans (Args.real_fin h0 _),
    fun t n d => (RTake.take16_at _ r11 t n d).trans (Args.real_fin h0 _)⟩

end

/-- The kernel's program and the reference, at the extended reals, from memories with the same arguments: both run, keep them, and
end with the same result, the negative log-likelihood of the numbers the arguments hold. -/
theorem algebraic : Cert.algebraic_KernelIdeal_ReferenceIdeal := fun m g m' g' h e => by
  refine ⟨fun c _ => ((Crf.score (KOut.dat m c) : ℝ) : EReal), ?_, ?_⟩
  · exact (θ_run (Cert.KernelIdeal.defs (F := Ideal)) _ _).mono
      (fun r hr c => ⟨(hr.1 c (Proc.devRef .tc Cert.KernelIdeal.main_v6) (by decide)).trans (KOut.out c h), Frames.kept m r.2.mem c (hr.1 c)⟩)
      (Run.run_main m g (Frames.okIx m h))
  · refine (θ_run (Cert.ReferenceIdeal.defs (F := Ideal)) _ _).mono (fun r hr c => ⟨(hr c).1.trans ?_, (hr c).2⟩) (Ref.run (F := Ideal) m' g')
    obtain ⟨e0, e1, e2, e3, e4, e5, e6, e7, e8, e9, e10, e11⟩ := e c
    have hd : RVal.dat m' c = KOut.dat m c := by
      unfold RVal.dat KOut.dat
      rw [e0, e1, e2, e3, e4, e5, e6, e7, e8, e9, e10, e11]
    refine (RVal.out m' c (good m' c ?_)).trans (congrArg (fun d => fun _ => ((Crf.score d : ℝ) : EReal)) hd)
    rw [e0, e1, e2, e3, e4, e5, e6, e7, e8, e9, e10, e11]
    exact h c

end Cert.Proof.Value

end
-- ==== Proof.lean ====
/-
  The proof of `Cert.Claim` (proofs.«01_k».proof.Defs). The pieces: Tile, the gather that one tile of the SparseCore does;
  Body and Region, the TensorCore call; Launch and RunAll, the whole program from launch to end; Pre, what the precondition
  says; Frames and Ref, the frames; Crf, the mathematics over the reals; Tree, KTree, KVal, BodyVal and KOut, the value of the kernel's
  program; Heads, RStep, RTake, RRead and RVal, the value of the reference; Value, that the two are equal.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Ref
public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_in_range.Gen.facts,
    Frames.frame_bits, Frames.frame_ideal, Ref.frame, trivial, Value.algebraic⟩

end Cert.Proof

end
